-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_KeyVal (m : (ℓ : Loc Cert.KeyVal.nD Cert.KeyVal.τ Cert.KeyVal.sig) → Buf (Elt Bits) ℓ) : Prop :=
  True

def Pre_KeyValIdeal (m : (ℓ : Loc Cert.KeyValIdeal.nD Cert.KeyValIdeal.τ Cert.KeyValIdeal.sig) → Buf (Elt Ideal) ℓ) : Prop :=
  True

def Pre_KeyValRefIdeal (m : (ℓ : Loc Cert.KeyValRefIdeal.nD Cert.KeyValRefIdeal.τ Cert.KeyValRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_KeyVal [hKeyVal : Cert.KeyVal.Facts] : Prop :=
  ∀ (m : (ℓ : Loc Cert.KeyVal.nD Cert.KeyVal.τ Cert.KeyVal.sig) → Buf (Elt Bits) ℓ) (g : Dev Cert.KeyVal.nD → PrngReg), Pre_KeyVal m →
    θ_run (Cert.KeyVal.defs (F := Bits)) (onTc (τ := Cert.KeyVal.τ) (Cert.KeyVal.main (F := Bits))) ⟨m, fun _ => 0, g⟩ (fun r => (∀ c : Dev Cert.KeyVal.nD,
      r.2.mem ((c.tc : Thread Cert.KeyVal.nD Cert.KeyVal.τ).loc Cert.KeyVal.main_arg0) = m ((c.tc : Thread Cert.KeyVal.nD Cert.KeyVal.τ).loc Cert.KeyVal.main_arg0)
      ∧ r.2.mem ((c.tc : Thread Cert.KeyVal.nD Cert.KeyVal.τ).loc Cert.KeyVal.main_arg1) = m ((c.tc : Thread Cert.KeyVal.nD Cert.KeyVal.τ).loc Cert.KeyVal.main_arg1)
      ∧ r.2.mem ((c.tc : Thread Cert.KeyVal.nD Cert.KeyVal.τ).loc Cert.KeyVal.main_arg2) = m ((c.tc : Thread Cert.KeyVal.nD Cert.KeyVal.τ).loc Cert.KeyVal.main_arg2)
      ∧ r.2.mem ((c.tc : Thread Cert.KeyVal.nD Cert.KeyVal.τ).loc Cert.KeyVal.main_arg3) = m ((c.tc : Thread Cert.KeyVal.nD Cert.KeyVal.τ).loc Cert.KeyVal.main_arg3)
      ∧ r.2.mem ((c.tc : Thread Cert.KeyVal.nD Cert.KeyVal.τ).loc Cert.KeyVal.main_arg4) = m ((c.tc : Thread Cert.KeyVal.nD Cert.KeyVal.τ).loc Cert.KeyVal.main_arg4))
      ∧ r.2.sem = fun _ => 0)

def quiescent_KeyValIdeal [hKeyValIdeal : Cert.KeyValIdeal.Facts] : Prop :=
  ∀ (m : (ℓ : Loc Cert.KeyValIdeal.nD Cert.KeyValIdeal.τ Cert.KeyValIdeal.sig) → Buf (Elt Ideal) ℓ) (g : Dev Cert.KeyValIdeal.nD → PrngReg), Pre_KeyValIdeal m →
    θ_run (Cert.KeyValIdeal.defs (F := Ideal)) (onTc (τ := Cert.KeyValIdeal.τ) (Cert.KeyValIdeal.main (F := Ideal))) ⟨m, fun _ => 0, g⟩ (fun r => (∀ c : Dev Cert.KeyValIdeal.nD,
      r.2.mem ((c.tc : Thread Cert.KeyValIdeal.nD Cert.KeyValIdeal.τ).loc Cert.KeyValIdeal.main_arg0) = m ((c.tc : Thread Cert.KeyValIdeal.nD Cert.KeyValIdeal.τ).loc Cert.KeyValIdeal.main_arg0)
      ∧ r.2.mem ((c.tc : Thread Cert.KeyValIdeal.nD Cert.KeyValIdeal.τ).loc Cert.KeyValIdeal.main_arg1) = m ((c.tc : Thread Cert.KeyValIdeal.nD Cert.KeyValIdeal.τ).loc Cert.KeyValIdeal.main_arg1)
      ∧ r.2.mem ((c.tc : Thread Cert.KeyValIdeal.nD Cert.KeyValIdeal.τ).loc Cert.KeyValIdeal.main_arg2) = m ((c.tc : Thread Cert.KeyValIdeal.nD Cert.KeyValIdeal.τ).loc Cert.KeyValIdeal.main_arg2)
      ∧ r.2.mem ((c.tc : Thread Cert.KeyValIdeal.nD Cert.KeyValIdeal.τ).loc Cert.KeyValIdeal.main_arg3) = m ((c.tc : Thread Cert.KeyValIdeal.nD Cert.KeyValIdeal.τ).loc Cert.KeyValIdeal.main_arg3)
      ∧ r.2.mem ((c.tc : Thread Cert.KeyValIdeal.nD Cert.KeyValIdeal.τ).loc Cert.KeyValIdeal.main_arg4) = m ((c.tc : Thread Cert.KeyValIdeal.nD Cert.KeyValIdeal.τ).loc Cert.KeyValIdeal.main_arg4))
      ∧ r.2.sem = fun _ => 0)

def quiescent_KeyValRefIdeal [hKeyValRefIdeal : Cert.KeyValRefIdeal.Facts] : Prop :=
  ∀ (m : (ℓ : Loc Cert.KeyValRefIdeal.nD Cert.KeyValRefIdeal.τ Cert.KeyValRefIdeal.sig) → Buf (Elt Ideal) ℓ) (g : Dev Cert.KeyValRefIdeal.nD → PrngReg), Pre_KeyValRefIdeal m →
    θ_run (Cert.KeyValRefIdeal.defs (F := Ideal)) (onTc (τ := Cert.KeyValRefIdeal.τ) (Cert.KeyValRefIdeal.main (F := Ideal))) ⟨m, fun _ => 0, g⟩ (fun r => (∀ c : Dev Cert.KeyValRefIdeal.nD,
      r.2.mem ((c.tc : Thread Cert.KeyValRefIdeal.nD Cert.KeyValRefIdeal.τ).loc Cert.KeyValRefIdeal.main_arg0) = m ((c.tc : Thread Cert.KeyValRefIdeal.nD Cert.KeyValRefIdeal.τ).loc Cert.KeyValRefIdeal.main_arg0)
      ∧ r.2.mem ((c.tc : Thread Cert.KeyValRefIdeal.nD Cert.KeyValRefIdeal.τ).loc Cert.KeyValRefIdeal.main_arg1) = m ((c.tc : Thread Cert.KeyValRefIdeal.nD Cert.KeyValRefIdeal.τ).loc Cert.KeyValRefIdeal.main_arg1)
      ∧ r.2.mem ((c.tc : Thread Cert.KeyValRefIdeal.nD Cert.KeyValRefIdeal.τ).loc Cert.KeyValRefIdeal.main_arg2) = m ((c.tc : Thread Cert.KeyValRefIdeal.nD Cert.KeyValRefIdeal.τ).loc Cert.KeyValRefIdeal.main_arg2)
      ∧ r.2.mem ((c.tc : Thread Cert.KeyValRefIdeal.nD Cert.KeyValRefIdeal.τ).loc Cert.KeyValRefIdeal.main_arg3) = m ((c.tc : Thread Cert.KeyValRefIdeal.nD Cert.KeyValRefIdeal.τ).loc Cert.KeyValRefIdeal.main_arg3)
      ∧ r.2.mem ((c.tc : Thread Cert.KeyValRefIdeal.nD Cert.KeyValRefIdeal.τ).loc Cert.KeyValRefIdeal.main_arg4) = m ((c.tc : Thread Cert.KeyValRefIdeal.nD Cert.KeyValRefIdeal.τ).loc Cert.KeyValRefIdeal.main_arg4))
      ∧ r.2.sem = fun _ => 0)

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v1_0)) (v1 : (c : Dev Cert.InProjIdeal.nD) → Buf (Elt Ideal) ((c.tc : Thread Cert.InProjIdeal.nD Cert.InProjIdeal.τ).loc Cert.InProjIdeal.main_v1_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1_0) = v0 c
          ∧ r.2.mem ((c.tc : Thread Cert.InProjIdeal.nD Cert.InProjIdeal.τ).loc Cert.InProjIdeal.main_v1_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v14) = v0 c
          ∧ r.2.mem ((c.tc : Thread Cert.InRefIdeal.nD Cert.InRefIdeal.τ).loc Cert.InRefIdeal.main_v29) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_v44) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v8) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v38)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v38) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v37) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Query_QueryIdeal : Prop :=
  IdealRules.named_const.Statement Cert.QueryIdeal.κ "inv_192" .f32 0x3BAAAAAB#32 ((192⁻¹ : ℝ) : EReal)

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v55)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v55) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v82) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_KeyVal_KeyValIdeal : Prop :=
  IdealRules.named_const.Statement Cert.KeyValIdeal.κ "inv_192" .f32 0x3BAAAAAB#32 ((192⁻¹ : ℝ) : EReal)

def algebraic_KeyValIdeal_KeyValRefIdeal [hKeyValIdeal : Cert.KeyValIdeal.Facts] [hKeyValRefIdeal : Cert.KeyValRefIdeal.Facts] : Prop :=
  ∀ (m : (ℓ : Loc Cert.KeyValIdeal.nD Cert.KeyValIdeal.τ Cert.KeyValIdeal.sig) → Buf (Elt Ideal) ℓ) (g : Dev Cert.KeyValIdeal.nD → PrngReg)
    (m' : (ℓ : Loc Cert.KeyValRefIdeal.nD Cert.KeyValRefIdeal.τ Cert.KeyValRefIdeal.sig) → Buf (Elt Ideal) ℓ) (g' : Dev Cert.KeyValRefIdeal.nD → PrngReg), Pre_KeyValIdeal m →
    (∀ c : Dev Cert.KeyValIdeal.nD,
      m' ((c.tc : Thread Cert.KeyValRefIdeal.nD Cert.KeyValRefIdeal.τ).loc Cert.KeyValRefIdeal.main_arg0) = m ((c.tc : Thread Cert.KeyValIdeal.nD Cert.KeyValIdeal.τ).loc Cert.KeyValIdeal.main_arg0)
      ∧ m' ((c.tc : Thread Cert.KeyValRefIdeal.nD Cert.KeyValRefIdeal.τ).loc Cert.KeyValRefIdeal.main_arg1) = m ((c.tc : Thread Cert.KeyValIdeal.nD Cert.KeyValIdeal.τ).loc Cert.KeyValIdeal.main_arg1)
      ∧ m' ((c.tc : Thread Cert.KeyValRefIdeal.nD Cert.KeyValRefIdeal.τ).loc Cert.KeyValRefIdeal.main_arg2) = m ((c.tc : Thread Cert.KeyValIdeal.nD Cert.KeyValIdeal.τ).loc Cert.KeyValIdeal.main_arg2)
      ∧ m' ((c.tc : Thread Cert.KeyValRefIdeal.nD Cert.KeyValRefIdeal.τ).loc Cert.KeyValRefIdeal.main_arg3) = m ((c.tc : Thread Cert.KeyValIdeal.nD Cert.KeyValIdeal.τ).loc Cert.KeyValIdeal.main_arg3)
      ∧ m' ((c.tc : Thread Cert.KeyValRefIdeal.nD Cert.KeyValRefIdeal.τ).loc Cert.KeyValRefIdeal.main_arg4) = m ((c.tc : Thread Cert.KeyValIdeal.nD Cert.KeyValIdeal.τ).loc Cert.KeyValIdeal.main_arg4)) →
    ∃ (v0 : (c : Dev Cert.KeyValIdeal.nD) → Buf (Elt Ideal) ((c.tc : Thread Cert.KeyValIdeal.nD Cert.KeyValIdeal.τ).loc Cert.KeyValIdeal.main_v57_0)) (v1 : (c : Dev Cert.KeyValIdeal.nD) → Buf (Elt Ideal) ((c.tc : Thread Cert.KeyValIdeal.nD Cert.KeyValIdeal.τ).loc Cert.KeyValIdeal.main_v57_1)),
      θ_run (Cert.KeyValIdeal.defs (F := Ideal)) (onTc (τ := Cert.KeyValIdeal.τ) (Cert.KeyValIdeal.main (F := Ideal))) ⟨m, fun _ => 0, g⟩ (fun r => ∀ c : Dev Cert.KeyValIdeal.nD,
          r.2.mem ((c.tc : Thread Cert.KeyValIdeal.nD Cert.KeyValIdeal.τ).loc Cert.KeyValIdeal.main_v57_0) = v0 c
          ∧ r.2.mem ((c.tc : Thread Cert.KeyValIdeal.nD Cert.KeyValIdeal.τ).loc Cert.KeyValIdeal.main_v57_1) = v1 c
          ∧ r.2.mem ((c.tc : Thread Cert.KeyValIdeal.nD Cert.KeyValIdeal.τ).loc Cert.KeyValIdeal.main_arg0) = m ((c.tc : Thread Cert.KeyValIdeal.nD Cert.KeyValIdeal.τ).loc Cert.KeyValIdeal.main_arg0)
          ∧ r.2.mem ((c.tc : Thread Cert.KeyValIdeal.nD Cert.KeyValIdeal.τ).loc Cert.KeyValIdeal.main_arg1) = m ((c.tc : Thread Cert.KeyValIdeal.nD Cert.KeyValIdeal.τ).loc Cert.KeyValIdeal.main_arg1)
          ∧ r.2.mem ((c.tc : Thread Cert.KeyValIdeal.nD Cert.KeyValIdeal.τ).loc Cert.KeyValIdeal.main_arg2) = m ((c.tc : Thread Cert.KeyValIdeal.nD Cert.KeyValIdeal.τ).loc Cert.KeyValIdeal.main_arg2)
          ∧ r.2.mem ((c.tc : Thread Cert.KeyValIdeal.nD Cert.KeyValIdeal.τ).loc Cert.KeyValIdeal.main_arg3) = m ((c.tc : Thread Cert.KeyValIdeal.nD Cert.KeyValIdeal.τ).loc Cert.KeyValIdeal.main_arg3)
          ∧ r.2.mem ((c.tc : Thread Cert.KeyValIdeal.nD Cert.KeyValIdeal.τ).loc Cert.KeyValIdeal.main_arg4) = m ((c.tc : Thread Cert.KeyValIdeal.nD Cert.KeyValIdeal.τ).loc Cert.KeyValIdeal.main_arg4))
      ∧ θ_run (Cert.KeyValRefIdeal.defs (F := Ideal)) (onTc (τ := Cert.KeyValRefIdeal.τ) (Cert.KeyValRefIdeal.main (F := Ideal))) ⟨m', fun _ => 0, g'⟩ (fun r => ∀ c : Dev Cert.KeyValRefIdeal.nD,
          r.2.mem ((c.tc : Thread Cert.KeyValRefIdeal.nD Cert.KeyValRefIdeal.τ).loc Cert.KeyValRefIdeal.main_v86) = v0 c
          ∧ r.2.mem ((c.tc : Thread Cert.KeyValRefIdeal.nD Cert.KeyValRefIdeal.τ).loc Cert.KeyValRefIdeal.main_v89) = v1 c
          ∧ r.2.mem ((c.tc : Thread Cert.KeyValRefIdeal.nD Cert.KeyValRefIdeal.τ).loc Cert.KeyValRefIdeal.main_arg0) = m' ((c.tc : Thread Cert.KeyValRefIdeal.nD Cert.KeyValRefIdeal.τ).loc Cert.KeyValRefIdeal.main_arg0)
          ∧ r.2.mem ((c.tc : Thread Cert.KeyValRefIdeal.nD Cert.KeyValRefIdeal.τ).loc Cert.KeyValRefIdeal.main_arg1) = m' ((c.tc : Thread Cert.KeyValRefIdeal.nD Cert.KeyValRefIdeal.τ).loc Cert.KeyValRefIdeal.main_arg1)
          ∧ r.2.mem ((c.tc : Thread Cert.KeyValRefIdeal.nD Cert.KeyValRefIdeal.τ).loc Cert.KeyValRefIdeal.main_arg2) = m' ((c.tc : Thread Cert.KeyValRefIdeal.nD Cert.KeyValRefIdeal.τ).loc Cert.KeyValRefIdeal.main_arg2)
          ∧ r.2.mem ((c.tc : Thread Cert.KeyValRefIdeal.nD Cert.KeyValRefIdeal.τ).loc Cert.KeyValRefIdeal.main_arg3) = m' ((c.tc : Thread Cert.KeyValRefIdeal.nD Cert.KeyValRefIdeal.τ).loc Cert.KeyValRefIdeal.main_arg3)
          ∧ r.2.mem ((c.tc : Thread Cert.KeyValRefIdeal.nD Cert.KeyValRefIdeal.τ).loc Cert.KeyValRefIdeal.main_arg4) = m' ((c.tc : Thread Cert.KeyValRefIdeal.nD Cert.KeyValRefIdeal.τ).loc Cert.KeyValRefIdeal.main_arg4))

def Claim : Prop :=
  ∃ (hInProj : Cert.InProj.Facts) (hInProjIdeal : Cert.InProjIdeal.Facts) (hInRefIdeal : Cert.InRefIdeal.Facts) (hMerge : Cert.Merge.Facts) (hMergeIdeal : Cert.MergeIdeal.Facts) (hMergeRefIdeal : Cert.MergeRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hAttn : Cert.Attn.Facts) (hAttnIdeal : Cert.AttnIdeal.Facts) (hAttnRefIdeal : Cert.AttnRefIdeal.Facts) (hQuery : Cert.Query.Facts) (hQueryIdeal : Cert.QueryIdeal.Facts) (hQueryRefIdeal : Cert.QueryRefIdeal.Facts) (hKeyVal : Cert.KeyVal.Facts) (hKeyValIdeal : Cert.KeyValIdeal.Facts) (hKeyValRefIdeal : Cert.KeyValRefIdeal.Facts) (hPre_finite_scores : Cert.Pre_finite_scores.Facts),
    quiescent_InProj (hInProj := hInProj)
    ∧ quiescent_InProjIdeal (hInProjIdeal := hInProjIdeal)
    ∧ quiescent_InRefIdeal (hInRefIdeal := hInRefIdeal)
    ∧ quiescent_Merge (hMerge := hMerge)
    ∧ quiescent_MergeIdeal (hMergeIdeal := hMergeIdeal)
    ∧ quiescent_MergeRefIdeal (hMergeRefIdeal := hMergeRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Query (hQuery := hQuery)
    ∧ quiescent_QueryIdeal (hQueryIdeal := hQueryIdeal)
    ∧ quiescent_QueryRefIdeal (hQueryRefIdeal := hQueryRefIdeal)
    ∧ quiescent_KeyVal (hKeyVal := hKeyVal)
    ∧ quiescent_KeyValIdeal (hKeyValIdeal := hKeyValIdeal)
    ∧ quiescent_KeyValRefIdeal (hKeyValRefIdeal := hKeyValRefIdeal)
    ∧ preserves_InProj_InProjIdeal
    ∧ algebraic_InProjIdeal_InRefIdeal (hInProjIdeal := hInProjIdeal) (hInRefIdeal := hInRefIdeal)
    ∧ preserves_Merge_MergeIdeal
    ∧ algebraic_MergeIdeal_MergeRefIdeal (hMergeIdeal := hMergeIdeal) (hMergeRefIdeal := hMergeRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Query_QueryIdeal
    ∧ algebraic_QueryIdeal_QueryRefIdeal (hQueryIdeal := hQueryIdeal) (hQueryRefIdeal := hQueryRefIdeal)
    ∧ preserves_KeyVal_KeyValIdeal
    ∧ algebraic_KeyValIdeal_KeyValRefIdeal (hKeyValIdeal := hKeyValIdeal) (hKeyValRefIdeal := hKeyValRefIdeal)
-- ==== Pre_finite_scores.lean ====
abbrev S4x4096x16x192 : Shape := ⟨4, ![4, 4096, 16, 192]⟩
abbrev S4x4096x16x128 : Shape := ⟨4, ![4, 4096, 16, 128]⟩
abbrev S16x16x192 : Shape := ⟨3, ![16, 16, 192]⟩
abbrev S16x16x128 : Shape := ⟨3, ![16, 16, 128]⟩
abbrev S_ : Shape := ⟨0, ![]⟩

class Facts : Prop where
  bcast_S_S4x4096x16x192 : S_.BroadcastsInDim S4x4096x16x192 (![] : Fin 0 → Fin S4x4096x16x192.rank)
  bcast_S_S16x16x192 : S_.BroadcastsInDim S16x16x192 (![] : Fin 0 → Fin S16x16x192.rank)

variable [Facts]

def fn {F : FTy → Type} [FloatOps F] (main_arg0 : FVec F S4x4096x16x192 .f32) (main_arg1 : FVec F S4x4096x16x192 .f32) (main_arg2 : FVec F S4x4096x16x128 .f32) (main_arg3 : FVec F S16x16x192 .f32) (main_arg4 : FVec F S16x16x128 .f32) : IVec S4x4096x16x192 1 × IVec S4x4096x16x192 1 × IVec S16x16x192 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_v3 : FVec F S4x4096x16x192 .f32 := Host.absf main_arg1
  let main_cst_0 : FVec F S_ .f32 := constant S_ .f32 0x7F800000#32
  let main_v4 : FVec F S4x4096x16x192 .f32 := broadcastInDim S4x4096x16x192 ![] bcast_S_S4x4096x16x192 main_cst_0
  let main_v5 : IVec S4x4096x16x192 1 := cmpf .olt main_v3 main_v4
  let main_v6 : FVec F S16x16x192 .f32 := Host.absf main_arg3
  let main_cst_1 : FVec F S_ .f32 := constant S_ .f32 0x7F800000#32
  let main_v7 : FVec F S16x16x192 .f32 := broadcastInDim S16x16x192 ![] bcast_S_S16x16x192 main_cst_1
  let main_v8 : IVec S16x16x192 1 := cmpf .olt main_v6 main_v7
  (main_v2, main_v5, main_v8)
-- ==== InProj.lean ====
abbrev S16384x2048 : Shape := ⟨2, ![16384, 2048]⟩
abbrev S16x2048 : Shape := ⟨2, ![16, 2048]⟩
abbrev S2x2048x11344 : Shape := ⟨3, ![2, 2048, 11344]⟩
abbrev S2x11344x2048 : Shape := ⟨3, ![2, 11344, 2048]⟩
abbrev S16384x11264 : Shape := ⟨2, ![16384, 11264]⟩
abbrev S16x11264 : Shape := ⟨2, ![16, 11264]⟩
abbrev S1024x2048 : Shape := ⟨2, ![1024, 2048]⟩
abbrev S1x1024x2048 : Shape := ⟨3, ![1, 1024, 2048]⟩
abbrev S1024x1024 : Shape := ⟨2, ![1024, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S16x2048, .bf16⟩
  | .hbm, ⟨2, _⟩ => ⟨S2x2048x11344, .f32⟩
  | .hbm, ⟨3, _⟩ => ⟨S2x11344x2048, .f32⟩
  | .hbm, ⟨4, _⟩ => ⟨S16384x11264, .f32⟩
  | .hbm, ⟨5, _⟩ => ⟨S16x11264, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S1x1024x2048, .f32⟩
  | .local _ .vmem, ⟨4, _⟩ => ⟨S1x1024x2048, .f32⟩
  | .local _ .vmem, ⟨5, _⟩ => ⟨S1024x1024, .f32⟩
  | .local _ .vmem, ⟨6, _⟩ => ⟨S1024x1024, .f32⟩
  | .local _ .vmem, ⟨7, _⟩ => ⟨S16x1024, .f32⟩
  | .local _ .vmem, ⟨8, _⟩ => ⟨S16x1024, .f32⟩
  | .local _ .vmem, ⟨9, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![11, 16], ![false, false]⟩

def k0_mult1 (i : grid0.Coords) : BitVec 32 :=
  let arg0 : BitVec 32 := BitVec.ofNat 32 (i 0).val
  let c6_i32 : BitVec 32 := 6#32
  let v0 : BitVec 1 := Scalar.cmpi .slt arg0 c6_i32
  let c1024_i32 : BitVec 32 := 1024#32
  let v1 : BitVec 32 := Scalar.muli arg0 c1024_i32
  let c7_i32 : BitVec 32 := 7#32
  let v2 : BitVec 1 := Scalar.cmpi .slt arg0 c7_i32
  let c6160_i32 : BitVec 32 := 6160#32
  let c6_i32_0 : BitVec 32 := 6#32
  let v3 : BitVec 32 := Scalar.subi arg0 c6_i32_0
  let c1024_i32_1 : BitVec 32 := 1024#32
  let v4 : BitVec 32 := Scalar.muli v3 c1024_i32_1
  let v5 : BitVec 32 := Scalar.addi c6160_i32 v4
  let c7248_i32 : BitVec 32 := 7248#32
  let c6_i32_2 : BitVec 32 := 6#32
  let v6 : BitVec 32 := Scalar.subi arg0 c6_i32_2
  let c1_i32 : BitVec 32 := 1#32
  let v7 : BitVec 32 := Scalar.subi v6 c1_i32
  let c1024_i32_3 : BitVec 32 := 1024#32
  let v8 : BitVec 32 := Scalar.muli v7 c1024_i32_3
  let v9 : BitVec 32 := Scalar.addi c7248_i32 v8
  let v10 : BitVec 32 := Scalar.select v2 v5 v9
  let v11 : BitVec 32 := Scalar.select v0 v1 v10
  v11
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg0 c6_i32
  let c1024_i32 : BitVec 32 := 1024#32
  let v1 : BitVec 32 := Scalar.muli arg0 c1024_i32
  let c7_i32 : BitVec 32 := 7#32
  let v2 : BitVec 1 := Scalar.cmpi .slt arg0 c7_i32
  let c6_i32_0 : BitVec 32 := 6#32
  let v3 : BitVec 32 := Scalar.subi arg0 c6_i32_0
  let c1024_i32_1 : BitVec 32 := 1024#32
  let v4 : BitVec 32 := Scalar.muli v3 c1024_i32_1
  let c6160_i32 : BitVec 32 := 6160#32
  let v5 : BitVec 32 := Scalar.addi c6160_i32 v4
  let c6_i32_2 : BitVec 32 := 6#32
  let v6 : BitVec 32 := Scalar.subi arg0 c6_i32_2
  let c1_i32 : BitVec 32 := 1#32
  let v7 : BitVec 32 := Scalar.subi v6 c1_i32
  let c1024_i32_3 : BitVec 32 := 1024#32
  let v8 : BitVec 32 := Scalar.muli v7 c1024_i32_3
  let c7248_i32 : BitVec 32 := 7248#32
  let v9 : BitVec 32 := Scalar.addi c7248_i32 v8
  let v10 : BitVec 32 := Scalar.select v2 v5 v9
  let v11 : BitVec 32 := Scalar.select v0 v1 v10
  let v12 : BitVec 32 := v11
  let c0_i32 : BitVec 32 := 0#32
  let c0_i32_4 : BitVec 32 := 0#32
  let c0_i32_5 : BitVec 32 := 0#32
  ![c0_i32.toNat, v12.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InRefIdeal.lean ====
abbrev S16384x2048 : Shape := ⟨2, ![16384, 2048]⟩
abbrev S16x2048 : Shape := ⟨2, ![16, 2048]⟩
abbrev S2x2048x11344 : Shape := ⟨3, ![2, 2048, 11344]⟩
abbrev S1x2048x11344 : Shape := ⟨3, ![1, 2048, 11344]⟩
abbrev S2048x11344 : Shape := ⟨2, ![2048, 11344]⟩
abbrev S16384x11344 : Shape := ⟨2, ![16384, 11344]⟩
abbrev S16384x1024 : Shape := ⟨2, ![16384, 1024]⟩
abbrev S16384x16 : Shape := ⟨2, ![16384, 16]⟩
abbrev S16384x512 : Shape := ⟨2, ![16384, 512]⟩
abbrev S16384x64 : Shape := ⟨2, ![16384, 64]⟩
abbrev S16384x11264 : Shape := ⟨2, ![16384, 11264]⟩
abbrev S16x11344 : Shape := ⟨2, ![16, 11344]⟩
abbrev S16x1024 : Shape := ⟨2, ![16, 1024]⟩
abbrev S16x16 : Shape := ⟨2, ![16, 16]⟩
abbrev S16x512 : Shape := ⟨2, ![16, 512]⟩
abbrev S16x64 : Shape := ⟨2, ![16, 64]⟩
abbrev S16x11264 : Shape := ⟨2, ![16, 11264]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16x2048, .bf16⟩
  | .hbm, ⟨2, _⟩ => ⟨S2x2048x11344, .f32⟩
  | .hbm, ⟨3, _⟩ => ⟨S16384x2048, .f32⟩
  | .hbm, ⟨4, _⟩ => ⟨S1x2048x11344, .f32⟩
  | .hbm, ⟨5, _⟩ => ⟨S2048x11344, .f32⟩
  | .hbm, ⟨6, _⟩ => ⟨S16384x11344, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x16, .f32⟩
  | .hbm, ⟨12, _⟩ => ⟨S16384x512, .f32⟩
  | .hbm, ⟨13, _⟩ => ⟨S16384x512, .f32⟩
  | .hbm, ⟨14, _⟩ => ⟨S16384x64, .f32⟩
  | .hbm, ⟨15, _⟩ => ⟨S16384x2048, .f32⟩
  | .hbm, ⟨16, _⟩ => ⟨S16384x2048, .f32⟩
  | .hbm, ⟨17, _⟩ => ⟨S16384x11264, .f32⟩
  | .hbm, ⟨18, _⟩ => ⟨S16x2048, .f32⟩
  | .hbm, ⟨19, _⟩ => ⟨S1x2048x11344, .f32⟩
  | .hbm, ⟨20, _⟩ => ⟨S2048x11344, .f32⟩
  | .hbm, ⟨21, _⟩ => ⟨S16x11344, .f32⟩
  | .hbm, ⟨22, _⟩ => ⟨S16x1024, .f32⟩
  | .hbm, ⟨23, _⟩ => ⟨S16x1024, .f32⟩
  | .hbm, ⟨24, _⟩ => ⟨S16x2048, .f32⟩
  | .hbm, ⟨25, _⟩ => ⟨S16x2048, .f32⟩
  | .hbm, ⟨26, _⟩ => ⟨S16x16, .f32⟩
  | .hbm, ⟨27, _⟩ => ⟨S16x512, .f32⟩
  | .hbm, ⟨28, _⟩ => ⟨S16x512, .f32⟩
  | .hbm, ⟨29, _⟩ => ⟨S16x64, .f32⟩
  | .hbm, ⟨30, _⟩ => ⟨S16x2048, .f32⟩
  | .hbm, ⟨31, _⟩ => ⟨S16x2048, .f32⟩
  | .hbm, ⟨32, _⟩ => ⟨S16x11264, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Merge.lean ====
abbrev S16384x2048 : Shape := ⟨2, ![16384, 2048]⟩
abbrev S16384x11264 : Shape := ⟨2, ![16384, 11264]⟩
abbrev S2x2048x2048 : Shape := ⟨3, ![2, 2048, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S1x2048x2048 : Shape := ⟨3, ![1, 2048, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 16
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x11264, .f32⟩
  | .hbm, ⟨3, _⟩ => ⟨S16384x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048, .f32⟩
  | .hbm, ⟨8, _⟩ => ⟨S2x2048x2048, .bf16⟩
  | .hbm, ⟨9, _⟩ => ⟨S2x2048x2048, .bf16⟩
  | .hbm, ⟨10, _⟩ => ⟨S2x2048x2048, .bf16⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_mult2 (i : grid0.Coords) : BitVec 32 :=
  let arg0 : BitVec 32 := BitVec.ofNat 32 (i 0).val
  let c256_i32 : BitVec 32 := 256#32
  let v0 : BitVec 32 := Scalar.muli arg0 c256_i32
  v0
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c7168_i32 : BitVec 32 := 7168#32
  let c0_i32 : BitVec 32 := 0#32
  ![v1.toNat, c7168_i32.toNat]

def cc0_transform_6 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c9216_i32 : BitVec 32 := 9216#32
  let c0_i32 : BitVec 32 := 0#32
  ![v1.toNat, c9216_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x2048 : Shape := ⟨2, ![16384, 2048]⟩
abbrev S16384x11264 : Shape := ⟨2, ![16384, 11264]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x11264, .f32⟩
  | .hbm, ⟨3, _⟩ => ⟨S16384x2048, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S1x2048x2048, .f32⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S1x2048x2048, .f32⟩
  | .hbm, ⟨16, _⟩ => ⟨S2048x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S1x2048x2048, .f32⟩
  | .hbm, ⟨38, _⟩ => ⟨S2048x2048, .f32⟩
  | .hbm, ⟨39, _⟩ => ⟨S16384x2048, .f32⟩
  | .hbm, ⟨40, _⟩ => ⟨S16384x2048, .f32⟩
  | .hbm, ⟨41, _⟩ => ⟨S1x2048, .f32⟩
  | .hbm, ⟨42, _⟩ => ⟨S2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== GateUp.lean ====
abbrev S16384x2048 : Shape := ⟨2, ![16384, 2048]⟩
abbrev S2x2048x11264 : Shape := ⟨3, ![2, 2048, 11264]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S16384x2048 : Shape := ⟨2, ![16384, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S16384x11264 : Shape := ⟨2, ![16384, 11264]⟩
abbrev S16384x5632 : Shape := ⟨2, ![16384, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x11264, .f32⟩
  | .hbm, ⟨2, _⟩ => ⟨S16384x2048, .f32⟩
  | .hbm, ⟨3, _⟩ => ⟨S1x2048x11264, .f32⟩
  | .hbm, ⟨4, _⟩ => ⟨S2048x11264, .f32⟩
  | .hbm, ⟨5, _⟩ => ⟨S16384x11264, .f32⟩
  | .hbm, ⟨6, _⟩ => ⟨S16384x5632, .f32⟩
  | .hbm, ⟨7, _⟩ => ⟨S16384x5632, .f32⟩
  | .hbm, ⟨8, _⟩ => ⟨S16384x5632, .f32⟩
  | .hbm, ⟨9, _⟩ => ⟨S16384x5632, .f32⟩
  | .hbm, ⟨10, _⟩ => ⟨S_, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S16384x5632, .f32⟩
  | .hbm, ⟨18, _⟩ => ⟨S16384x5632, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Down.lean ====
abbrev S16384x5632 : Shape := ⟨2, ![16384, 5632]⟩
abbrev S2x5632x2048 : Shape := ⟨3, ![2, 5632, 2048]⟩
abbrev S16384x2048 : Shape := ⟨2, ![16384, 2048]⟩
abbrev S512x2816 : Shape := ⟨2, ![512, 2816]⟩
abbrev S1x2816x2048 : Shape := ⟨3, ![1, 2816, 2048]⟩
abbrev S512x2048 : Shape := ⟨2, ![512, 2048]⟩
abbrev S2816x2048 : Shape := ⟨2, ![2816, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S2x5632x2048, .bf16⟩
  | .hbm, ⟨4, _⟩ => ⟨S16384x2048, .f32⟩
  | .local _ .vmem, ⟨0, _⟩ => ⟨S512x2816, .bf16⟩
  | .local _ .vmem, ⟨1, _⟩ => ⟨S512x2816, .bf16⟩
  | .local _ .vmem, ⟨2, _⟩ => ⟨S1x2816x2048, .bf16⟩
  | .local _ .vmem, ⟨3, _⟩ => ⟨S1x2816x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownRefIdeal.lean ====
abbrev S16384x5632 : Shape := ⟨2, ![16384, 5632]⟩
abbrev S2x5632x2048 : Shape := ⟨3, ![2, 5632, 2048]⟩
abbrev S16384x2048 : Shape := ⟨2, ![16384, 2048]⟩
abbrev S1x5632x2048 : Shape := ⟨3, ![1, 5632, 2048]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x5632x2048, .f32⟩
  | .hbm, ⟨2, _⟩ => ⟨S16384x2048, .f32⟩
  | .hbm, ⟨3, _⟩ => ⟨S16384x5632, .f32⟩
  | .hbm, ⟨4, _⟩ => ⟨S1x5632x2048, .f32⟩
  | .hbm, ⟨5, _⟩ => ⟨S5632x2048, .f32⟩
  | .hbm, ⟨6, _⟩ => ⟨S16384x2048, .f32⟩
  | .hbm, ⟨7, _⟩ => ⟨S16384x2048, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Attn.lean ====
abbrev S4x4096x16x192 : Shape := ⟨4, ![4, 4096, 16, 192]⟩
abbrev S4x4096x16x128 : Shape := ⟨4, ![4, 4096, 16, 128]⟩
abbrev S16x16x192 : Shape := ⟨3, ![16, 16, 192]⟩
abbrev S16x16x128 : Shape := ⟨3, ![16, 16, 128]⟩
abbrev S4x4096x16x64 : Shape := ⟨4, ![4, 4096, 16, 64]⟩
abbrev S_ : Shape := ⟨0, ![]⟩
abbrev S4x4096x16x32 : Shape := ⟨4, ![4, 4096, 16, 32]⟩
abbrev S4x4096x16x256 : Shape := ⟨4, ![4, 4096, 16, 256]⟩
abbrev S16384x4096 : Shape := ⟨2, ![16384, 4096]⟩
abbrev S4096x16384 : Shape := ⟨2, ![4096, 16384]⟩
abbrev S16x16x64 : Shape := ⟨3, ![16, 16, 64]⟩
abbrev S16x16x32 : Shape := ⟨3, ![16, 16, 32]⟩
abbrev S16x16x256 : Shape := ⟨3, ![16, 16, 256]⟩
abbrev S16x4096 : Shape := ⟨2, ![16, 4096]⟩
abbrev S4x4096x16x16 : Shape := ⟨4, ![4, 4096, 16, 16]⟩
abbrev S4x4096x16x144 : Shape := ⟨4, ![4, 4096, 16, 144]⟩
abbrev S16384x2304 : Shape := ⟨2, ![16384, 2304]⟩
abbrev S2304x16384 : Shape := ⟨2, ![2304, 16384]⟩
abbrev S16x16x16 : Shape := ⟨3, ![16, 16, 16]⟩
abbrev S16x16x144 : Shape := ⟨3, ![16, 16, 144]⟩
abbrev S16x2304 : Shape := ⟨2, ![16, 2304]⟩
abbrev S2304x16 : Shape := ⟨2, ![2304, 16]⟩
abbrev S16384x2048 : Shape := ⟨2, ![16384, 2048]⟩
abbrev S1024x4096 : Shape := ⟨2, ![1024, 4096]⟩
abbrev S4096x1024 : Shape := ⟨2, ![4096, 1024]⟩
abbrev S576x4096 : Shape := ⟨2, ![576, 4096]⟩
abbrev S16x1024 : Shape := ⟨2, ![16, 1024]⟩
abbrev S576x16 : Shape := ⟨2, ![576, 16]⟩
abbrev S512x512 : Shape := ⟨2, ![512, 512]⟩
abbrev S4x1x512 : Shape := ⟨3, ![4, 1, 512]⟩
abbrev S4x144x512 : Shape := ⟨3, ![4, 144, 512]⟩
abbrev S4x512x512 : Shape := ⟨3, ![4, 512, 512]⟩
abbrev S16x256 : Shape := ⟨2, ![16, 256]⟩
abbrev S256x512 : Shape := ⟨2, ![256, 512]⟩
abbrev S16x512 : Shape := ⟨2, ![16, 512]⟩
abbrev S512 : Shape := ⟨1, ![512]⟩
abbrev S1x512 : Shape := ⟨2, ![1, 512]⟩
abbrev S1x1x512 : Shape := ⟨3, ![1, 1, 512]⟩
abbrev S144x16 : Shape := ⟨2, ![144, 16]⟩
abbrev S144x512 : Shape := ⟨2, ![144, 512]⟩
abbrev S1x144x512 : Shape := ⟨3, ![1, 144, 512]⟩
abbrev S512x256 : Shape := ⟨2, ![512, 256]⟩
abbrev S1x512x512 : Shape := ⟨3, ![1, 512, 512]⟩
abbrev S1x1x256 : Shape := ⟨3, ![1, 1, 256]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S128x512 : Shape := ⟨2, ![128, 512]⟩
abbrev S512x128 : Shape := ⟨2, ![512, 128]⟩

abbrev nBuf : Space → Nat
  | .hbm => 49
  | .vmem => 15
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x4096x16x128, .f32⟩
  | .hbm, ⟨3, _⟩ => ⟨S16x16x192, .f32⟩
  | .hbm, ⟨4, _⟩ => ⟨S16x16x128, .f32⟩
  | .hbm, ⟨5, _⟩ => ⟨S4x4096x16x128, .f32⟩
  | .hbm, ⟨6, _⟩ => ⟨S4x4096x16x64, .f32⟩
  | .hbm, ⟨7, _⟩ => ⟨S_, .f32⟩
  | .hbm, ⟨8, _⟩ => ⟨S4x4096x16x32, .f32⟩
  | .hbm, ⟨9, _⟩ => ⟨S4x4096x16x32, .f32⟩
  | .hbm, ⟨10, _⟩ => ⟨S4x4096x16x32, .f32⟩
  | .hbm, ⟨11, _⟩ => ⟨S4x4096x16x128, .f32⟩
  | .hbm, ⟨12, _⟩ => ⟨S4x4096x16x256, .f32⟩
  | .hbm, ⟨13, _⟩ => ⟨S16384x4096, .f32⟩
  | .hbm, ⟨14, _⟩ => ⟨S4096x16384, .f32⟩
  | .hbm, ⟨15, _⟩ => ⟨S4096x16384, .bf16⟩
  | .hbm, ⟨16, _⟩ => ⟨S4x4096x16x128, .f32⟩
  | .hbm, ⟨17, _⟩ => ⟨S4x4096x16x64, .f32⟩
  | .hbm, ⟨18, _⟩ => ⟨S_, .f32⟩
  | .hbm, ⟨19, _⟩ => ⟨S4x4096x16x32, .f32⟩
  | .hbm, ⟨20, _⟩ => ⟨S4x4096x16x32, .f32⟩
  | .hbm, ⟨21, _⟩ => ⟨S4x4096x16x32, .f32⟩
  | .hbm, ⟨22, _⟩ => ⟨S4x4096x16x128, .f32⟩
  | .hbm, ⟨23, _⟩ => ⟨S4x4096x16x256, .f32⟩
  | .hbm, ⟨24, _⟩ => ⟨S16384x4096, .f32⟩
  | .hbm, ⟨25, _⟩ => ⟨S16384x4096, .bf16⟩
  | .hbm, ⟨26, _⟩ => ⟨S16x16x128, .f32⟩
  | .hbm, ⟨27, _⟩ => ⟨S16x16x64, .f32⟩
  | .hbm, ⟨28, _⟩ => ⟨S_, .f32⟩
  | .hbm, ⟨29, _⟩ => ⟨S16x16x32, .f32⟩
  | .hbm, ⟨30, _⟩ => ⟨S16x16x32, .f32⟩
  | .hbm, ⟨31, _⟩ => ⟨S16x16x32, .f32⟩
  | .hbm, ⟨32, _⟩ => ⟨S16x16x128, .f32⟩
  | .hbm, ⟨33, _⟩ => ⟨S16x16x256, .f32⟩
  | .hbm, ⟨34, _⟩ => ⟨S16x4096, .f32⟩
  | .hbm, ⟨35, _⟩ => ⟨S16x4096, .bf16⟩
  | .hbm, ⟨36, _⟩ => ⟨S_, .f32⟩
  | .hbm, ⟨37, _⟩ => ⟨S4x4096x16x16, .f32⟩
  | .hbm, ⟨38, _⟩ => ⟨S4x4096x16x144, .f32⟩
  | .hbm, ⟨39, _⟩ => ⟨S16384x2304, .f32⟩
  | .hbm, ⟨40, _⟩ => ⟨S2304x16384, .f32⟩
  | .hbm, ⟨41, _⟩ => ⟨S2304x16384, .bf16⟩
  | .hbm, ⟨42, _⟩ => ⟨S_, .f32⟩
  | .hbm, ⟨43, _⟩ => ⟨S16x16x16, .f32⟩
  | .hbm, ⟨44, _⟩ => ⟨S16x16x144, .f32⟩
  | .hbm, ⟨45, _⟩ => ⟨S16x2304, .f32⟩
  | .hbm, ⟨46, _⟩ => ⟨S2304x16, .f32⟩
  | .hbm, ⟨47, _⟩ => ⟨S2304x16, .bf16⟩
  | .hbm, ⟨48, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S576x4096, .bf16⟩
  | .local _ .vmem, ⟨5, _⟩ => ⟨S576x4096, .bf16⟩
  | .local _ .vmem, ⟨6, _⟩ => ⟨S16x1024, .bf16⟩
  | .local _ .vmem, ⟨7, _⟩ => ⟨S16x1024, .bf16⟩
  | .local _ .vmem, ⟨8, _⟩ => ⟨S576x16, .bf16⟩
  | .local _ .vmem, ⟨9, _⟩ => ⟨S576x16, .bf16⟩
  | .local _ .vmem, ⟨10, _⟩ => ⟨S512x512, .bf16⟩
  | .local _ .vmem, ⟨11, _⟩ => ⟨S512x512, .bf16⟩
  | .local _ .vmem, ⟨12, _⟩ => ⟨S4x1x512, .f32⟩
  | .local _ .vmem, ⟨13, _⟩ => ⟨S4x144x512, .f32⟩
  | .local _ .vmem, ⟨14, _⟩ => ⟨S4x512x512, .f32⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c512_i32 : BitVec 32 := 512#32
  let v2 : BitVec 32 := Scalar.muli arg2 c512_i32
  v2
def k0_off1 (i : grid0.Coords) : Fin 2 → Nat :=
  let c0_1 : Index := 0#32
  let arg2 : BitVec 32 := BitVec.ofNat 32 (i 2).val
  let c512_i32 : BitVec 32 := 512#32
  let v2 : BitVec 32 := Scalar.muli arg2 c512_i32
  let v3 : BitVec 32 := v2
  let v4 : Index := Scalar.indexCast v3
  ![0, v4.toNat]
def k0_mult2 (i : grid0.Coords) : BitVec 32 :=
  let arg2 : BitVec 32 := BitVec.ofNat 32 (i 2).val
  let c512_i32_3 : BitVec 32 := 512#32
  let v10 : BitVec 32 := Scalar.muli arg2 c512_i32_3
  v10
def k0_off2 (i : grid0.Coords) : Fin 2 → Nat :=
  let c256_4 : Index := 256#32
  let arg2 : BitVec 32 := BitVec.ofNat 32 (i 2).val
  let c512_i32_3 : BitVec 32 := 512#32
  let v10 : BitVec 32 := Scalar.muli arg2 c512_i32_3
  let v11 : BitVec 32 := v10
  let v12 : Index := Scalar.indexCast v11
  ![256, v12.toNat]
def k0_mult3 (i : grid0.Coords) : BitVec 32 :=
  let arg2 : BitVec 32 := BitVec.ofNat 32 (i 2).val
  let c512_i32_7 : BitVec 32 := 512#32
  let v18 : BitVec 32 := Scalar.muli arg2 c512_i32_7
  v18
def k0_off3 (i : grid0.Coords) : Fin 2 → Nat :=
  let c512_8 : Index := 512#32
  let arg2 : BitVec 32 := BitVec.ofNat 32 (i 2).val
  let c512_i32_7 : BitVec 32 := 512#32
  let v18 : BitVec 32 := Scalar.muli arg2 c512_i32_7
  let v19 : BitVec 32 := v18
  let v20 : Index := Scalar.indexCast v19
  ![512, v20.toNat]
def k0_mult4 (i : grid0.Coords) : BitVec 32 :=
  let arg2 : BitVec 32 := BitVec.ofNat 32 (i 2).val
  let c512_i32_11 : BitVec 32 := 512#32
  let v26 : BitVec 32 := Scalar.muli arg2 c512_i32_11
  v26
def k0_off4 (i : grid0.Coords) : Fin 2 → Nat :=
  let c768_12 : Index := 768#32
  let arg2 : BitVec 32 := BitVec.ofNat 32 (i 2).val
  let c512_i32_11 : BitVec 32 := 512#32
  let v26 : BitVec 32 := Scalar.muli arg2 c512_i32_11
  let v27 : BitVec 32 := v26
  let v28 : Index := Scalar.indexCast v27
  ![768, v28.toNat]
def k0_cond1 (i : grid0.Coords) : BitVec 1 :=
  let arg2 : BitVec 32 := BitVec.ofNat 32 (i 2).val
  let c0_i32 : BitVec 32 := 0#32
  let v92 : BitVec 1 := Scalar.cmpi .eq arg2 c0_i32
  let v93 : BitVec 32 := Scalar.extui v92
  let c0_i32_48 : BitVec 32 := 0#32
  let v94 : BitVec 1 := Scalar.cmpi .ne v93 c0_i32_48
  v94

def k0_mult5 : BitVec 32 :=
  let c0_i32_251 : BitVec 32 := 0#32
  c0_i32_251
def k0_mult6 : BitVec 32 :=
  let c0_i32_253 : BitVec 32 := 0#32
  c0_i32_253
def k0_mult7 : BitVec 32 :=
  let c0_i32_259 : BitVec 32 := 0#32
  c0_i32_259
def k0_mult8 : BitVec 32 :=
  let c0_i32_261 : BitVec 32 := 0#32
  c0_i32_261
def k0_mult9 : BitVec 32 :=
  let c0_i32_267 : BitVec 32 := 0#32
  c0_i32_267
def k0_mult10 : BitVec 32 :=
  let c0_i32_269 : BitVec 32 := 0#32
  c0_i32_269
def k0_mult11 : BitVec 32 :=
  let c0_i32_275 : BitVec 32 := 0#32
  c0_i32_275
def k0_mult12 : BitVec 32 :=
  let c0_i32_277 : BitVec 32 := 0#32
  c0_i32_277
@[reducible] def k0_t1_loop (i : grid0.Coords) : Scf.Loop 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_51 : BitVec 32 := 1#32
  ⟨c0_i32_50, v99, c1_i32_51⟩
def k0_mult13 (i : grid0.Coords) (k0_t1 : Fin (k0_t1_loop i).trips) : BitVec 32 :=
  let c0_i32_50 : BitVec 32 := 0#32
  let c1_i32_51 : BitVec 32 := 1#32
  let arg12 : BitVec 32 := Scf.iv c0_i32_50 c1_i32_51 k0_t1
  let c512_i32_251 : BitVec 32 := 512#32
  let v450 : BitVec 32 := Scalar.muli arg12 c512_i32_251
  v450
def k0_mult14 (i : grid0.Coords) (k0_t1 : Fin (k0_t1_loop i).trips) : BitVec 32 :=
  let c0_i32_50 : BitVec 32 := 0#32
  let c1_i32_51 : BitVec 32 := 1#32
  let arg12 : BitVec 32 := Scf.iv c0_i32_50 c1_i32_51 k0_t1
  let c1_i32_264 : BitVec 32 := 1#32
  let v460 : BitVec 32 := Scalar.addi arg12 c1_i32_264
  let c512_i32_265 : BitVec 32 := 512#32
  let v461 : BitVec 32 := Scalar.muli v460 c512_i32_265
  v461
def k0_off5 (i : grid0.Coords) (k0_t1 : Fin (k0_t1_loop i).trips) : Fin 2 → Nat :=
  let c0_i32_50 : BitVec 32 := 0#32
  let c1_i32_51 : BitVec 32 := 1#32
  let arg12 : BitVec 32 := Scf.iv c0_i32_50 c1_i32_51 k0_t1
  let c1_i32_264 : BitVec 32 := 1#32
  let v460 : BitVec 32 := Scalar.addi arg12 c1_i32_264
  let c512_i32_265 : BitVec 32 := 512#32
  let v461 : BitVec 32 := Scalar.muli v460 c512_i32_265
  let v462 : BitVec 32 := v461
  let v463 : Index := Scalar.indexCast v462
  let c0_266 : Index := 0#32
  ![v463.toNat, 0]
def k0_mult15 (i : grid0.Coords) : BitVec 32 :=
  let arg2 : BitVec 32 := BitVec.ofNat 32 (i 2).val
  let c512_i32_267 : BitVec 32 := 512#32
  let v466 : BitVec 32 := Scalar.muli arg2 c512_i32_267
  v466
def k0_off6 (i : grid0.Coords) : Fin 2 → Nat :=
  let c0_268 : Index := 0#32
  let arg2 : BitVec 32 := BitVec.ofNat 32 (i 2).val
  let c512_i32_267 : BitVec 32 := 512#32
  let v466 : BitVec 32 := Scalar.muli arg2 c512_i32_267
  let v467 : BitVec 32 := v466
  let v468 : Index := Scalar.indexCast v467
  ![0, v468.toNat]
def k0_off7 (i : grid0.Coords) (k0_t1 : Fin (k0_t1_loop i).trips) : Fin 2 → Nat :=
  let c0_280 : Index := 0#32
  let c0_i32_50 : BitVec 32 := 0#32
  let c1_i32_51 : BitVec 32 := 1#32
  let arg12 : BitVec 32 := Scf.iv c0_i32_50 c1_i32_51 k0_t1
  let c512_i32_251 : BitVec 32 := 512#32
  let v450 : BitVec 32 := Scalar.muli arg12 c512_i32_251
  let v451 : BitVec 32 := v450
  let v490 : Index := Scalar.indexCast v451
  ![0, v490.toNat]
def k0_mult16 (i : grid0.Coords) (k0_t1 : Fin (k0_t1_loop i).trips) : BitVec 32 :=
  let c0_i32_50 : BitVec 32 := 0#32
  let c1_i32_51 : BitVec 32 := 1#32
  let arg12 : BitVec 32 := Scf.iv c0_i32_50 c1_i32_51 k0_t1
  let c1_i32_303 : BitVec 32 := 1#32
  let v529 : BitVec 32 := Scalar.addi arg12 c1_i32_303
  let c512_i32_304 : BitVec 32 := 512#32
  let v530 : BitVec 32 := Scalar.muli v529 c512_i32_304
  v530
def k0_off8 (i : grid0.Coords) (k0_t1 : Fin (k0_t1_loop i).trips) : Fin 2 → Nat :=
  let c0_i32_50 : BitVec 32 := 0#32
  let c1_i32_51 : BitVec 32 := 1#32
  let arg12 : BitVec 32 := Scf.iv c0_i32_50 c1_i32_51 k0_t1
  let c1_i32_303 : BitVec 32 := 1#32
  let v529 : BitVec 32 := Scalar.addi arg12 c1_i32_303
  let c512_i32_304 : BitVec 32 := 512#32
  let v530 : BitVec 32 := Scalar.muli v529 c512_i32_304
  let v531 : BitVec 32 := v530
  let v532 : Index := Scalar.indexCast v531
  let c256_305 : Index := 256#32
  ![v532.toNat, 256]
def k0_mult17 (i : grid0.Coords) : BitVec 32 :=
  let arg2 : BitVec 32 := BitVec.ofNat 32 (i 2).val
  let c512_i32_306 : BitVec 32 := 512#32
  let v535 : BitVec 32 := Scalar.muli arg2 c512_i32_306
  v535
def k0_off9 (i : grid0.Coords) : Fin 2 → Nat :=
  let c256_307 : Index := 256#32
  let arg2 : BitVec 32 := BitVec.ofNat 32 (i 2).val
  let c512_i32_306 : BitVec 32 := 512#32
  let v535 : BitVec 32 := Scalar.muli arg2 c512_i32_306
  let v536 : BitVec 32 := v535
  let v537 : Index := Scalar.indexCast v536
  ![256, v537.toNat]
def k0_off10 (i : grid0.Coords) (k0_t1 : Fin (k0_t1_loop i).trips) : Fin 2 → Nat :=
  let c144_319 : Index := 144#32
  let c0_i32_50 : BitVec 32 := 0#32
  let c1_i32_51 : BitVec 32 := 1#32
  let arg12 : BitVec 32 := Scf.iv c0_i32_50 c1_i32_51 k0_t1
  let c512_i32_251 : BitVec 32 := 512#32
  let v450 : BitVec 32 := Scalar.muli arg12 c512_i32_251
  let v451 : BitVec 32 := v450
  let v559 : Index := Scalar.indexCast v451
  ![144, v559.toNat]
def k0_mult18 (i : grid0.Coords) (k0_t1 : Fin (k0_t1_loop i).trips) : BitVec 32 :=
  let c0_i32_50 : BitVec 32 := 0#32
  let c1_i32_51 : BitVec 32 := 1#32
  let arg12 : BitVec 32 := Scf.iv c0_i32_50 c1_i32_51 k0_t1
  let c1_i32_342 : BitVec 32 := 1#32
  let v598 : BitVec 32 := Scalar.addi arg12 c1_i32_342
  let c512_i32_343 : BitVec 32 := 512#32
  let v599 : BitVec 32 := Scalar.muli v598 c512_i32_343
  v599
def k0_off11 (i : grid0.Coords) (k0_t1 : Fin (k0_t1_loop i).trips) : Fin 2 → Nat :=
  let c0_i32_50 : BitVec 32 := 0#32
  let c1_i32_51 : BitVec 32 := 1#32
  let arg12 : BitVec 32 := Scf.iv c0_i32_50 c1_i32_51 k0_t1
  let c1_i32_342 : BitVec 32 := 1#32
  let v598 : BitVec 32 := Scalar.addi arg12 c1_i32_342
  let c512_i32_343 : BitVec 32 := 512#32
  let v599 : BitVec 32 := Scalar.muli v598 c512_i32_343
  let v600 : BitVec 32 := v599
  let v601 : Index := Scalar.indexCast v600
  let c512_344 : Index := 512#32
  ![v601.toNat, 512]
def k0_mult19 (i : grid0.Coords) : BitVec 32 :=
  let arg2 : BitVec 32 := BitVec.ofNat 32 (i 2).val
  let c512_i32_345 : BitVec 32 := 512#32
  let v604 : BitVec 32 := Scalar.muli arg2 c512_i32_345
  v604
def k0_off12 (i : grid0.Coords) : Fin 2 → Nat :=
  let c512_346 : Index := 512#32
  let arg2 : BitVec 32 := BitVec.ofNat 32 (i 2).val
  let c512_i32_345 : BitVec 32 := 512#32
  let v604 : BitVec 32 := Scalar.muli arg2 c512_i32_345
  let v605 : BitVec 32 := v604
  let v606 : Index := Scalar.indexCast v605
  ![512, v606.toNat]
def k0_off13 (i : grid0.Coords) (k0_t1 : Fin (k0_t1_loop i).trips) : Fin 2 → Nat :=
  let c288_358 : Index := 288#32
  let c0_i32_50 : BitVec 32 := 0#32
  let c1_i32_51 : BitVec 32 := 1#32
  let arg12 : BitVec 32 := Scf.iv c0_i32_50 c1_i32_51 k0_t1
  let c512_i32_251 : BitVec 32 := 512#32
  let v450 : BitVec 32 := Scalar.muli arg12 c512_i32_251
  let v451 : BitVec 32 := v450
  let v628 : Index := Scalar.indexCast v451
  ![288, v628.toNat]
def k0_mult20 (i : grid0.Coords) (k0_t1 : Fin (k0_t1_loop i).trips) : BitVec 32 :=
  let c0_i32_50 : BitVec 32 := 0#32
  let c1_i32_51 : BitVec 32 := 1#32
  let arg12 : BitVec 32 := Scf.iv c0_i32_50 c1_i32_51 k0_t1
  let c1_i32_381 : BitVec 32 := 1#32
  let v667 : BitVec 32 := Scalar.addi arg12 c1_i32_381
  let c512_i32_382 : BitVec 32 := 512#32
  let v668 : BitVec 32 := Scalar.muli v667 c512_i32_382
  v668
def k0_off14 (i : grid0.Coords) (k0_t1 : Fin (k0_t1_loop i).trips) : Fin 2 → Nat :=
  let c0_i32_50 : BitVec 32 := 0#32
  let c1_i32_51 : BitVec 32 := 1#32
  let arg12 : BitVec 32 := Scf.iv c0_i32_50 c1_i32_51 k0_t1
  let c1_i32_381 : BitVec 32 := 1#32
  let v667 : BitVec 32 := Scalar.addi arg12 c1_i32_381
  let c512_i32_382 : BitVec 32 := 512#32
  let v668 : BitVec 32 := Scalar.muli v667 c512_i32_382
  let v669 : BitVec 32 := v668
  let v670 : Index := Scalar.indexCast v669
  let c768_383 : Index := 768#32
  ![v670.toNat, 768]
def k0_mult21 (i : grid0.Coords) : BitVec 32 :=
  let arg2 : BitVec 32 := BitVec.ofNat 32 (i 2).val
  let c512_i32_384 : BitVec 32 := 512#32
  let v673 : BitVec 32 := Scalar.muli arg2 c512_i32_384
  v673
def k0_off15 (i : grid0.Coords) : Fin 2 → Nat :=
  let c768_385 : Index := 768#32
  let arg2 : BitVec 32 := BitVec.ofNat 32 (i 2).val
  let c512_i32_384 : BitVec 32 := 512#32
  let v673 : BitVec 32 := Scalar.muli arg2 c512_i32_384
  let v674 : BitVec 32 := v673
  let v675 : Index := Scalar.indexCast v674
  ![768, v675.toNat]
def k0_off16 (i : grid0.Coords) (k0_t1 : Fin (k0_t1_loop i).trips) : Fin 2 → Nat :=
  let c432_397 : Index := 432#32
  let c0_i32_50 : BitVec 32 := 0#32
  let c1_i32_51 : BitVec 32 := 1#32
  let arg12 : BitVec 32 := Scf.iv c0_i32_50 c1_i32_51 k0_t1
  let c512_i32_251 : BitVec 32 := 512#32
  let v450 : BitVec 32 := Scalar.muli arg12 c512_i32_251
  let v451 : BitVec 32 := v450
  let v697 : Index := Scalar.indexCast v451
  ![432, v697.toNat]
@[reducible] def k0_t2_loop (i : grid0.Coords) : Scf.Loop 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let v96 : BitVec 32 := Scalar.addi c0_i32_50 v95
  let c1_i32_52 : BitVec 32 := 1#32
  ⟨v99, v96, c1_i32_52⟩
def k0_mult22 (i : grid0.Coords) (k0_t2 : Fin (k0_t2_loop i).trips) : BitVec 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c512_i32_251 : BitVec 32 := 512#32
  let v450 : BitVec 32 := Scalar.muli arg12 c512_i32_251
  v450
def k0_mult23 (i : grid0.Coords) (k0_t2 : Fin (k0_t2_loop i).trips) : BitVec 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_264 : BitVec 32 := 1#32
  let v460 : BitVec 32 := Scalar.addi arg12 c1_i32_264
  let c512_i32_265 : BitVec 32 := 512#32
  let v461 : BitVec 32 := Scalar.muli v460 c512_i32_265
  v461
def k0_off17 (i : grid0.Coords) (k0_t2 : Fin (k0_t2_loop i).trips) : Fin 2 → Nat :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_264 : BitVec 32 := 1#32
  let v460 : BitVec 32 := Scalar.addi arg12 c1_i32_264
  let c512_i32_265 : BitVec 32 := 512#32
  let v461 : BitVec 32 := Scalar.muli v460 c512_i32_265
  let v462 : BitVec 32 := v461
  let v463 : Index := Scalar.indexCast v462
  let c0_266 : Index := 0#32
  ![v463.toNat, 0]
def k0_mult24 (i : grid0.Coords) : BitVec 32 :=
  let arg2 : BitVec 32 := BitVec.ofNat 32 (i 2).val
  let c512_i32_267 : BitVec 32 := 512#32
  let v466 : BitVec 32 := Scalar.muli arg2 c512_i32_267
  v466
def k0_off18 (i : grid0.Coords) : Fin 2 → Nat :=
  let c0_268 : Index := 0#32
  let arg2 : BitVec 32 := BitVec.ofNat 32 (i 2).val
  let c512_i32_267 : BitVec 32 := 512#32
  let v466 : BitVec 32 := Scalar.muli arg2 c512_i32_267
  let v467 : BitVec 32 := v466
  let v468 : Index := Scalar.indexCast v467
  ![0, v468.toNat]
def k0_off19 (i : grid0.Coords) (k0_t2 : Fin (k0_t2_loop i).trips) : Fin 2 → Nat :=
  let c0_280 : Index := 0#32
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c512_i32_251 : BitVec 32 := 512#32
  let v450 : BitVec 32 := Scalar.muli arg12 c512_i32_251
  let v451 : BitVec 32 := v450
  let v490 : Index := Scalar.indexCast v451
  ![0, v490.toNat]
def k0_mult25 (i : grid0.Coords) (k0_t2 : Fin (k0_t2_loop i).trips) : BitVec 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_303 : BitVec 32 := 1#32
  let v529 : BitVec 32 := Scalar.addi arg12 c1_i32_303
  let c512_i32_304 : BitVec 32 := 512#32
  let v530 : BitVec 32 := Scalar.muli v529 c512_i32_304
  v530
def k0_off20 (i : grid0.Coords) (k0_t2 : Fin (k0_t2_loop i).trips) : Fin 2 → Nat :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_303 : BitVec 32 := 1#32
  let v529 : BitVec 32 := Scalar.addi arg12 c1_i32_303
  let c512_i32_304 : BitVec 32 := 512#32
  let v530 : BitVec 32 := Scalar.muli v529 c512_i32_304
  let v531 : BitVec 32 := v530
  let v532 : Index := Scalar.indexCast v531
  let c256_305 : Index := 256#32
  ![v532.toNat, 256]
def k0_mult26 (i : grid0.Coords) : BitVec 32 :=
  let arg2 : BitVec 32 := BitVec.ofNat 32 (i 2).val
  let c512_i32_306 : BitVec 32 := 512#32
  let v535 : BitVec 32 := Scalar.muli arg2 c512_i32_306
  v535
def k0_off21 (i : grid0.Coords) : Fin 2 → Nat :=
  let c256_307 : Index := 256#32
  let arg2 : BitVec 32 := BitVec.ofNat 32 (i 2).val
  let c512_i32_306 : BitVec 32 := 512#32
  let v535 : BitVec 32 := Scalar.muli arg2 c512_i32_306
  let v536 : BitVec 32 := v535
  let v537 : Index := Scalar.indexCast v536
  ![256, v537.toNat]
def k0_off22 (i : grid0.Coords) (k0_t2 : Fin (k0_t2_loop i).trips) : Fin 2 → Nat :=
  let c144_319 : Index := 144#32
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c512_i32_251 : BitVec 32 := 512#32
  let v450 : BitVec 32 := Scalar.muli arg12 c512_i32_251
  let v451 : BitVec 32 := v450
  let v559 : Index := Scalar.indexCast v451
  ![144, v559.toNat]
def k0_mult27 (i : grid0.Coords) (k0_t2 : Fin (k0_t2_loop i).trips) : BitVec 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_342 : BitVec 32 := 1#32
  let v598 : BitVec 32 := Scalar.addi arg12 c1_i32_342
  let c512_i32_343 : BitVec 32 := 512#32
  let v599 : BitVec 32 := Scalar.muli v598 c512_i32_343
  v599
def k0_off23 (i : grid0.Coords) (k0_t2 : Fin (k0_t2_loop i).trips) : Fin 2 → Nat :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_342 : BitVec 32 := 1#32
  let v598 : BitVec 32 := Scalar.addi arg12 c1_i32_342
  let c512_i32_343 : BitVec 32 := 512#32
  let v599 : BitVec 32 := Scalar.muli v598 c512_i32_343
  let v600 : BitVec 32 := v599
  let v601 : Index := Scalar.indexCast v600
  let c512_344 : Index := 512#32
  ![v601.toNat, 512]
def k0_mult28 (i : grid0.Coords) : BitVec 32 :=
  let arg2 : BitVec 32 := BitVec.ofNat 32 (i 2).val
  let c512_i32_345 : BitVec 32 := 512#32
  let v604 : BitVec 32 := Scalar.muli arg2 c512_i32_345
  v604
def k0_off24 (i : grid0.Coords) : Fin 2 → Nat :=
  let c512_346 : Index := 512#32
  let arg2 : BitVec 32 := BitVec.ofNat 32 (i 2).val
  let c512_i32_345 : BitVec 32 := 512#32
  let v604 : BitVec 32 := Scalar.muli arg2 c512_i32_345
  let v605 : BitVec 32 := v604
  let v606 : Index := Scalar.indexCast v605
  ![512, v606.toNat]
def k0_off25 (i : grid0.Coords) (k0_t2 : Fin (k0_t2_loop i).trips) : Fin 2 → Nat :=
  let c288_358 : Index := 288#32
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c512_i32_251 : BitVec 32 := 512#32
  let v450 : BitVec 32 := Scalar.muli arg12 c512_i32_251
  let v451 : BitVec 32 := v450
  let v628 : Index := Scalar.indexCast v451
  ![288, v628.toNat]
def k0_mult29 (i : grid0.Coords) (k0_t2 : Fin (k0_t2_loop i).trips) : BitVec 32 :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_381 : BitVec 32 := 1#32
  let v667 : BitVec 32 := Scalar.addi arg12 c1_i32_381
  let c512_i32_382 : BitVec 32 := 512#32
  let v668 : BitVec 32 := Scalar.muli v667 c512_i32_382
  v668
def k0_off26 (i : grid0.Coords) (k0_t2 : Fin (k0_t2_loop i).trips) : Fin 2 → Nat :=
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c1_i32_381 : BitVec 32 := 1#32
  let v667 : BitVec 32 := Scalar.addi arg12 c1_i32_381
  let c512_i32_382 : BitVec 32 := 512#32
  let v668 : BitVec 32 := Scalar.muli v667 c512_i32_382
  let v669 : BitVec 32 := v668
  let v670 : Index := Scalar.indexCast v669
  let c768_383 : Index := 768#32
  ![v670.toNat, 768]
def k0_mult30 (i : grid0.Coords) : BitVec 32 :=
  let arg2 : BitVec 32 := BitVec.ofNat 32 (i 2).val
  let c512_i32_384 : BitVec 32 := 512#32
  let v673 : BitVec 32 := Scalar.muli arg2 c512_i32_384
  v673
def k0_off27 (i : grid0.Coords) : Fin 2 → Nat :=
  let c768_385 : Index := 768#32
  let arg2 : BitVec 32 := BitVec.ofNat 32 (i 2).val
  let c512_i32_384 : BitVec 32 := 512#32
  let v673 : BitVec 32 := Scalar.muli arg2 c512_i32_384
  let v674 : BitVec 32 := v673
  let v675 : Index := Scalar.indexCast v674
  ![768, v675.toNat]
def k0_off28 (i : grid0.Coords) (k0_t2 : Fin (k0_t2_loop i).trips) : Fin 2 → Nat :=
  let c432_397 : Index := 432#32
  let c0_i32_50 : BitVec 32 := 0#32
  let arg2 : BitVec 32 := BitVec.ofNat 32 (i 2).val
  let v95 : BitVec 32 := Scalar.subi arg2 c0_i32_50
  let c1_i32 : BitVec 32 := 1#32
  let v97 : BitVec 32 := Scalar.divsi v95 c1_i32
  let v98 : BitVec 32 := Scalar.muli v97 c1_i32
  let v99 : BitVec 32 := Scalar.addi c0_i32_50 v98
  let c1_i32_52 : BitVec 32 := 1#32
  let arg12 : BitVec 32 := Scf.iv v99 c1_i32_52 k0_t2
  let c512_i32_251 : BitVec 32 := 512#32
  let v450 : BitVec 32 := Scalar.muli arg12 c512_i32_251
  let v451 : BitVec 32 := v450
  let v697 : Index := Scalar.indexCast v451
  ![432, v697.toNat]
def k0_mult31 (i : grid0.Coords) : BitVec 32 :=
  let arg2 : BitVec 32 := BitVec.ofNat 32 (i 2).val
  let c512_i32_53 : BitVec 32 := 512#32
  let v100 : BitVec 32 := Scalar.muli arg2 c512_i32_53
  v100
def k0_mult32 : BitVec 32 :=
  let c0_i32_67 : BitVec 32 := 0#32
  c0_i32_67
def k0_mult33 (i : grid0.Coords) : BitVec 32 :=
  let arg2 : BitVec 32 := BitVec.ofNat 32 (i 2).val
  let c1_i32_66 : BitVec 32 := 1#32
  let v110 : BitVec 32 := Scalar.addi arg2 c1_i32_66
  let c7_i32 : BitVec 32 := 7#32
  let v111 : BitVec 32 := Scalar.minsi v110 c7_i32
  let c512_i32_69 : BitVec 32 := 512#32
  let v116 : BitVec 32 := Scalar.muli v111 c512_i32_69
  v116
def k0_off29 (i : grid0.Coords) : Fin 2 → Nat :=
  let c0_70 : Index := 0#32
  let arg2 : BitVec 32 := BitVec.ofNat 32 (i 2).val
  let c1_i32_66 : BitVec 32 := 1#32
  let v110 : BitVec 32 := Scalar.addi arg2 c1_i32_66
  let c7_i32 : BitVec 32 := 7#32
  let v111 : BitVec 32 := Scalar.minsi v110 c7_i32
  let c512_i32_69 : BitVec 32 := 512#32
  let v116 : BitVec 32 := Scalar.muli v111 c512_i32_69
  let v117 : BitVec 32 := v116
  let v118 : Index := Scalar.indexCast v117
  ![0, v118.toNat]
def k0_off30 (i : grid0.Coords) : Fin 2 → Nat :=
  let c0_83 : Index := 0#32
  let arg2 : BitVec 32 := BitVec.ofNat 32 (i 2).val
  let c512_i32_53 : BitVec 32 := 512#32
  let v100 : BitVec 32 := Scalar.muli arg2 c512_i32_53
  let v101 : BitVec 32 := v100
  let v145 : Index := Scalar.indexCast v101
  ![0, v145.toNat]
def k0_mult34 : BitVec 32 :=
  let c0_i32_108 : BitVec 32 := 0#32
  c0_i32_108
def k0_mult35 (i : grid0.Coords) : BitVec 32 :=
  let arg2 : BitVec 32 := BitVec.ofNat 32 (i 2).val
  let c1_i32_106 : BitVec 32 := 1#32
  let v184 : BitVec 32 := Scalar.addi arg2 c1_i32_106
  let c7_i32_107 : BitVec 32 := 7#32
  let v185 : BitVec 32 := Scalar.minsi v184 c7_i32_107
  let c512_i32_110 : BitVec 32 := 512#32
  let v190 : BitVec 32 := Scalar.muli v185 c512_i32_110
  v190
def k0_off31 (i : grid0.Coords) : Fin 2 → Nat :=
  let c256_111 : Index := 256#32
  let arg2 : BitVec 32 := BitVec.ofNat 32 (i 2).val
  let c1_i32_106 : BitVec 32 := 1#32
  let v184 : BitVec 32 := Scalar.addi arg2 c1_i32_106
  let c7_i32_107 : BitVec 32 := 7#32
  let v185 : BitVec 32 := Scalar.minsi v184 c7_i32_107
  let c512_i32_110 : BitVec 32 := 512#32
  let v190 : BitVec 32 := Scalar.muli v185 c512_i32_110
  let v191 : BitVec 32 := v190
  let v192 : Index := Scalar.indexCast v191
  ![256, v192.toNat]
def k0_off32 (i : grid0.Coords) : Fin 2 → Nat :=
  let c144_124 : Index := 144#32
  let arg2 : BitVec 32 := BitVec.ofNat 32 (i 2).val
  let c512_i32_53 : BitVec 32 := 512#32
  let v100 : BitVec 32 := Scalar.muli arg2 c512_i32_53
  let v101 : BitVec 32 := v100
  let v219 : Index := Scalar.indexCast v101
  ![144, v219.toNat]
def k0_mult36 : BitVec 32 :=
  let c0_i32_149 : BitVec 32 := 0#32
  c0_i32_149
def k0_mult37 (i : grid0.Coords) : BitVec 32 :=
  let arg2 : BitVec 32 := BitVec.ofNat 32 (i 2).val
  let c1_i32_147 : BitVec 32 := 1#32
  let v258 : BitVec 32 := Scalar.addi arg2 c1_i32_147
  let c7_i32_148 : BitVec 32 := 7#32
  let v259 : BitVec 32 := Scalar.minsi v258 c7_i32_148
  let c512_i32_151 : BitVec 32 := 512#32
  let v264 : BitVec 32 := Scalar.muli v259 c512_i32_151
  v264
def k0_off33 (i : grid0.Coords) : Fin 2 → Nat :=
  let c512_152 : Index := 512#32
  let arg2 : BitVec 32 := BitVec.ofNat 32 (i 2).val
  let c1_i32_147 : BitVec 32 := 1#32
  let v258 : BitVec 32 := Scalar.addi arg2 c1_i32_147
  let c7_i32_148 : BitVec 32 := 7#32
  let v259 : BitVec 32 := Scalar.minsi v258 c7_i32_148
  let c512_i32_151 : BitVec 32 := 512#32
  let v264 : BitVec 32 := Scalar.muli v259 c512_i32_151
  let v265 : BitVec 32 := v264
  let v266 : Index := Scalar.indexCast v265
  ![512, v266.toNat]
def k0_off34 (i : grid0.Coords) : Fin 2 → Nat :=
  let c288_165 : Index := 288#32
  let arg2 : BitVec 32 := BitVec.ofNat 32 (i 2).val
  let c512_i32_53 : BitVec 32 := 512#32
  let v100 : BitVec 32 := Scalar.muli arg2 c512_i32_53
  let v101 : BitVec 32 := v100
  let v293 : Index := Scalar.indexCast v101
  ![288, v293.toNat]
def k0_mult38 : BitVec 32 :=
  let c0_i32_190 : BitVec 32 := 0#32
  c0_i32_190
def k0_mult39 (i : grid0.Coords) : BitVec 32 :=
  let arg2 : BitVec 32 := BitVec.ofNat 32 (i 2).val
  let c1_i32_188 : BitVec 32 := 1#32
  let v332 : BitVec 32 := Scalar.addi arg2 c1_i32_188
  let c7_i32_189 : BitVec 32 := 7#32
  let v333 : BitVec 32 := Scalar.minsi v332 c7_i32_189
  let c512_i32_192 : BitVec 32 := 512#32
  let v338 : BitVec 32 := Scalar.muli v333 c512_i32_192
  v338
def k0_off35 (i : grid0.Coords) : Fin 2 → Nat :=
  let c768_193 : Index := 768#32
  let arg2 : BitVec 32 := BitVec.ofNat 32 (i 2).val
  let c1_i32_188 : BitVec 32 := 1#32
  let v332 : BitVec 32 := Scalar.addi arg2 c1_i32_188
  let c7_i32_189 : BitVec 32 := 7#32
  let v333 : BitVec 32 := Scalar.minsi v332 c7_i32_189
  let c512_i32_192 : BitVec 32 := 512#32
  let v338 : BitVec 32 := Scalar.muli v333 c512_i32_192
  let v339 : BitVec 32 := v338
  let v340 : Index := Scalar.indexCast v339
  ![768, v340.toNat]
def k0_off36 (i : grid0.Coords) : Fin 2 → Nat :=
  let c432_206 : Index := 432#32
  let arg2 : BitVec 32 := BitVec.ofNat 32 (i 2).val
  let c512_i32_53 : BitVec 32 := 512#32
  let v100 : BitVec 32 := Scalar.muli arg2 c512_i32_53
  let v101 : BitVec 32 := v100
  let v367 : Index := Scalar.indexCast v101
  ![432, v367.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S576x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S576x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S4x4096x16x192 : Shape := ⟨4, ![4, 4096, 16, 192]⟩
abbrev S4x4096x16x128 : Shape := ⟨4, ![4, 4096, 16, 128]⟩
abbrev S16x16x192 : Shape := ⟨3, ![16, 16, 192]⟩
abbrev S16x16x128 : Shape := ⟨3, ![16, 16, 128]⟩
abbrev S1x16x16x192 : Shape := ⟨4, ![1, 16, 16, 192]⟩
abbrev S4x16x16x192 : Shape := ⟨4, ![4, 16, 16, 192]⟩
abbrev S1x16x16x128 : Shape := ⟨4, ![1, 16, 16, 128]⟩
abbrev S4x16x16x128 : Shape := ⟨4, ![4, 16, 16, 128]⟩
abbrev S4x16x4096x192 : Shape := ⟨4, ![4, 16, 4096, 192]⟩
abbrev S4x4112x16x192 : Shape := ⟨4, ![4, 4112, 16, 192]⟩
abbrev S4x16x4112x192 : Shape := ⟨4, ![4, 16, 4112, 192]⟩
abbrev S4x4112x16x128 : Shape := ⟨4, ![4, 4112, 16, 128]⟩
abbrev S4x16x4112x128 : Shape := ⟨4, ![4, 16, 4112, 128]⟩
abbrev S4112 : Shape := ⟨1, ![4112]⟩
abbrev S4096 : Shape := ⟨1, ![4096]⟩
abbrev S_ : Shape := ⟨0, ![]⟩
abbrev S4x16x4096x4112 : Shape := ⟨4, ![4, 16, 4096, 4112]⟩
abbrev S1x4112 : Shape := ⟨2, ![1, 4112]⟩
abbrev S4096x1 : Shape := ⟨2, ![4096, 1]⟩
abbrev S4096x4112 : Shape := ⟨2, ![4096, 4112]⟩
abbrev S4x16x4096 : Shape := ⟨3, ![4, 16, 4096]⟩
abbrev S4x16x4096x1 : Shape := ⟨4, ![4, 16, 4096, 1]⟩
abbrev S4x16x4096x128 : Shape := ⟨4, ![4, 16, 4096, 128]⟩
abbrev S16384x2048 : Shape := ⟨2, ![16384, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x192, .f32⟩
  | .hbm, ⟨2, _⟩ => ⟨S4x4096x16x128, .f32⟩
  | .hbm, ⟨3, _⟩ => ⟨S16x16x192, .f32⟩
  | .hbm, ⟨4, _⟩ => ⟨S16x16x128, .f32⟩
  | .hbm, ⟨5, _⟩ => ⟨S1x16x16x192, .f32⟩
  | .hbm, ⟨6, _⟩ => ⟨S4x16x16x192, .f32⟩
  | .hbm, ⟨7, _⟩ => ⟨S1x16x16x128, .f32⟩
  | .hbm, ⟨8, _⟩ => ⟨S4x16x16x128, .f32⟩
  | .hbm, ⟨9, _⟩ => ⟨S4x16x4096x192, .f32⟩
  | .hbm, ⟨10, _⟩ => ⟨S4x4112x16x192, .f32⟩
  | .hbm, ⟨11, _⟩ => ⟨S4x16x4112x192, .f32⟩
  | .hbm, ⟨12, _⟩ => ⟨S4x4112x16x128, .f32⟩
  | .hbm, ⟨13, _⟩ => ⟨S4x16x4112x128, .f32⟩
  | .hbm, ⟨14, _⟩ => ⟨S4112, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4x16x4096x4112, .f32⟩
  | .hbm, ⟨20, _⟩ => ⟨S_, .f32⟩
  | .hbm, ⟨21, _⟩ => ⟨S_, .f32⟩
  | .hbm, ⟨22, _⟩ => ⟨S4x16x4096x4112, .f32⟩
  | .hbm, ⟨23, _⟩ => ⟨S4x16x4096x4112, .f32⟩
  | .hbm, ⟨24, _⟩ => ⟨S1x4112, .i32⟩
  | .hbm, ⟨25, _⟩ => ⟨S4096x1, .i32⟩
  | .hbm, ⟨26, _⟩ => ⟨S4096x4112, .i32⟩
  | .hbm, ⟨27, _⟩ => ⟨S4096x4112, .i32⟩
  | .hbm, ⟨28, _⟩ => ⟨S4096x4112, .i1⟩
  | .hbm, ⟨29, _⟩ => ⟨S_, .f32⟩
  | .hbm, ⟨30, _⟩ => ⟨S_, .f32⟩
  | .hbm, ⟨31, _⟩ => ⟨S4x16x4096x4112, .i1⟩
  | .hbm, ⟨32, _⟩ => ⟨S4x16x4096x4112, .f32⟩
  | .hbm, ⟨33, _⟩ => ⟨S4x16x4096x4112, .f32⟩
  | .hbm, ⟨34, _⟩ => ⟨S_, .f32⟩
  | .hbm, ⟨35, _⟩ => ⟨S4x16x4096, .f32⟩
  | .hbm, ⟨36, _⟩ => ⟨S_, .f32⟩
  | .hbm, ⟨37, _⟩ => ⟨S4x16x4096, .f32⟩
  | .hbm, ⟨38, _⟩ => ⟨S4x16x4096, .f32⟩
  | .hbm, ⟨39, _⟩ => ⟨S4x16x4096x1, .f32⟩
  | .hbm, ⟨40, _⟩ => ⟨S4x16x4096x4112, .f32⟩
  | .hbm, ⟨41, _⟩ => ⟨S4x16x4096x4112, .f32⟩
  | .hbm, ⟨42, _⟩ => ⟨S4x16x4096x4112, .f32⟩
  | .hbm, ⟨43, _⟩ => ⟨S_, .f32⟩
  | .hbm, ⟨44, _⟩ => ⟨S4x16x4096, .f32⟩
  | .hbm, ⟨45, _⟩ => ⟨S4x16x4096x1, .f32⟩
  | .hbm, ⟨46, _⟩ => ⟨S4x16x4096x4112, .f32⟩
  | .hbm, ⟨47, _⟩ => ⟨S4x16x4096x4112, .f32⟩
  | .hbm, ⟨48, _⟩ => ⟨S4x16x4096x128, .f32⟩
  | .hbm, ⟨49, _⟩ => ⟨S4x4096x16x128, .f32⟩
  | .hbm, ⟨50, _⟩ => ⟨S16384x2048, .f32⟩
  | .hbm, ⟨51, _⟩ => ⟨S16384x2048, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Query.lean ====
abbrev S16384x11264 : Shape := ⟨2, ![16384, 11264]⟩
abbrev S2x512 : Shape := ⟨2, ![2, 512]⟩
abbrev S2x512x3072 : Shape := ⟨3, ![2, 512, 3072]⟩
abbrev S2x192 : Shape := ⟨2, ![2, 192]⟩
abbrev S32 : Shape := ⟨1, ![32]⟩
abbrev S_ : Shape := ⟨0, ![]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4112x128 : Shape := ⟨2, ![4112, 128]⟩
abbrev S32x4112 : Shape := ⟨2, ![32, 4112]⟩
abbrev S32x4096 : Shape := ⟨2, ![32, 4096]⟩
abbrev S1x512x3072 : Shape := ⟨3, ![1, 512, 3072]⟩
abbrev S512x3072 : Shape := ⟨2, ![512, 3072]⟩
abbrev S512x16x192 : Shape := ⟨3, ![512, 16, 192]⟩
abbrev S512x16x128 : Shape := ⟨3, ![512, 16, 128]⟩
abbrev S512x16x64 : Shape := ⟨3, ![512, 16, 64]⟩
abbrev S512x16x32 : Shape := ⟨3, ![512, 16, 32]⟩
abbrev S512x16x256 : Shape := ⟨3, ![512, 16, 256]⟩
abbrev S512x4096 : Shape := ⟨2, ![512, 4096]⟩
abbrev S4096x512 : Shape := ⟨2, ![4096, 512]⟩
abbrev S1x192 : Shape := ⟨2, ![1, 192]⟩
abbrev S192 : Shape := ⟨1, ![192]⟩
abbrev S128 : Shape := ⟨1, ![128]⟩
abbrev S64 : Shape := ⟨1, ![64]⟩
abbrev S256 : Shape := ⟨1, ![256]⟩
abbrev S256x1 : Shape := ⟨2, ![256, 1]⟩
abbrev S1x512 : Shape := ⟨2, ![1, 512]⟩
abbrev S512 : Shape := ⟨1, ![512]⟩
abbrev S4096x16384 : Shape := ⟨2, ![4096, 16384]⟩
abbrev S1024x512 : Shape := ⟨2, ![1024, 512]⟩
abbrev S32x1024 : Shape := ⟨2, ![32, 1024]⟩
abbrev S4096x1024 : Shape := ⟨2, ![4096, 1024]⟩
abbrev S1024 : Shape := ⟨1, ![1024]⟩
abbrev S1024x1 : Shape := ⟨2, ![1024, 1]⟩
abbrev S256x1024 : Shape := ⟨2, ![256, 1024]⟩
abbrev S256x512 : Shape := ⟨2, ![256, 512]⟩
abbrev S1x1024 : Shape := ⟨2, ![1, 1024]⟩
abbrev S128x1024 : Shape := ⟨2, ![128, 1024]⟩

abbrev nBuf : Space → Nat
  | .hbm => 69
  | .vmem => 11
  | .smem => 0
  | _ => 0

abbrev bufTy : (tb : Table) → Fin (tcTables nBuf tb) → BufTy
  | .hbm, ⟨0, _⟩ => ⟨S16384x11264, .f32⟩
  | .hbm, ⟨1, _⟩ => ⟨S2x512, .f32⟩
  | .hbm, ⟨2, _⟩ => ⟨S2x512x3072, .f32⟩
  | .hbm, ⟨3, _⟩ => ⟨S2x192, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S4112, .f32⟩
  | .hbm, ⟨21, _⟩ => ⟨S4112x1, .f32⟩
  | .hbm, ⟨22, _⟩ => ⟨S1x32, .f32⟩
  | .hbm, ⟨23, _⟩ => ⟨S4112x32, .f32⟩
  | .hbm, ⟨24, _⟩ => ⟨S4112x32, .f32⟩
  | .hbm, ⟨25, _⟩ => ⟨S4112x32, .f32⟩
  | .hbm, ⟨26, _⟩ => ⟨S4112x32, .f32⟩
  | .hbm, ⟨27, _⟩ => ⟨S4112x32, .f32⟩
  | .hbm, ⟨28, _⟩ => ⟨S_, .f32⟩
  | .hbm, ⟨29, _⟩ => ⟨S4112x32, .f32⟩
  | .hbm, ⟨30, _⟩ => ⟨S4112x128, .f32⟩
  | .hbm, ⟨31, _⟩ => ⟨S4112x32, .f32⟩
  | .hbm, ⟨32, _⟩ => ⟨S4112x128, .f32⟩
  | .hbm, ⟨33, _⟩ => ⟨S32x4112, .f32⟩
  | .hbm, ⟨34, _⟩ => ⟨S32x4112, .f32⟩
  | .hbm, ⟨35, _⟩ => ⟨S32x4096, .f32⟩
  | .hbm, ⟨36, _⟩ => ⟨S32x4096, .f32⟩
  | .hbm, ⟨37, _⟩ => ⟨S1x512x3072, .f32⟩
  | .hbm, ⟨38, _⟩ => ⟨S512x3072, .f32⟩
  | .hbm, ⟨39, _⟩ => ⟨S512x16x192, .f32⟩
  | .hbm, ⟨40, _⟩ => ⟨S512x16x128, .f32⟩
  | .hbm, ⟨41, _⟩ => ⟨S512x16x64, .f32⟩
  | .hbm, ⟨42, _⟩ => ⟨S_, .f32⟩
  | .hbm, ⟨43, _⟩ => ⟨S512x16x32, .f32⟩
  | .hbm, ⟨44, _⟩ => ⟨S512x16x32, .f32⟩
  | .hbm, ⟨45, _⟩ => ⟨S512x16x32, .f32⟩
  | .hbm, ⟨46, _⟩ => ⟨S512x16x128, .f32⟩
  | .hbm, ⟨47, _⟩ => ⟨S512x16x256, .f32⟩
  | .hbm, ⟨48, _⟩ => ⟨S512x4096, .f32⟩
  | .hbm, ⟨49, _⟩ => ⟨S4096x512, .f32⟩
  | .hbm, ⟨50, _⟩ => ⟨S4096x512, .bf16⟩
  | .hbm, ⟨51, _⟩ => ⟨S1x192, .f32⟩
  | .hbm, ⟨52, _⟩ => ⟨S192, .f32⟩
  | .hbm, ⟨53, _⟩ => ⟨S128, .f32⟩
  | .hbm, ⟨54, _⟩ => ⟨S64, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S32, .f32⟩
  | .hbm, ⟨59, _⟩ => ⟨S128, .f32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256x1, .f32⟩
  | .hbm, ⟨65, _⟩ => ⟨S1x512, .f32⟩
  | .hbm, ⟨66, _⟩ => ⟨S512, .f32⟩
  | .hbm, ⟨67, _⟩ => ⟨S1x512, .f32⟩
  | .hbm, ⟨68, _⟩ => ⟨S4096x16384, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S4096x512, .bf16⟩
  | .local _ .vmem, ⟨4, _⟩ => ⟨S256x1, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S4096x1024, .bf16⟩
  | .local _ .vmem, ⟨10, _⟩ => ⟨S4096x1024, .bf16⟩
  | _, _ => ⟨S16384x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QueryIdeal.lean ====
variable {F : FTy → Type} [FloatOps F] [Named F]
def κ : String → Option EReal := fun
  | "inv_192" => some ((192⁻¹ : ℝ) : EReal)
  | _ => none
-- ==== QueryRefIdeal.lean ====
abbrev S16384x11264 : Shape := ⟨2, ![16384, 11264]⟩
abbrev S2x512 : Shape := ⟨2, ![2, 512]⟩
abbrev S2x512x3072 : Shape := ⟨3, ![2, 512, 3072]⟩
abbrev S2x192 : Shape := ⟨2, ![2, 192]⟩
abbrev S16384x512 : Shape := ⟨2, ![16384, 512]⟩
abbrev S4x4096x512 : Shape := ⟨3, ![4, 4096, 512]⟩
abbrev S1x512 : Shape := ⟨2, ![1, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x512x3072 : Shape := ⟨3, ![1, 512, 3072]⟩
abbrev S512x3072 : Shape := ⟨2, ![512, 3072]⟩
abbrev S4x4096x3072 : Shape := ⟨3, ![4, 4096, 3072]⟩
abbrev S4x4096x16x192 : Shape := ⟨4, ![4, 4096, 16, 192]⟩
abbrev S1x192 : Shape := ⟨2, ![1, 192]⟩
abbrev S192 : Shape := ⟨1, ![192]⟩
abbrev S4x4096x16 : Shape := ⟨3, ![4, 4096, 16]⟩
abbrev S4x4096x16x1 : Shape := ⟨4, ![4, 4096, 16, 1]⟩
abbrev S1x1x1x192 : Shape := ⟨4, ![1, 1, 1, 192]⟩
abbrev S32 : Shape := ⟨1, ![32]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S4x4096x16x128 : Shape := ⟨4, ![4, 4096, 16, 128]⟩
abbrev S1x4096x1x32 : Shape := ⟨4, ![1, 4096, 1, 32]⟩
abbrev S4x4096x16x256 : Shape := ⟨4, ![4, 4096, 16, 256]⟩
abbrev S16384x4096 : Shape := ⟨2, ![16384, 4096]⟩
abbrev S4096x16384 : Shape := ⟨2, ![4096, 16384]⟩

abbrev nBuf : Space → Nat
  | .hbm => 100
  | .vmem => 0
  | .smem => 0
  | _ => 0

abbrev bufTy : (tb : Table) → Fin (tcTables nBuf tb) → BufTy
  | .hbm, ⟨0, _⟩ => ⟨S16384x11264, .f32⟩
  | .hbm, ⟨1, _⟩ => ⟨S2x512, .f32⟩
  | .hbm, ⟨2, _⟩ => ⟨S2x512x3072, .f32⟩
  | .hbm, ⟨3, _⟩ => ⟨S2x192, .f32⟩
  | .hbm, ⟨4, _⟩ => ⟨S16384x512, .f32⟩
  | .hbm, ⟨5, _⟩ => ⟨S4x4096x512, .f32⟩
  | .hbm, ⟨6, _⟩ => ⟨S1x512, .f32⟩
  | .hbm, ⟨7, _⟩ => ⟨S512, .f32⟩
  | .hbm, ⟨8, _⟩ => ⟨S4x4096x512, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x512, .f32⟩
  | .hbm, ⟨20, _⟩ => ⟨S4x4096x512, .f32⟩
  | .hbm, ⟨21, _⟩ => ⟨S1x1x512, .f32⟩
  | .hbm, ⟨22, _⟩ => ⟨S4x4096x512, .f32⟩
  | .hbm, ⟨23, _⟩ => ⟨S4x4096x512, .f32⟩
  | .hbm, ⟨24, _⟩ => ⟨S1x512x3072, .f32⟩
  | .hbm, ⟨25, _⟩ => ⟨S512x3072, .f32⟩
  | .hbm, ⟨26, _⟩ => ⟨S4x4096x3072, .f32⟩
  | .hbm, ⟨27, _⟩ => ⟨S4x4096x16x192, .f32⟩
  | .hbm, ⟨28, _⟩ => ⟨S1x192, .f32⟩
  | .hbm, ⟨29, _⟩ => ⟨S192, .f32⟩
  | .hbm, ⟨30, _⟩ => ⟨S4x4096x16x192, .f32⟩
  | .hbm, ⟨31, _⟩ => ⟨S_, .f32⟩
  | .hbm, ⟨32, _⟩ => ⟨S4x4096x16, .f32⟩
  | .hbm, ⟨33, _⟩ => ⟨S4x4096x16x1, .f32⟩
  | .hbm, ⟨34, _⟩ => ⟨S_, .f32⟩
  | .hbm, ⟨35, _⟩ => ⟨S4x4096x16x1, .f32⟩
  | .hbm, ⟨36, _⟩ => ⟨S4x4096x16x1, .f32⟩
  | .hbm, ⟨37, _⟩ => ⟨S_, .f32⟩
  | .hbm, ⟨38, _⟩ => ⟨S4x4096x16x1, .f32⟩
  | .hbm, ⟨39, _⟩ => ⟨S4x4096x16x1, .f32⟩
  | .hbm, ⟨40, _⟩ => ⟨S4x4096x16x1, .f32⟩
  | .hbm, ⟨41, _⟩ => ⟨S4x4096x16x192, .f32⟩
  | .hbm, ⟨42, _⟩ => ⟨S4x4096x16x192, .f32⟩
  | .hbm, ⟨43, _⟩ => ⟨S1x1x1x192, .f32⟩
  | .hbm, ⟨44, _⟩ => ⟨S4x4096x16x192, .f32⟩
  | .hbm, ⟨45, _⟩ => ⟨S4x4096x16x192, .f32⟩
  | .hbm, ⟨46, _⟩ => ⟨S_, .f32⟩
  | .hbm, ⟨47, _⟩ => ⟨S4x4096x16x192, .f32⟩
  | .hbm, ⟨48, _⟩ => ⟨S4x4096x16x192, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S4112, .f32⟩
  | .hbm, ⟨66, _⟩ => ⟨S4112x1, .f32⟩
  | .hbm, ⟨67, _⟩ => ⟨S1x32, .f32⟩
  | .hbm, ⟨68, _⟩ => ⟨S4112x32, .f32⟩
  | .hbm, ⟨69, _⟩ => ⟨S4112x32, .f32⟩
  | .hbm, ⟨70, _⟩ => ⟨S4112x32, .f32⟩
  | .hbm, ⟨71, _⟩ => ⟨S4112x32, .f32⟩
  | .hbm, ⟨72, _⟩ => ⟨S4112x32, .f32⟩
  | .hbm, ⟨73, _⟩ => ⟨S4096x32, .f32⟩
  | .hbm, ⟨74, _⟩ => ⟨S4096x1x32, .f32⟩
  | .hbm, ⟨75, _⟩ => ⟨S4096x32, .f32⟩
  | .hbm, ⟨76, _⟩ => ⟨S4096x1x32, .f32⟩
  | .hbm, ⟨77, _⟩ => ⟨S4x4096x16x32, .f32⟩
  | .hbm, ⟨78, _⟩ => ⟨S4x4096x16x32, .f32⟩
  | .hbm, ⟨79, _⟩ => ⟨S_, .f32⟩
  | .hbm, ⟨80, _⟩ => ⟨S4x4096x16x32, .f32⟩
  | .hbm, ⟨81, _⟩ => ⟨S4x4096x16x128, .f32⟩
  | .hbm, ⟨82, _⟩ => ⟨S1x4096x1x32, .f32⟩
  | .hbm, ⟨83, _⟩ => ⟨S4x4096x16x32, .f32⟩
  | .hbm, ⟨84, _⟩ => ⟨S4x4096x16x32, .f32⟩
  | .hbm, ⟨85, _⟩ => ⟨S1x4096x1x32, .f32⟩
  | .hbm, ⟨86, _⟩ => ⟨S4x4096x16x32, .f32⟩
  | .hbm, ⟨87, _⟩ => ⟨S4x4096x16x32, .f32⟩
  | .hbm, ⟨88, _⟩ => ⟨S4x4096x16x32, .f32⟩
  | .hbm, ⟨89, _⟩ => ⟨S1x4096x1x32, .f32⟩
  | .hbm, ⟨90, _⟩ => ⟨S4x4096x16x32, .f32⟩
  | .hbm, ⟨91, _⟩ => ⟨S4x4096x16x32, .f32⟩
  | .hbm, ⟨92, _⟩ => ⟨S1x4096x1x32, .f32⟩
  | .hbm, ⟨93, _⟩ => ⟨S4x4096x16x32, .f32⟩
  | .hbm, ⟨94, _⟩ => ⟨S4x4096x16x32, .f32⟩
  | .hbm, ⟨95, _⟩ => ⟨S4x4096x16x32, .f32⟩
  | .hbm, ⟨96, _⟩ => ⟨S4x4096x16x256, .f32⟩
  | .hbm, ⟨97, _⟩ => ⟨S16384x4096, .f32⟩
  | .hbm, ⟨98, _⟩ => ⟨S4096x16384, .f32⟩
  | .hbm, ⟨99, _⟩ => ⟨S4096x16384, .bf16⟩
  | _, _ => ⟨S16384x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== KeyVal.lean ====
abbrev S16384x11264 : Shape := ⟨2, ![16384, 11264]⟩
abbrev S16384x64 : Shape := ⟨2, ![16384, 64]⟩
abbrev S2x512 : Shape := ⟨2, ![2, 512]⟩
abbrev S2x512x4096 : Shape := ⟨3, ![2, 512, 4096]⟩
abbrev S2x192 : Shape := ⟨2, ![2, 192]⟩
abbrev S32 : Shape := ⟨1, ![32]⟩
abbrev S_ : Shape := ⟨0, ![]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4112x128 : Shape := ⟨2, ![4112, 128]⟩
abbrev S32x4112 : Shape := ⟨2, ![32, 4112]⟩
abbrev S4096x128 : Shape := ⟨2, ![4096, 128]⟩
abbrev S16384x128 : Shape := ⟨2, ![16384, 128]⟩
abbrev S16384x32 : Shape := ⟨2, ![16384, 32]⟩
abbrev S16384x256 : Shape := ⟨2, ![16384, 256]⟩
abbrev S1x512x4096 : Shape := ⟨3, ![1, 512, 4096]⟩
abbrev S512x4096 : Shape := ⟨2, ![512, 4096]⟩
abbrev S512x16x256 : Shape := ⟨3, ![512, 16, 256]⟩
abbrev S512x16x128 : Shape := ⟨3, ![512, 16, 128]⟩
abbrev S512x2048 : Shape := ⟨2, ![512, 2048]⟩
abbrev S16x128x512 : Shape := ⟨3, ![16, 128, 512]⟩
abbrev S16x144x512 : Shape := ⟨3, ![16, 144, 512]⟩
abbrev S2304x512 : Shape := ⟨2, ![2304, 512]⟩
abbrev S1x192 : Shape := ⟨2, ![1, 192]⟩
abbrev S192 : Shape := ⟨1, ![192]⟩
abbrev S128 : Shape := ⟨1, ![128]⟩
abbrev S64 : Shape := ⟨1, ![64]⟩
abbrev S256 : Shape := ⟨1, ![256]⟩
abbrev S1x256 : Shape := ⟨2, ![1, 256]⟩
abbrev S1x512 : Shape := ⟨2, ![1, 512]⟩
abbrev S512 : Shape := ⟨1, ![512]⟩
abbrev S16384x4096 : Shape := ⟨2, ![16384, 4096]⟩
abbrev S2304x16384 : Shape := ⟨2, ![2304, 16384]⟩
abbrev S1024x512 : Shape := ⟨2, ![1024, 512]⟩
abbrev S1024x128 : Shape := ⟨2, ![1024, 128]⟩
abbrev S1024x4096 : Shape := ⟨2, ![1024, 4096]⟩
abbrev S2304x1024 : Shape := ⟨2, ![2304, 1024]⟩
abbrev S1024 : Shape := ⟨1, ![1024]⟩
abbrev S1024x1 : Shape := ⟨2, ![1024, 1]⟩
abbrev S1x128 : Shape := ⟨2, ![1, 128]⟩
abbrev S512x256 : Shape := ⟨2, ![512, 256]⟩
abbrev S1024x256 : Shape := ⟨2, ![1024, 256]⟩
abbrev S576x512 : Shape := ⟨2, ![576, 512]⟩
abbrev S576x1024 : Shape := ⟨2, ![576, 1024]⟩
abbrev S16x1024 : Shape := ⟨2, ![16, 1024]⟩

abbrev nBuf : Space → Nat
  | .hbm => 75
  | .vmem => 16
  | .smem => 0
  | _ => 0

abbrev bufTy : (tb : Table) → Fin (tcTables nBuf tb) → BufTy
  | .hbm, ⟨0, _⟩ => ⟨S16384x11264, .f32⟩
  | .hbm, ⟨1, _⟩ => ⟨S16384x64, .f32⟩
  | .hbm, ⟨2, _⟩ => ⟨S2x512, .f32⟩
  | .hbm, ⟨3, _⟩ => ⟨S2x512x4096, .f32⟩
  | .hbm, ⟨4, _⟩ => ⟨S2x192, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4112, .f32⟩
  | .hbm, ⟨22, _⟩ => ⟨S4112x1, .f32⟩
  | .hbm, ⟨23, _⟩ => ⟨S1x32, .f32⟩
  | .hbm, ⟨24, _⟩ => ⟨S4112x32, .f32⟩
  | .hbm, ⟨25, _⟩ => ⟨S4112x32, .f32⟩
  | .hbm, ⟨26, _⟩ => ⟨S4112x32, .f32⟩
  | .hbm, ⟨27, _⟩ => ⟨S4112x32, .f32⟩
  | .hbm, ⟨28, _⟩ => ⟨S4112x32, .f32⟩
  | .hbm, ⟨29, _⟩ => ⟨S_, .f32⟩
  | .hbm, ⟨30, _⟩ => ⟨S4112x32, .f32⟩
  | .hbm, ⟨31, _⟩ => ⟨S4112x128, .f32⟩
  | .hbm, ⟨32, _⟩ => ⟨S4112x32, .f32⟩
  | .hbm, ⟨33, _⟩ => ⟨S4112x128, .f32⟩
  | .hbm, ⟨34, _⟩ => ⟨S32x4112, .f32⟩
  | .hbm, ⟨35, _⟩ => ⟨S32x4112, .f32⟩
  | .hbm, ⟨36, _⟩ => ⟨S4096x128, .f32⟩
  | .hbm, ⟨37, _⟩ => ⟨S4096x128, .f32⟩
  | .hbm, ⟨38, _⟩ => ⟨S_, .f32⟩
  | .hbm, ⟨39, _⟩ => ⟨S16384x128, .f32⟩
  | .hbm, ⟨40, _⟩ => ⟨S_, .f32⟩
  | .hbm, ⟨41, _⟩ => ⟨S16384x32, .f32⟩
  | .hbm, ⟨42, _⟩ => ⟨S16384x32, .f32⟩
  | .hbm, ⟨43, _⟩ => ⟨S16384x32, .f32⟩
  | .hbm, ⟨44, _⟩ => ⟨S16384x128, .f32⟩
  | .hbm, ⟨45, _⟩ => ⟨S16384x256, .f32⟩
  | .hbm, ⟨46, _⟩ => ⟨S1x512x4096, .f32⟩
  | .hbm, ⟨47, _⟩ => ⟨S512x4096, .f32⟩
  | .hbm, ⟨48, _⟩ => ⟨S512x16x256, .f32⟩
  | .hbm, ⟨49, _⟩ => ⟨S512x16x128, .f32⟩
  | .hbm, ⟨50, _⟩ => ⟨S512x2048, .f32⟩
  | .hbm, ⟨51, _⟩ => ⟨S512x2048, .bf16⟩
  | .hbm, ⟨52, _⟩ => ⟨S512x16x128, .f32⟩
  | .hbm, ⟨53, _⟩ => ⟨S16x128x512, .f32⟩
  | .hbm, ⟨54, _⟩ => ⟨S_, .i32⟩
  | .hbm, ⟨55, _⟩ => ⟨S_, .f32⟩
  | .hbm, ⟨56, _⟩ => ⟨S16x144x512, .f32⟩
  | .hbm, ⟨57, _⟩ => ⟨S2304x512, .f32⟩
  | .hbm, ⟨58, _⟩ => ⟨S2304x512, .bf16⟩
  | .hbm, ⟨59, _⟩ => ⟨S1x192, .f32⟩
  | .hbm, ⟨60, _⟩ => ⟨S192, .f32⟩
  | .hbm, ⟨61, _⟩ => ⟨S128, .f32⟩
  | .hbm, ⟨62, _⟩ => ⟨S64, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S128, .f32⟩
  | .hbm, ⟨68, _⟩ => ⟨S256, .f32⟩
  | .hbm, ⟨69, _⟩ => ⟨S1x256, .f32⟩
  | .hbm, ⟨70, _⟩ => ⟨S1x512, .f32⟩
  | .hbm, ⟨71, _⟩ => ⟨S512, .f32⟩
  | .hbm, ⟨72, _⟩ => ⟨S1x512, .f32⟩
  | .hbm, ⟨73, _⟩ => ⟨S16384x4096, .bf16⟩
  | .hbm, ⟨74, _⟩ => ⟨S2304x16384, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1x512, .f32⟩
  | .local _ .vmem, ⟨5, _⟩ => ⟨S512x2048, .bf16⟩
  | .local _ .vmem, ⟨6, _⟩ => ⟨S2304x512, .bf16⟩
  | .local _ .vmem, ⟨7, _⟩ => ⟨S1x256, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x4096, .bf16⟩
  | .local _ .vmem, ⟨13, _⟩ => ⟨S1024x4096, .bf16⟩
  | .local _ .vmem, ⟨14, _⟩ => ⟨S2304x1024, .bf16⟩
  | .local _ .vmem, ⟨15, _⟩ => ⟨S2304x1024, .bf16⟩
  | _, _ => ⟨S16384x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57_0 : Ref sig .tc := ⟨.hbm, 73, rfl⟩
abbrev main_v57_1 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2304x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KeyValIdeal.lean ====
variable {F : FTy → Type} [FloatOps F] [Named F]
def κ : String → Option EReal := fun
  | "inv_192" => some ((192⁻¹ : ℝ) : EReal)
  | _ => none
-- ==== KeyValRefIdeal.lean ====
abbrev S16384x11264 : Shape := ⟨2, ![16384, 11264]⟩
abbrev S16384x64 : Shape := ⟨2, ![16384, 64]⟩
abbrev S2x512 : Shape := ⟨2, ![2, 512]⟩
abbrev S2x512x4096 : Shape := ⟨3, ![2, 512, 4096]⟩
abbrev S2x192 : Shape := ⟨2, ![2, 192]⟩
abbrev S16384x512 : Shape := ⟨2, ![16384, 512]⟩
abbrev S4x4096x512 : Shape := ⟨3, ![4, 4096, 512]⟩
abbrev S1x512 : Shape := ⟨2, ![1, 512]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1x512x4096 : Shape := ⟨3, ![1, 512, 4096]⟩
abbrev S512x4096 : Shape := ⟨2, ![512, 4096]⟩
abbrev S4x4096x4096 : Shape := ⟨3, ![4, 4096, 4096]⟩
abbrev S4x4096x16x256 : Shape := ⟨4, ![4, 4096, 16, 256]⟩
abbrev S4x4096x16x128 : Shape := ⟨4, ![4, 4096, 16, 128]⟩
abbrev S4x4096x1x64 : Shape := ⟨4, ![4, 4096, 1, 64]⟩
abbrev S4x4096x16x64 : Shape := ⟨4, ![4, 4096, 16, 64]⟩
abbrev S4x4096x16x192 : Shape := ⟨4, ![4, 4096, 16, 192]⟩
abbrev S1x192 : Shape := ⟨2, ![1, 192]⟩
abbrev S192 : Shape := ⟨1, ![192]⟩
abbrev S4x4096x16 : Shape := ⟨3, ![4, 4096, 16]⟩
abbrev S4x4096x16x1 : Shape := ⟨4, ![4, 4096, 16, 1]⟩
abbrev S1x1x1x192 : Shape := ⟨4, ![1, 1, 1, 192]⟩
abbrev S32 : Shape := ⟨1, ![32]⟩
abbrev S4112 : Shape := ⟨1, ![4112]⟩
abbrev S4112x1 : Shape := ⟨2, ![4112, 1]⟩
abbrev S1x32 : Shape := ⟨2, ![1, 32]⟩
abbrev S4112x32 : Shape := ⟨2, ![4112, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x16x16 : Shape := ⟨4, ![4, 4096, 16, 16]⟩
abbrev S4x4096x16x144 : Shape := ⟨4, ![4, 4096, 16, 144]⟩
abbrev S16384x4096 : Shape := ⟨2, ![16384, 4096]⟩
abbrev S16384x2304 : Shape := ⟨2, ![16384, 2304]⟩
abbrev S2304x16384 : Shape := ⟨2, ![2304, 16384]⟩

abbrev nBuf : Space → Nat
  | .hbm => 108
  | .vmem => 0
  | .smem => 0
  | _ => 0

abbrev bufTy : (tb : Table) → Fin (tcTables nBuf tb) → BufTy
  | .hbm, ⟨0, _⟩ => ⟨S16384x11264, .f32⟩
  | .hbm, ⟨1, _⟩ => ⟨S16384x64, .f32⟩
  | .hbm, ⟨2, _⟩ => ⟨S2x512, .f32⟩
  | .hbm, ⟨3, _⟩ => ⟨S2x512x4096, .f32⟩
  | .hbm, ⟨4, _⟩ => ⟨S2x192, .f32⟩
  | .hbm, ⟨5, _⟩ => ⟨S16384x512, .f32⟩
  | .hbm, ⟨6, _⟩ => ⟨S4x4096x512, .f32⟩
  | .hbm, ⟨7, _⟩ => ⟨S1x512, .f32⟩
  | .hbm, ⟨8, _⟩ => ⟨S512, .f32⟩
  | .hbm, ⟨9, _⟩ => ⟨S4x4096x512, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x512, .f32⟩
  | .hbm, ⟨21, _⟩ => ⟨S4x4096x512, .f32⟩
  | .hbm, ⟨22, _⟩ => ⟨S1x1x512, .f32⟩
  | .hbm, ⟨23, _⟩ => ⟨S4x4096x512, .f32⟩
  | .hbm, ⟨24, _⟩ => ⟨S4x4096x512, .f32⟩
  | .hbm, ⟨25, _⟩ => ⟨S1x512x4096, .f32⟩
  | .hbm, ⟨26, _⟩ => ⟨S512x4096, .f32⟩
  | .hbm, ⟨27, _⟩ => ⟨S4x4096x4096, .f32⟩
  | .hbm, ⟨28, _⟩ => ⟨S4x4096x16x256, .f32⟩
  | .hbm, ⟨29, _⟩ => ⟨S4x4096x16x128, .f32⟩
  | .hbm, ⟨30, _⟩ => ⟨S4x4096x16x128, .f32⟩
  | .hbm, ⟨31, _⟩ => ⟨S4x4096x1x64, .f32⟩
  | .hbm, ⟨32, _⟩ => ⟨S4x4096x16x64, .f32⟩
  | .hbm, ⟨33, _⟩ => ⟨S4x4096x16x192, .f32⟩
  | .hbm, ⟨34, _⟩ => ⟨S1x192, .f32⟩
  | .hbm, ⟨35, _⟩ => ⟨S192, .f32⟩
  | .hbm, ⟨36, _⟩ => ⟨S4x4096x16x192, .f32⟩
  | .hbm, ⟨37, _⟩ => ⟨S_, .f32⟩
  | .hbm, ⟨38, _⟩ => ⟨S4x4096x16, .f32⟩
  | .hbm, ⟨39, _⟩ => ⟨S4x4096x16x1, .f32⟩
  | .hbm, ⟨40, _⟩ => ⟨S_, .f32⟩
  | .hbm, ⟨41, _⟩ => ⟨S4x4096x16x1, .f32⟩
  | .hbm, ⟨42, _⟩ => ⟨S4x4096x16x1, .f32⟩
  | .hbm, ⟨43, _⟩ => ⟨S_, .f32⟩
  | .hbm, ⟨44, _⟩ => ⟨S4x4096x16x1, .f32⟩
  | .hbm, ⟨45, _⟩ => ⟨S4x4096x16x1, .f32⟩
  | .hbm, ⟨46, _⟩ => ⟨S4x4096x16x1, .f32⟩
  | .hbm, ⟨47, _⟩ => ⟨S4x4096x16x192, .f32⟩
  | .hbm, ⟨48, _⟩ => ⟨S4x4096x16x192, .f32⟩
  | .hbm, ⟨49, _⟩ => ⟨S1x1x1x192, .f32⟩
  | .hbm, ⟨50, _⟩ => ⟨S4x4096x16x192, .f32⟩
  | .hbm, ⟨51, _⟩ => ⟨S4x4096x16x192, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S_, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S4112, .f32⟩
  | .hbm, ⟨69, _⟩ => ⟨S4112x1, .f32⟩
  | .hbm, ⟨70, _⟩ => ⟨S1x32, .f32⟩
  | .hbm, ⟨71, _⟩ => ⟨S4112x32, .f32⟩
  | .hbm, ⟨72, _⟩ => ⟨S4112x32, .f32⟩
  | .hbm, ⟨73, _⟩ => ⟨S4112x32, .f32⟩
  | .hbm, ⟨74, _⟩ => ⟨S4112x32, .f32⟩
  | .hbm, ⟨75, _⟩ => ⟨S4112x32, .f32⟩
  | .hbm, ⟨76, _⟩ => ⟨S4096x32, .f32⟩
  | .hbm, ⟨77, _⟩ => ⟨S4096x1x32, .f32⟩
  | .hbm, ⟨78, _⟩ => ⟨S4096x32, .f32⟩
  | .hbm, ⟨79, _⟩ => ⟨S4096x1x32, .f32⟩
  | .hbm, ⟨80, _⟩ => ⟨S4x4096x16x32, .f32⟩
  | .hbm, ⟨81, _⟩ => ⟨S4x4096x16x32, .f32⟩
  | .hbm, ⟨82, _⟩ => ⟨S_, .f32⟩
  | .hbm, ⟨83, _⟩ => ⟨S4x4096x16x32, .f32⟩
  | .hbm, ⟨84, _⟩ => ⟨S4x4096x16x128, .f32⟩
  | .hbm, ⟨85, _⟩ => ⟨S1x4096x1x32, .f32⟩
  | .hbm, ⟨86, _⟩ => ⟨S4x4096x16x32, .f32⟩
  | .hbm, ⟨87, _⟩ => ⟨S4x4096x16x32, .f32⟩
  | .hbm, ⟨88, _⟩ => ⟨S1x4096x1x32, .f32⟩
  | .hbm, ⟨89, _⟩ => ⟨S4x4096x16x32, .f32⟩
  | .hbm, ⟨90, _⟩ => ⟨S4x4096x16x32, .f32⟩
  | .hbm, ⟨91, _⟩ => ⟨S4x4096x16x32, .f32⟩
  | .hbm, ⟨92, _⟩ => ⟨S1x4096x1x32, .f32⟩
  | .hbm, ⟨93, _⟩ => ⟨S4x4096x16x32, .f32⟩
  | .hbm, ⟨94, _⟩ => ⟨S4x4096x16x32, .f32⟩
  | .hbm, ⟨95, _⟩ => ⟨S1x4096x1x32, .f32⟩
  | .hbm, ⟨96, _⟩ => ⟨S4x4096x16x32, .f32⟩
  | .hbm, ⟨97, _⟩ => ⟨S4x4096x16x32, .f32⟩
  | .hbm, ⟨98, _⟩ => ⟨S4x4096x16x32, .f32⟩
  | .hbm, ⟨99, _⟩ => ⟨S4x4096x16x256, .f32⟩
  | .hbm, ⟨100, _⟩ => ⟨S_, .f32⟩
  | .hbm, ⟨101, _⟩ => ⟨S4x4096x16x16, .f32⟩
  | .hbm, ⟨102, _⟩ => ⟨S4x4096x16x144, .f32⟩
  | .hbm, ⟨103, _⟩ => ⟨S16384x4096, .f32⟩
  | .hbm, ⟨104, _⟩ => ⟨S16384x4096, .bf16⟩
  | .hbm, ⟨105, _⟩ => ⟨S16384x2304, .f32⟩
  | .hbm, ⟨106, _⟩ => ⟨S2304x16384, .f32⟩
  | .hbm, ⟨107, _⟩ => ⟨S2304x16384, .bf16⟩
  | _, _ => ⟨S16384x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_10 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩

abbrev nD : Nat := 1
abbrev τ : Topo := Topo.v7x

variable {F : FTy → Type} [FloatOps F]
-- ==== Proof.WholeStore.lean ====
/- Reading a buffer whose last store covered it whole. Hand-written. -/
module

public import Idealize.ShloMosaic.Lib.Pipeline.ValueKit
public import Idealize.ShloMosaic.Lib.Pipeline.FrameBody

@[expose] public section

namespace Cert.Hand

open Idealize.ShloMosaic

/-- After a last store through the whole-buffer rectangle the buffer reads as that store's payload. -/
theorem read_writes_whole {sig : RefSig} {κ : Kind} {sp : Space} {S : Shape} {e : EltTy} {Val : EltTy → Type}
    [∀ e, Nonempty (Val e)] (v : View sig κ sp S e) (f : v.ty.Contents Val) {off : Fin S.rank → Nat}
    (inb : ∀ a, off a + S.size a ≤ S.size a) (w : S.Idx → Val e) (L : List (View.Piece Val S e)) (h : ∀ a, off a = 0) :
    v.read Val (v.writes Val f ((⟨Rect.unit off (no_index S.size) inb, w⟩ : View.Piece Val S e) :: L)) = w := by
  refine (View.read_writes_eq_canon v f _ fun y => ⟨_, List.mem_cons_self .., ?_⟩).trans
    (View.canon_cons_unit_lit inb w L h)
  refine (Rect.mem_set_unit (inb := inb)).mpr fun a => ⟨?_, ?_⟩
  · rw [h a]; exact Nat.zero_le _
  · rw [h a, Nat.zero_add]; exact (y a).isLt

end Cert.Hand
-- ==== Proof.InProjRun.lean ====
/- What one grid point of the projection call does: at the first row block it casts the weight block into
   the kept scratch and projects the meta tokens, and at every row block it projects the token rows. Hand-written. -/
module

public import proofs.«01_k».proof.Proof.Gen.InProjIdeal.Frame
public import proofs.«01_k».proof.Proof.Gen.InProjIdeal.Skeleton
public import proofs.«01_k».proof.Proof.WholeStore

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch. -/
abbrev cond (i : grid0.Coords) : Prop := k0_cond1 i = 1#1

/-- The branch is taken at the first row block of a weight block. -/
theorem cond_iff : ∀ t : Fin cfg0.N, cond (grid0.coords t) ↔ t.val % 16 = 0 :=
  (fun t => by
    have ht : t.val < 176 := Nat.lt_of_lt_of_eq t.isLt N_0
    have e0 : (grid0.coords t 0).val = t.val / 16 % 11 := Pipeline.Grid.coords_val t 0 (by decide) rfl
    have e1 : (grid0.coords t 1).val = t.val / 1 % 16 := Pipeline.Grid.coords_val t 1 (by decide) rfl
    simp only [cond, k0_cond1, e0, e1]
    word_cmp
   : ∀ t : Fin grid0.N, cond (grid0.coords t) ↔ t.val % 16 = 0)

set_option maxHeartbeats 1000000 in
/-- The body at a first row block: all four stores from the three blocks it reads. -/
theorem body_first (c : Dev nD) (i : grid0.Coords) (arg2 : Memref sig .tc .vmem S1024x2048 .bf16) (harg2 : arg2.IsWhole)
    (arg3 : Memref sig .tc .vmem S16x2048 .bf16) (harg3 : arg3.IsWhole) (arg4 : Memref sig .tc .vmem S1x1024x2048 .f32) (harg4 : arg4.IsWhole)
    (arg5 : Memref sig .tc .vmem S1024x1024 .f32) (harg5 : arg5.IsWhole) (arg6 : Memref sig .tc .vmem S16x1024 .f32) (harg6 : arg6.IsWhole)
    (arg7 : Memref sig .tc .vmem S1024x2048 .bf16) (harg7 : arg7.IsWhole) (hc : cond i)
    (x0 : Vec F S1024x2048 .bf16) (x1 : Vec F S16x2048 .bf16) (x2 : Vec F S1x1024x2048 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 (k0_pay1 x2)) ∗ owns (c : Thread nD τ) arg6 fullShare (k0_pay2 x1 (k0_pay1 x2))
            ∗ owns (c : Thread nD τ) arg7 fullShare (k0_pay1 x2)) -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    frame_out [Cert.Hand.read_writes_whole]
  isplitl [H4]
  · iexists _; isplitr; swap; · iexact H4
    ipureintro
    frame_out [Cert.Hand.read_writes_whole]
  iexists _; isplitr; swap; · iexact H5
  ipureintro
  frame_out [Cert.Hand.read_writes_whole]

set_option maxHeartbeats 1000000 in
/-- The body at a later row block: the token rows against the kept weight block; the rest stays as found. -/
theorem body_later (c : Dev nD) (i : grid0.Coords) (arg2 : Memref sig .tc .vmem S1024x2048 .bf16) (harg2 : arg2.IsWhole)
    (arg3 : Memref sig .tc .vmem S16x2048 .bf16) (harg3 : arg3.IsWhole) (arg4 : Memref sig .tc .vmem S1x1024x2048 .f32) (harg4 : arg4.IsWhole)
    (arg5 : Memref sig .tc .vmem S1024x1024 .f32) (harg5 : arg5.IsWhole) (arg6 : Memref sig .tc .vmem S16x1024 .f32) (harg6 : arg6.IsWhole)
    (arg7 : Memref sig .tc .vmem S1024x2048 .bf16) (harg7 : arg7.IsWhole) (hc : ¬ cond i)
    (x0 : Vec F S1024x2048 .bf16) (x1 : Vec F S16x2048 .bf16) (x2 : Vec F S1x1024x2048 .f32) (y : Vec F S16x1024 .f32) (w : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare y ∗ owns (c : Thread nD τ) arg7 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 w) ∗ owns (c : Thread nD τ) arg6 fullShare y
            ∗ owns (c : Thread nD τ) arg7 fullShare w) -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    frame_out [Cert.Hand.read_writes_whole]
  isplitl [H4]
  · iexists _; isplitr; · ipureintro; exact harg6.read_unread _
    iexact H4
  iexists _; isplitr; · ipureintro; exact harg7.read_unread _
  iexact H5

end Cert.InProjIdeal.Hand

end
-- ==== Proof.InProjFrame.lean ====
/- The run of the projection call: what the buffers hold after every grid point, and the whole launch from it. Hand-written. -/
module

public import proofs.«01_k».proof.Proof.InProjRun

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weight block of a grid point, cast: what the scratch holds after that point. -/
def wblk (c : Dev nD) (t : Fin cfg0.N) : Vec F S1024x2048 .bf16 := k0_pay1 (iblk m c 2 t)

/-- The scratch buffer of the kernel, as the body is passed it. -/
abbrev scratch : Memref sig .tc .vmem S1024x2048 .bf16 := Memref.whole cc0_scratch0

/-- What the scratch holds before point `k`: anything at the first, then the weight block of the point before. -/
def held (c : Dev nD) (k : Fin (cfg0.N + 1)) : sProp 𝕄 :=
  if h : k.val = 0 then iprop(∃ d, owns (c : Thread nD τ) scratch fullShare d)
  else owns (c : Thread nD τ) scratch fullShare (wblk m c ⟨k.val - 1, by have := k.isLt; omega⟩)

/-- The proof data of the call: the token block projected, and the meta tokens projected, each with the
    weight block of the point; the scratch carried from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (wblk m c t)
    | ⟨4, _⟩ => k0_pay2 (iblk m c 1 t) (wblk m c t)
  Φ k := iprop(held m c k ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (iblk m c 0 t) (wblk m c t) := by
  dsimp only [dats]
theorem after_4 (c : Dev nD) (t : Fin cfg0.N) : (dats m 0 c).after 4 t = k0_pay2 (iblk m c 1 t) (wblk m c t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Within a run of row blocks the weight window does not move. -/
theorem blk2_kept (c : Dev nD) (t t' : Fin cfg0.N) (h : (cfg0.win 2).index t = (cfg0.win 2).index t') :
    iblk m c 2 t = iblk m c 2 t' := by
  have e := (dats m 0 c).fetched_congr 2 h rfl (iblk m c 2 t)
  have f (s : Fin cfg0.N) : (dats m 0 c).fetched 2 s (iblk m c 2 t) = iblk m c 2 s := by
    unfold Dat.fetched Dat.blockOf iblk; rw [A_eq]; try rfl
  rwa [f, f] at e

/-- The meta window does not move at all. -/
theorem blk1_kept (c : Dev nD) (t t' : Fin cfg0.N) (h : (cfg0.win 1).index t = (cfg0.win 1).index t') :
    iblk m c 1 t = iblk m c 1 t' := by
  have e := (dats m 0 c).fetched_congr 1 h rfl (iblk m c 1 t)
  have f (s : Fin cfg0.N) : (dats m 0 c).fetched 1 s (iblk m c 1 t) = iblk m c 1 s := by
    unfold Dat.fetched Dat.blockOf iblk; rw [A_eq]; try rfl
  rwa [f, f] at e

/-- The first row of the transposed weight that column block `j` of the output takes. -/
def row0 (j : ℕ) : ℕ := if j < 6 then j * 1024 else if j < 7 then 6160 + (j - 6) * 1024 else 7248 + (j - 7) * 1024

/-- Where the weight and meta windows stand. -/
theorem idx12 : ∀ t : Fin cfg0.N, win0_2.index t = ![0, row0 (t.val / 16), 0] ∧ win0_1.index t = ![0, 0] :=
  (by decide +kernel : ∀ t : Fin grid0.N, _)

/-- At a later row block the weight block is that of the point before. -/
theorem wblk_pred (c : Dev nD) (t : Fin cfg0.N) (h : ¬ t.val % 16 = 0) (hp : t.val - 1 < cfg0.N) :
    wblk m c ⟨t.val - 1, hp⟩ = wblk m c t := by
  unfold wblk
  rw [blk2_kept m c ⟨t.val - 1, hp⟩ t]
  exact (idx12 _).1.trans (Eq.trans (by rw [show (t.val - 1) / 16 = t.val / 16 by omega]) (idx12 t).1.symm)

/-- The meta output is left alone exactly at the later row blocks. -/
theorem idle_4 : ∀ t : Fin cfg0.N, cfg0.idle 4 (grid0.coords t) = !decide (t.val % 16 = 0) :=
  (by decide +kernel : ∀ t : Fin grid0.N, _)

/-- The output windows are not cut. -/
theorem kept_4 (c : Dev nD) (t : Fin cfg0.N) (d) : (dats m 0 c).kept 4 t d = k0_pay2 (iblk m c 1 t) (wblk m c t) := by
  unfold Dat.kept
  rw [after_4, Pipeline.fill_of_clip_none (cfg := cfg0) 4 _ (fun _ => rfl) d (k0_pay2 (iblk m c 1 t) (wblk m c t)), Window.fill_cut]

/-- At a later row block the meta output's buffer still holds the projection of the meta tokens. -/
theorem before_4 (c : Dev nD) (n : ℕ) : ∀ (t : Fin cfg0.N), t.val = n → ¬ t.val % 16 = 0 → ∀ d,
    (dats m 0 c).before 4 t d = k0_pay2 (iblk m c 1 t) (wblk m c t) := by
  induction n with
  | zero => intro t e h; exact absurd (by rw [e]) h
  | succ n ih =>
    intro t e h d
    have h0 : t.val ≠ 0 := by omega
    have hp : t.val - 1 < cfg0.N := Nat.lt_of_le_of_lt (Nat.sub_le _ _) t.isLt
    have hfl : ¬ (cfg0.win 4).flush ⟨t.val - 1, hp⟩ = true := by
      intro hf
      have := (flush0_4 _).mp hf
      simp only at this; omega
    have hk : k0_pay2 (iblk m c 1 ⟨t.val - 1, hp⟩) (wblk m c ⟨t.val - 1, hp⟩) = k0_pay2 (iblk m c 1 t) (wblk m c t) := by
      rw [wblk_pred m c t h, blk1_kept m c ⟨t.val - 1, hp⟩ t ((idx12 _).2.trans (idx12 t).2.symm)]
    rw [(dats m 0 c).before_of_pos 4 t h0 rfl, if_neg hfl]
    unfold Dat.left
    rw [idle_4]
    by_cases hz : (t.val - 1) % 16 = 0
    · simp only [hz, decide_true, Bool.not_true]
      exact (kept_4 m c _ d).trans hk
    · simp only [hz, decide_false, Bool.not_false]
      exact (ih ⟨t.val - 1, hp⟩ (by simp only; omega) hz d).trans hk

/-- After a point the scratch holds that point's weight block. -/
theorem held_succ (c : Dev nD) (t : Fin cfg0.N) :
    held m c t.succ = owns (c : Thread nD τ) scratch fullShare (wblk m c t) :=
  (dif_neg (Nat.succ_ne_zero t.val)).trans
    (congrArg (owns (c : Thread nD τ) scratch fullShare) (congrArg (wblk m c) (Fin.ext (Nat.add_sub_cancel t.val 1))))

/-- Before a later row block the scratch holds the weight block of the run. -/
theorem held_later (c : Dev nD) (t : Fin cfg0.N) (h : ¬ t.val % 16 = 0) :
    held m c t.castSucc = owns (c : Thread nD τ) scratch fullShare (wblk m c t) := by
  have h0 : ¬ t.castSucc.val = 0 := fun e => h (by rw [show t.val = 0 from e])
  exact (dif_neg h0).trans (congrArg (owns (c : Thread nD τ) scratch fullShare) (wblk_pred m c t h _))

/-- Whatever it holds, the scratch is owned. -/
theorem held_any (c : Dev nD) (k : Fin (cfg0.N + 1)) :
    held m c k ⊢ iprop(∃ d, owns (c : Thread nD τ) scratch fullShare d) := by
  unfold held
  split
  · exact .rfl
  · iintro H; iexists _; iexact H

/-- The class invariant in terms of the scratch. -/
theorem inv_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- What the body is given at a point, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it hands back. -/
def handed (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- No window is idle, so each buffer is handed back at its named contents. -/
theorem leaves_eq (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The meta output is handed back with the projection of the meta tokens in it, by anyone who has that. -/
theorem leaves_4 (c : Dev nD) (t : Fin cfg0.N) :
    (owns (c : Thread nD τ) (st0_4 t) fullShare ((dats m 0 c).after 4 t) : sProp 𝕄) ⊢ (dats m 0 c).leavesExact 4 t := by
  unfold Dat.leavesExact
  rw [idle_4]
  by_cases hz : t.val % 16 = 0
  · simp only [hz, decide_true, Bool.not_true]
    exact .rfl
  · simp only [hz, decide_false, Bool.not_false]
    cases (cfg0.win 4).flush t
    · dsimp only
      simp only [before_4 m c _ t rfl hz]
      rw [after_4]
      iintro H
      iexists (k0_pay2 (iblk m c 1 t) (wblk m c t))
      iexact H
    · exact .rfl

set_option maxHeartbeats 1000000 in
/-- The body meets the proof data at every point. -/
theorem body_sound (c : Dev nD) (t : Fin cfg0.N) :
    given m c t ⊢ wp frame (wpE (defs₀ (F := F)) Variants.none c none) Set.univ (bodyAt0 t) (fun _ => handed m c t) := by
  unfold given handed bodyAt0
  simp only [before_0, before_1, before_2]
  rw [show (dats m 0 c).owesAt () t.succ = (dats m 0 c).owesAt () t.castSucc from rfl,
    leaves_eq m c 0 t rfl, leaves_eq m c 1 t rfl, leaves_eq m c 2 t rfl, leaves_eq m c 3 t rfl,
    after_0, after_1, after_2, after_3,
    show (dats m 0 c).Φ t.succ = iprop(held m c t.succ ∗ (∃ r, prngReg c r)) from rfl, held_succ,
    show (dats m 0 c).Φ t.castSucc = iprop(held m c t.castSucc ∗ (∃ r, prngReg c r)) from rfl]
  by_cases h0 : t.val % 16 = 0
  · iintro ⟨⟨HS, Hg⟩, Ho, ⟨%d0, H0⟩, ⟨%d1, H1⟩, ⟨%d2, H2⟩, ⟨%d3, H3⟩, ⟨%d4, H4⟩⟩
    ihave HS := (held_any m c t.castSucc) $$ HS
    iapply (body_first c (grid0.coords t) _ _ _ _ _ _ _ _ _ _ _ _ ((cond_iff t).mpr h0) (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); rw [after_4]; iexact H4
  · simp only [before_4 m c _ t rfl h0]
    rw [held_later m c t h0]
    iintro ⟨⟨HS, Hg⟩, Ho, ⟨%d0, H0⟩, ⟨%d1, H1⟩, ⟨%d2, H2⟩, ⟨%d3, H3⟩, ⟨%d4, H4⟩⟩
    iapply (body_later c (grid0.coords t) _ _ _ _ _ _ _ _ _ _ _ _ (fun h => h0 ((cond_iff t).mp h)) (iblk m c 0 t) (iblk m c 1 t) (iblk m c 2 t)
      (k0_pay2 (iblk m c 1 t) (wblk m c t)) (wblk m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iapply (leaves_4 m c t); rw [after_4]; iexact H4

/-- The body table's row at a point is the body. -/
theorem row_eq (t : Fin cfg0.N) : defs₀ (F := F) .tc cfg0.body (cfg0.bodyArgs t (cfg0.slots t)) = bodyAt0 t := by
  unfold defs₀; rw [Defs.onTc_tc]

/-- The obligation of the launch theorem on the body. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- The first invariant: nothing is known of the scratch. -/
theorem inv_first (c : Dev nD) : Pipeline.ΦA spec0 c ⊢ (dats (F := F) m 0 c).Φ 0 := by
  rw [inv_eq, show (dats m 0 c).Φ 0 = iprop(held m c 0 ∗ (∃ r, prngReg c r)) from rfl]
  have e : (held m c 0 : sProp 𝕄) = iprop(∃ d, owns (c : Thread nD τ) scratch fullShare d) := dif_pos rfl
  rw [e]

/-- The last invariant gives the scratch back. -/
theorem inv_last (c : Dev nD) : (dats (F := F) m 0 c).Φ (Fin.last cfg0.N) ⊢ Pipeline.ΦA spec0 c := by
  rw [inv_eq, show (dats m 0 c).Φ (Fin.last cfg0.N) = iprop(held m c (Fin.last cfg0.N) ∗ (∃ r, prngReg c r)) from rfl]
  iintro ⟨H, Hg⟩
  isplitl [H]
  · iapply (held_any m c _); iexact H
  iexact Hg

set_option backward.isDefEq.respectTransparency.types false in
/-- The launch: every array ends as the proof data says, every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := inv_first m) (hout := inv_last m)

/-- The launch without the counters. -/
theorem run_main : θ_run defs (onTc (τ := τ) (main (F := F))) (s₀ m ρ) (Pipeline.FramePost cfgs (dats m) 0 (V m)) :=
  (θ_run defs _ _).mono (fun _ h => h.1) (run m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run m ρ))

end Cert.InProjIdeal.Hand

end
-- ==== Proof.InProjRef.lean ====
/- What the projection's reference computes: each column of the joined result is one column of the product with
   the first layer's weight, the low-rank and rotary columns left out. Hand-written. -/
module

public import proofs.«01_k».proof.Proof.Gen.InRefIdeal.Read
public import Idealize.ShloMosaic.Lib.Pointwise

@[expose] public section

set_option maxRecDepth 16384

noncomputable section

namespace Cert.InRefIdeal.Hand

open Cert.InRefIdeal Cert.InRefIdeal.Gen Cert.InRefIdeal.Read Idealize.ShloMosaic Idealize.ShloMosaic.TcCoe
open Idealize.SL.Sem Idealize.ShloMosaic.StableHlo

/-- The column of the weight that column `z` of the joined result is the product with. -/
def col (z : ℕ) : ℕ := if z < 6144 then z else if z < 7168 then z + 16 else z + 80

theorem col_lt {z : ℕ} (h : z < 11264) : col z < 11344 := by unfold col; split_ifs <;> omega

/-- The three stretches of columns. -/
theorem col_cases (z : ℕ) : (z < 6144 ∧ col z = z) ∨ (6144 ≤ z ∧ z < 7168 ∧ col z = z + 16) ∨ (7168 ≤ z ∧ col z = z + 80) := by
  unfold col; split_ifs <;> omega

/-- A choice equals what both its branches equal. -/
theorem either {α : Type} {c : Prop} [Decidable c] {a : c → α} {b : ¬ c → α} {r : α} (ha : ∀ h, a h = r) (hb : ∀ h, b h = r) :
    dite c a b = r := by split <;> simp only [ha, hb]

/-- The joined projection of the tokens at an index. -/
theorem val14 (x0 : (⟨S16384x2048, .bf16⟩ : BufTy).Contents (Elt Ideal)) (x2 : (⟨S2x2048x11344, .f32⟩ : BufTy).Contents (Elt Ideal))
    (z : S16384x11264.Idx) :
    val_main_v14 (F := Ideal) x0 x2 z
      = ∑ k : Fin 2048, x0 (ix2 (z 0) k) * x2 (ix3 0 k ⟨col (z 1).val, col_lt (z 1).isLt⟩) := by
  pointwise [val_main_v14, val_main_v13, val_main_v12, val_main_v10, val_main_v9, val_main_v7, val_main_v6,
    val_main_v5, val_main_v4, val_main_v3, val_main_v2, val_main_v1, val_main_v0]
  have hc := col_cases (z 1).val
  repeat' refine either (fun _ => ?_) fun _ => ?_
  all_goals
    refine Finset.sum_congr rfl fun k _ => congrArg (x0 (ix2 (z 0) k) * ·) (congrArg x2 (congrArg (ix3 0 k) (Fin.ext ?_)))
    show _ = col (z 1).val
    dsimp only
    omega

/-- The joined projection of the meta tokens at an index. -/
theorem val29 (x1 : (⟨S16x2048, .bf16⟩ : BufTy).Contents (Elt Ideal)) (x2 : (⟨S2x2048x11344, .f32⟩ : BufTy).Contents (Elt Ideal))
    (z : S16x11264.Idx) :
    val_main_v29 (F := Ideal) x1 x2 z
      = ∑ k : Fin 2048, x1 (ix2 (z 0) k) * x2 (ix3 0 k ⟨col (z 1).val, col_lt (z 1).isLt⟩) := by
  pointwise [val_main_v29, val_main_v28, val_main_v27, val_main_v25, val_main_v24, val_main_v22, val_main_v21,
    val_main_v20, val_main_v19, val_main_v18, val_main_v17, val_main_v16, val_main_v15]
  have hc := col_cases (z 1).val
  repeat' refine either (fun _ => ?_) fun _ => ?_
  all_goals
    refine Finset.sum_congr rfl fun k _ => congrArg (x1 (ix2 (z 0) k) * ·) (congrArg x2 (congrArg (ix3 0 k) (Fin.ext ?_)))
    show _ = col (z 1).val
    dsimp only
    omega

end Cert.InRefIdeal.Hand

end
-- ==== Proof.InProjValue.lean ====
/- The equation of the projection call: what each block stores is the reference's at the array index under the
   block index, so both results are the reference's. Hand-written. -/
module

public import proofs.«01_k».proof.Proof.InProjFrame
public import proofs.«01_k».proof.Proof.InProjRef
public import Idealize.ShloMosaic.Lib.Pipeline.ValueKit
public import Idealize.ShloMosaic.Lib.Pointwise
public import Idealize.ShloMosaic.Lib.Claim

@[expose] public section

set_option maxRecDepth 16384

noncomputable section

namespace Cert.InProjIdeal.Hand

open Cert.InProjIdeal Cert.InProjIdeal.Gen Idealize.ShloMosaic Idealize.ShloMosaic.TcCoe
open Idealize.SL.Sem Idealize.ShloMosaic.StableHlo
open Cert.InRefIdeal.Hand (col col_lt)
open Idealize.ShloMosaic.Pipeline (Dat Cfg Window)

variable (m : (ℓ : Loc nD τ sig) → Buf (Elt Ideal) ℓ)

/-- Where the windows stand. -/
theorem idx : ∀ t : Fin cfg0.N, win0_0.index t = ![t.val % 16, 0] ∧ win0_1.index t = ![0, 0]
    ∧ win0_2.index t = ![0, row0 (t.val / 16), 0] ∧ win0_3.index t = ![t.val % 16, t.val / 16]
    ∧ win0_4.index t = ![0, t.val / 16] :=
  (by decide +kernel : ∀ t : Fin grid0.N, _)

/-- The weight window reads the transposed weight at its element offset plus the block index. -/
theorem rows (t : Fin cfg0.N) (y : S1x1024x2048.Idx) (a : Fin 3) :
    ((((View.whole main_v0).slice (win0_2.rect t)).emb y a : Fin _) : ℕ) = win0_2.index t a + (y a).val := by
  exact Pipeline.Window.rect_emb_val_off win0_2 t y a

/-- The first row of a column block is the source column of its first column, and so on through the block. -/
theorem col_block {j y : ℕ} (hj : j < 11) (hy : y < 1024) : col (j * 1024 + y) = row0 j + y := by
  unfold col row0
  split_ifs <;> omega

theorem row_lt {j y : ℕ} (hj : j < 11) (hy : y < 1024) : row0 j + y < 11344 := by
  unfold row0
  split_ifs <;> omega

theorem coord_lt (t : Fin cfg0.N) : t.val / 16 < 11 := by
  have h : t.val < 176 := t.isLt
  omega

/-- The scratch at an index: the weight's entry, column and row exchanged. -/
theorem wblk_apply (c : Dev nD) (t : Fin cfg0.N) (y : S1024x2048.Idx) :
    wblk m c t y = m ((c : Thread nD τ).loc main_arg2)
      (ix3 0 (y 1) ⟨row0 (t.val / 16) + (y 0).val, row_lt (coord_lt t) (y 0).isLt⟩) := by
  unfold wblk
  pointwise [k0_pay1]
  unfold iblk
  entry_read
  have e (a : Fin 3) := rows t (ix3 0 (y 0) (y 1)) a
  rw [(idx t).2.2.1] at e
  rw [View.read_apply]
  show transpose S2x11344x2048 [0, 2, 1] (m (c, Proc.tc.devRef main_arg2)) transposes_S2x2048x11344_S2x11344x2048_0_2_1
    (((View.whole main_v0).slice (win0_2.rect t)).emb (ix3 0 (y 0) (y 1))) = _
  generalize ((View.whole main_v0).slice (win0_2.rect t)).emb (ix3 0 (y 0) (y 1)) = z at e
  pointwise []
  refine congrArg (m ((c : Thread nD τ).loc main_arg2)) (funext fun a => Fin.ext ?_)
  match a with
  | ⟨0, _⟩ => exact e 0
  | ⟨1, _⟩ => exact (e 2).trans (Nat.zero_add _)
  | ⟨2, _⟩ => exact e 1

/-- What the token block stores is the reference's. -/
theorem point3 (c : Dev nD) (t : Fin cfg0.N) (y : S1024x1024.Idx) :
    k0_pay3 (iblk m c 0 t) (wblk m c t) y
      = Cert.InRefIdeal.Read.val_main_v14 (F := Ideal) (m ((c : Thread nD τ).loc main_arg0)) (m ((c : Thread nD τ).loc main_arg2))
          (((cfg0.win 3).blk t).view.emb y) := by
  rw [Cert.InRefIdeal.Hand.val14]
  pointwise [k0_pay3]
  simp only [wblk_apply]
  have e1 : (((cfg0.win 3).blk t).view.emb y 1).val = t.val / 16 * 1024 + (y 1).val :=
    (Pipeline.Window.rect_emb_val win0_3 t y 1).trans (by rw [(idx t).2.2.2.1]; rfl)
  refine Finset.sum_congr rfl fun k _ => congrArg₂ (· * ·) ?_ ?_
  · blk_ext [iblk, V, idx t]
  · refine congrArg (m ((c : Thread nD τ).loc main_arg2)) (congrArg (ix3 0 k) (Fin.ext ?_))
    exact ((congrArg col e1).trans (col_block (coord_lt t) (y 1).isLt)).symm

/-- What the meta block stores is the reference's. -/
theorem point4 (c : Dev nD) (t : Fin cfg0.N) (y : S16x1024.Idx) :
    k0_pay2 (iblk m c 1 t) (wblk m c t) y
      = Cert.InRefIdeal.Read.val_main_v29 (F := Ideal) (m ((c : Thread nD τ).loc main_arg1)) (m ((c : Thread nD τ).loc main_arg2))
          (((cfg0.win 4).blk t).view.emb y) := by
  rw [Cert.InRefIdeal.Hand.val29]
  pointwise [k0_pay2]
  simp only [wblk_apply]
  have e1 : (((cfg0.win 4).blk t).view.emb y 1).val = t.val / 16 * 1024 + (y 1).val :=
    (Pipeline.Window.rect_emb_val win0_4 t y 1).trans (by rw [(idx t).2.2.2.2]; rfl)
  refine Finset.sum_congr rfl fun k _ => congrArg₂ (· * ·) ?_ ?_
  · blk_ext [iblk, V, idx t]
  · refine congrArg (m ((c : Thread nD τ).loc main_arg2)) (congrArg (ix3 0 k) (Fin.ext ?_))
    exact ((congrArg col e1).trans (col_block (coord_lt t) (y 1).isLt)).symm

/-- The projection of the tokens after the run is the reference's. -/
theorem final3 (c : Dev nD) : (dats m 0 c).arrAt 3 cfg0.N
    = Cert.InRefIdeal.Read.val_main_v14 (F := Ideal) (m ((c : Thread nD τ).loc main_arg0)) (m ((c : Thread nD τ).loc main_arg2)) := by
  refine (dats m 0 c).arrAt_eq_of_covers 3 _ (by decide +kernel) fun t _ y => ?_
  blk_simp
  rw [after_3]
  exact point3 m c t y

/-- The projection of the meta tokens after the run is the reference's. -/
theorem final4 (c : Dev nD) : (dats m 0 c).arrAt 4 cfg0.N
    = Cert.InRefIdeal.Read.val_main_v29 (F := Ideal) (m ((c : Thread nD τ).loc main_arg1)) (m ((c : Thread nD τ).loc main_arg2)) := by
  refine (dats m 0 c).arrAt_eq_of_covers 4 _ (by decide +kernel) fun t _ y => ?_
  blk_simp
  rw [after_4]
  exact point4 m c t y

end Cert.InProjIdeal.Hand

end
-- ==== Proof.InProjClaim.lean ====
/- The claims about the projection call: the frames of the kernel at the ideal instance and of the reference, and
   that both results are the reference's. Hand-written. -/
module

public import proofs.«01_k».proof.Defs
public import proofs.«01_k».proof.Proof.Gen.InProj
public import proofs.«01_k».proof.Proof.InProjValue
public import proofs.«01_k».proof.Proof.Gen.InRefIdeal.Run
public import Idealize.ShloMosaic.Lib.Claim

@[expose] public section

set_option maxRecDepth 16384

noncomputable section

namespace Cert.Proof

open Idealize.ShloMosaic Idealize.SL.Sem

/-- The projection call over the reals ends with its arguments unchanged and every counter at zero. -/
theorem frame_inIdeal : Cert.quiescent_InProjIdeal := fun m g _ => Cert.InProjIdeal.Hand.frame m g

/-- The body tables of the two printings are the same. -/
theorem rows_in : Cert.InProjIdeal.defs₀ (F := Bits) = Cert.InProj.defs₀ (F := Bits) := by
  unfold Cert.InProjIdeal.defs₀ Cert.InProj.defs₀
  congr 1
  funext a b
  match a, b with
  | 0, (_, _) => rfl

/-- So are the tables with the call's region and pipeline. -/
theorem table_in : Cert.InProjIdeal.defs (F := Bits) = Cert.InProj.defs (F := Bits) :=
  congrArg (Pipeline.defs Cert.InProjIdeal.pcfgs) rows_in

/-- The projection call on machine words ends with its arguments unchanged and every counter at zero: it is the
    same text, and the run above is over any float values. -/
theorem frame_in : Cert.quiescent_InProj := fun m g _ => by
  have h := Cert.InProjIdeal.Hand.frame (F := Bits) m g
  rw [table_in] at h
  exact h

/-- The projection's reference ends with its arguments unchanged and every counter at zero. -/
theorem frame_inRef : Cert.quiescent_InRefIdeal := by
  intro m g _
  exact (θ_run Cert.InRefIdeal.defs _ _).mono
    (fun r h => ⟨fun c => (h c).2.2, sem_eq_zero_of_no_sems (by decide) r.2⟩)
    (Cert.InRefIdeal.Value.run (F := Ideal) m g)

/-- Both results of the projection call equal the reference's over the reals. -/
theorem algebraic_in : Cert.algebraic_InProjIdeal_InRefIdeal := by
  pair_intro
  · run_from Cert.InProjIdeal.Hand.run_main m g
  · run_from Cert.InRefIdeal.Value.run m' g'
    · rw [Cert.InRefIdeal.Read.val_main_v14_eq]
      simp only [hagree c]
      exact (Cert.InProjIdeal.Hand.final3 m c).symm
    · rw [Cert.InRefIdeal.Read.val_main_v29_eq]
      simp only [hagree c]
      exact (Cert.InProjIdeal.Hand.final4 m c).symm

end Cert.Proof

end
-- ==== Proof.MergeValue.lean ====
/- The values of the merging call: what each block of its two results holds, and that both arrays are
   the reference's. Hand-written. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- Subtracting from zero is negating. -/
theorem zero_sub' (x : EReal) : 0 - x = -x := by rw [sub_eq_add_neg, zero_add]

/-- Where every window stands at a grid point: row block `t` of the token arrays, the gate columns of `z`
    at their element offsets, the second layer's weights. -/
theorem idx : ∀ t : Fin cfg0.N,
    win0_0.index t = ![t.val, 0] ∧ win0_1.index t = ![t.val, 0] ∧ win0_2.index t = ![1, 0, 0]
      ∧ win0_3.index t = ![1, 0, 0] ∧ win0_4.index t = ![1, 0, 0] ∧ win0_5.index t = ![t.val * 256, 7168]
      ∧ win0_6.index t = ![t.val * 256, 9216] ∧ win0_7.index t = ![t.val, 0] ∧ win0_8.index t = ![0, 0]
      ∧ win0_9.index t = ![t.val, 0] ∧ win0_10.index t = ![t.val, 0] :=
  (by decide +kernel : ∀ t : Fin grid0.N, _)

/-- The first gate's window reads the array at its element offset plus the block index. -/
theorem gate5 (t : Fin cfg0.N) (y : S256x2048.Idx) (a : Fin 2) :
    ((((View.whole main_arg2).slice (win0_5.rect t)).emb y a : Fin _) : ℕ) = win0_5.index t a + (y a).val := by
  exact Pipeline.Window.rect_emb_val_off win0_5 t y a

/-- The second gate's window reads the array at its element offset plus the block index. -/
theorem gate6 (t : Fin cfg0.N) (y : S256x2048.Idx) (a : Fin 2) :
    ((((View.whole main_arg2).slice (win0_6.rect t)).emb y a : Fin _) : ℕ) = win0_6.index t a + (y a).val := by
  exact Pipeline.Window.rect_emb_val_off win0_6 t y a

/-- The residual sum that a block stores is the reference's at the array index under the block index. -/
theorem point28 (c : Dev nD) (t : Fin cfg0.N) (y : S256x2048.Idx) :
    k0_pay1
        (k0_pay6 (iblk m c 0 t) (iblk m c 1 t) (iblk m c 2 t) (iblk m c 3 t) (iblk m c 4 t) (iblk m c 5 t) (iblk m c 6 t) (iblk m c 7 t) (iblk m c 8 t))
        (iblk m c 7 t)
        (k0_pay7 (iblk m c 0 t) (iblk m c 1 t) (iblk m c 2 t) (iblk m c 3 t) (iblk m c 4 t) (iblk m c 5 t) (iblk m c 6 t) (iblk m c 7 t) (iblk m c 8 t))
        (k0_pay5 (iblk m c 0 t) (iblk m c 1 t) (iblk m c 2 t) (iblk m c 3 t) (iblk m c 4 t) (iblk m c 5 t) (iblk m c 6 t) (iblk m c 7 t) (iblk m c 8 t)) y
      = val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6))
          (((cfg0.win 9).blk t).view.emb y) := by
  pointwise [k0_pay1, k0_pay5, k0_pay6, k0_pay7, k0_pay3, k0_pay4, val_main_v28, val_main_v27, val_main_v26, val_main_v25, val_main_v24, val_main_v23,
    val_main_v22, val_main_v21, val_main_v20, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0,
    val_main_cst, val_main_cst_0, val_main_cst_1, val_main_cst_2]
  simp only [zero_sub']
  blk_point [iblk, V, idx t]
  · exact (gate5 t _ 0).trans (by rw [(idx t).2.2.2.2.2.1]; rfl)
  · exact (gate5 t _ 1).trans (by rw [(idx t).2.2.2.2.2.1]; rfl)
  · exact (gate6 t _ 0).trans (by rw [(idx t).2.2.2.2.2.2.1]; rfl)
  · exact (gate6 t _ 1).trans (by rw [(idx t).2.2.2.2.2.2.1]; rfl)

/-- The residual result after the run is the reference's. -/
theorem final28 (c : Dev nD) : (dats m 0 c).arrAt 9 cfg0.N
    = val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 9 _ (by decide +kernel) fun t _ y => ?_
  blk_simp
  rw [after0_9]
  frame_out
  exact point28 m c t y

/-- The normalised row that a block stores is the reference's. -/
theorem point44 (c : Dev nD) (t : Fin cfg0.N) (y : S256x2048.Idx) :
    k0_pay2
        (k0_pay6 (iblk m c 0 t) (iblk m c 1 t) (iblk m c 2 t) (iblk m c 3 t) (iblk m c 4 t) (iblk m c 5 t) (iblk m c 6 t) (iblk m c 7 t) (iblk m c 8 t))
        (iblk m c 7 t)
        (k0_pay7 (iblk m c 0 t) (iblk m c 1 t) (iblk m c 2 t) (iblk m c 3 t) (iblk m c 4 t) (iblk m c 5 t) (iblk m c 6 t) (iblk m c 7 t) (iblk m c 8 t))
        (k0_pay5 (iblk m c 0 t) (iblk m c 1 t) (iblk m c 2 t) (iblk m c 3 t) (iblk m c 4 t) (iblk m c 5 t) (iblk m c 6 t) (iblk m c 7 t) (iblk m c 8 t))
        (iblk m c 8 t) y
      = val_main_v44 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (((cfg0.win 10).blk t).view.emb y) := by
  have h := point28 m c t
  generalize k0_pay6 (iblk m c 0 t) (iblk m c 1 t) (iblk m c 2 t) (iblk m c 3 t) (iblk m c 4 t) (iblk m c 5 t) (iblk m c 6 t) (iblk m c 7 t) (iblk m c 8 t) = u at h ⊢
  generalize k0_pay7 (iblk m c 0 t) (iblk m c 1 t) (iblk m c 2 t) (iblk m c 3 t) (iblk m c 4 t) (iblk m c 5 t) (iblk m c 6 t) (iblk m c 7 t) (iblk m c 8 t) = v at h ⊢
  generalize k0_pay5 (iblk m c 0 t) (iblk m c 1 t) (iblk m c 2 t) (iblk m c 3 t) (iblk m c 4 t) (iblk m c 5 t) (iblk m c 6 t) (iblk m c 7 t) (iblk m c 8 t) = w at h ⊢
  pointwise [k0_pay2, val_main_v44, val_main_v43, val_main_v42, val_main_v41, val_main_v40, val_main_v39, val_main_v38,
    val_main_v37, val_main_v36, val_main_v35, val_main_v34, val_main_v33, val_main_v32, val_main_v31, val_main_v30,
    val_main_v29, val_main_cst_3, val_main_cst_4, val_main_cst_5]
  rw [h y]
  simp only [h]
  have e (x : Fin 2048) : ((cfg0.win 9).blk t).view.emb (ix2 (y 0) x)
      = ix2 (((cfg0.win 10).blk t).view.emb y 0) x := by
    blk_ext [idx t]
  have e' : ((cfg0.win 9).blk t).view.emb y = ((cfg0.win 10).blk t).view.emb y := by
    blk_ext [idx t]
  have g : iblk m c 8 t (ix2 0 (y 1)) = m ((c : Thread nD τ).loc main_arg7)
      (ix2 1 (((cfg0.win 10).blk t).view.emb y 1)) := by
    blk_ext! [iblk, V, idx t]
  erw [e', g]
  have es (f : S16384x2048.Idx → EReal) :
      (∑ x : Fin 2048, f (((cfg0.win 9).blk t).view.emb (ix2 (y 0) x)) * f (((cfg0.win 9).blk t).view.emb (ix2 (y 0) x)))
        = ∑ x : Fin 2048, f (ix2 (((cfg0.win 10).blk t).view.emb y 0) x) * f (ix2 (((cfg0.win 10).blk t).view.emb y 0) x) :=
    Finset.sum_congr rfl fun x _ => by rw [e x]; rfl
  erw [es]

/-- The normalised result after the run is the reference's. -/
theorem final44 (c : Dev nD) : (dats m 0 c).arrAt 10 cfg0.N
    = val_main_v44 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  frame_out
  exact point44 m c t y

end Cert.MergeIdeal.Hand

end
-- ==== Proof.MergeClaim.lean ====
/- The claims about the merging call: its two results are the reference's, and the reference leaves its
   arguments as they were. Hand-written. -/
module

public import proofs.«01_k».proof.Defs
public import proofs.«01_k».proof.Proof.MergeValue
public import proofs.«01_k».proof.Proof.Gen.MergeRefIdeal.Run
public import Idealize.ShloMosaic.Lib.Claim

@[expose] public section

set_option maxRecDepth 16384

noncomputable section

namespace Cert.Proof

open Idealize.ShloMosaic Idealize.SL.Sem

/-- The merging reference ends with its arguments unchanged and every counter at zero. -/
theorem frame_mergeRef : Cert.quiescent_MergeRefIdeal := by
  intro m g _
  exact (θ_run Cert.MergeRefIdeal.defs _ _).mono
    (fun r h => ⟨fun c => (h c).2.2, sem_eq_zero_of_no_sems (by decide) r.2⟩)
    (Cert.MergeRefIdeal.Value.run (F := Ideal) m g)

/-- Both results of the merging call equal the reference's over the reals. -/
theorem algebraic_merge : Cert.algebraic_MergeIdeal_MergeRefIdeal := by
  pair_intro
  · run_from Cert.MergeIdeal.Value.run_blocks m g
  · run_from Cert.MergeRefIdeal.Value.run m' g'
    · rw [Cert.MergeIdeal.Hand.final28 m c]
      exact Cert.MergeRefIdeal.Read.val_main_v28_eq ..
    · rw [Cert.MergeRefIdeal.Read.val_main_v44_eq]
      simp only [hagree c]
      exact (Cert.MergeIdeal.Hand.final44 m c).symm

end Cert.Proof

end
-- ==== Proof.GateUpValue.lean ====
/- The values of the gate-and-up call: what each block of its result holds, and that the array is the
   reference's. Hand-written. -/
module

public import proofs.«01_k».proof.Proof.Gen.GateUpIdeal.Value
public import proofs.«01_k».proof.Proof.Gen.GateUpRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.GateUpIdeal.Hand

open Cert.GateUpIdeal Cert.GateUpIdeal.Gen Idealize.ShloMosaic Idealize.ShloMosaic.TcCoe Idealize.SL.Sem
open Idealize.ShloMosaic.Pipeline (Dat)
open Cert.GateUpRefIdeal.Read

variable (m : (ℓ : Loc nD τ sig) → Buf (Elt Ideal) ℓ)

/-- Subtracting from zero is negating. -/
theorem zero_sub' (x : EReal) : 0 - x = -x := by rw [sub_eq_add_neg, zero_add]

/-- Where every window stands at a grid point: row block `t % 16` of the tokens, column block `t / 16` of the
    second layer's gate weights, the block eleven further on for its up weights. -/
theorem idx : ∀ t : Fin cfg0.N,
    win0_0.index t = ![t.val % 16, 0] ∧ win0_1.index t = ![1, 0, t.val / 16]
      ∧ win0_2.index t = ![1, 0, t.val / 16 + 11] ∧ win0_3.index t = ![t.val % 16, t.val / 16] :=
  (by decide +kernel : ∀ t : Fin grid0.N, _)

/-- Two points of one column block read the same block of gate weights. -/
theorem gate_same (c : Dev nD) (t t' : Fin cfg0.N) (h : t.val / 16 = t'.val / 16) : iblk m c 1 t = iblk m c 1 t' := by
  funext y
  blk_ext [iblk, V, idx t, idx t']

/-- Two points of one column block read the same block of up weights. -/
theorem up_same (c : Dev nD) (t t' : Fin cfg0.N) (h : t.val / 16 = t'.val / 16) : iblk m c 2 t = iblk m c 2 t' := by
  funext y
  blk_ext [iblk, V, idx t, idx t']

/-- What the two weight buffers carry after every point: the cast gate and up blocks of that point's columns. -/
theorem carried (c : Dev nD) : ∀ (n : ℕ) (hn : n < cfg0.N),
    (outsAt0 m c n hn).2.1 = k0_pay1 (F := Ideal) (iblk m c 1 ⟨n, hn⟩)
      ∧ (outsAt0 m c n hn).2.2 = k0_pay2 (F := Ideal) (iblk m c 2 ⟨n, hn⟩) := by
  intro n
  induction n with
  | zero =>
    intro hn
    have e := outsAt0_A m c ⟨0, hn⟩ (Nat.zero_mod _)
    dsimp only at e
    rw [e]
    constructor
    · frame_out
    · frame_out
  | succ n ih =>
    intro hn
    by_cases h0 : (n + 1) % 16 = 0
    · have e := outsAt0_A m c ⟨n + 1, hn⟩ h0
      dsimp only at e
      rw [e]
      constructor
      · frame_out
      · frame_out
    · have e := outsAt0_B m c ⟨n + 1, hn⟩ h0
      dsimp only at e
      rw [e]
      have p := ih (Nat.lt_of_succ_lt hn)
      have hd : (n + 1) / 16 = n / 16 := by omega
      constructor
      · unfold sout0_B_0
        rw [gate_same m c ⟨n + 1, hn⟩ ⟨n, Nat.lt_of_succ_lt hn⟩ hd]
        exact p.1
      · unfold sout0_B_1
        rw [up_same m c ⟨n + 1, hn⟩ ⟨n, Nat.lt_of_succ_lt hn⟩ hd]
        exact p.2

/-- What a block stores is the reference's at the array index under the block index. -/
theorem point (c : Dev nD) (t : Fin cfg0.N) (y : S1024x512.Idx) :
    k0_pay3 (F := Ideal) (iblk m c 0 t) (k0_pay1 (F := Ideal) (iblk m c 1 t)) (k0_pay2 (F := Ideal) (iblk m c 2 t)) y
      = val_main_v8 (F := Ideal) (m ((c : Thread nD τ).loc main_arg0)) (m ((c : Thread nD τ).loc main_arg1))
          (((cfg0.win 3).blk t).view.emb y) := by
  pointwise [k0_pay1, k0_pay2, k0_pay3, val_main_v8, val_main_v7, val_main_v6, val_main_call0_v5, val_main_call0_v4,
    val_main_call0_cst_0, val_main_call0_v3, val_main_call0_v2, val_main_call0_cst, val_main_call0_v1, val_main_call0_v0,
    val_main_v5, val_main_v4, val_main_v3, val_main_v2, val_main_v1, val_main_v0]
  simp only [zero_sub']
  blk_point [iblk, V, idx t]

/-- The call's result is the reference's. -/
theorem final (c : Dev nD) : (dats m 0 c).arrAt 3 (cfgs 0).N
    = val_main_v8 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  by_cases h0 : t.val % 16 = 0
  · rw [outsAt0_A m c t h0]
    frame_out
    exact point m c t y
  · have hp : t.val - 1 < cfg0.N := Nat.lt_of_le_of_lt (Nat.sub_le _ _) t.isLt
    have hd : t.val / 16 = (t.val - 1) / 16 := by omega
    have q := carried m c (t.val - 1) hp
    have q1 := q.1.trans (congrArg (k0_pay1 (F := Ideal)) (gate_same m c t ⟨t.val - 1, hp⟩ hd).symm)
    have q2 := q.2.trans (congrArg (k0_pay2 (F := Ideal)) (up_same m c t ⟨t.val - 1, hp⟩ hd).symm)
    rw [outsAt0_B m c t h0]
    generalize (outsAt0 m c (t.val - 1) hp).2.1 = g at q1 ⊢
    generalize (outsAt0 m c (t.val - 1) hp).2.2 = u at q2 ⊢
    subst q1
    subst q2
    frame_out
    simp only [read_unread_whole]
    exact point m c t y

end Cert.GateUpIdeal.Hand

end
-- ==== Proof.GateUpClaim.lean ====
/- The claims about the gate-and-up call: its result is the reference's, and every program of the pair leaves
   its arguments as they were. Hand-written. -/
module

public import proofs.«01_k».proof.Defs
public import proofs.«01_k».proof.Proof.GateUpValue
public import proofs.«01_k».proof.Proof.Gen.GateUp
public import proofs.«01_k».proof.Proof.Gen.GateUpRefIdeal.Run
public import Idealize.ShloMosaic.Lib.Claim

@[expose] public section

set_option maxRecDepth 16384

noncomputable section

namespace Cert.Proof

open Idealize.ShloMosaic Idealize.SL.Sem

/-- The gate-and-up call over the reals ends with its arguments unchanged and every counter at zero. -/
theorem frame_gateUpIdeal : Cert.quiescent_GateUpIdeal := fun m g _ => Cert.GateUpIdeal.Gen.frame m g

/-- The body tables of the two printings are the same. -/
theorem rows_gateUp : Cert.GateUpIdeal.defs₀ (F := Bits) = Cert.GateUp.defs₀ (F := Bits) := by
  unfold Cert.GateUpIdeal.defs₀ Cert.GateUp.defs₀
  congr 1
  funext a b
  match a, b with
  | 0, (_, _) => rfl

/-- So are the tables with the call's region and pipeline. -/
theorem table_gateUp : Cert.GateUpIdeal.defs (F := Bits) = Cert.GateUp.defs (F := Bits) :=
  congrArg (Pipeline.defs Cert.GateUpIdeal.pcfgs) rows_gateUp

/-- The gate-and-up call on machine words ends with its arguments unchanged and every counter at zero: it is the
    same text, and the run is over any float values. -/
theorem frame_gateUp : Cert.quiescent_GateUp := fun m g _ => by
  have h := Cert.GateUpIdeal.Gen.frame (F := Bits) m g
  rw [table_gateUp] at h
  exact h

/-- The gate-and-up reference ends with its arguments unchanged and every counter at zero. -/
theorem frame_gateUpRef : Cert.quiescent_GateUpRefIdeal := by
  intro m g _
  exact (θ_run Cert.GateUpRefIdeal.defs _ _).mono
    (fun r h => ⟨fun c => (h c).2, sem_eq_zero_of_no_sems (by decide) r.2⟩)
    (Cert.GateUpRefIdeal.Value.run (F := Ideal) m g)

/-- The gate-and-up call's result equals the reference's over the reals. -/
theorem algebraic_gateUp : Cert.algebraic_GateUpIdeal_GateUpRefIdeal := by
  pair_intro
  · run_from Cert.GateUpIdeal.Value.run_blocks m g
  · run_from Cert.GateUpRefIdeal.Value.run m' g'
    rw [Cert.GateUpRefIdeal.Read.val_main_v8_eq]
    exact (Cert.GateUpIdeal.Hand.final m c).symm

end Cert.Proof

end
-- ==== Proof.DownValue.lean ====
/- The values of the down-projecting call: what each block of its result holds, and that the array is the
   reference's. Hand-written. -/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DownIdeal.Hand

open Cert.DownIdeal Cert.DownIdeal.Gen Idealize.ShloMosaic Idealize.ShloMosaic.TcCoe Idealize.SL.Sem
open Idealize.ShloMosaic.Pipeline (Dat)
open Cert.DownRefIdeal.Read

variable (m : (ℓ : Loc nD τ sig) → Buf (Elt Ideal) ℓ)

/-- Where every window stands at a grid point: row block `t / 2` of the tokens, half `t % 2` of the
    contracted columns and of the second layer's weight rows. -/
theorem idx : ∀ t : Fin cfg0.N,
    win0_0.index t = ![t.val / 2, t.val % 2] ∧ win0_1.index t = ![1, t.val % 2, 0]
      ∧ win0_2.index t = ![t.val / 2, 0] ∧ win0_3.index t = ![t.val / 2, 0] :=
  (by decide +kernel : ∀ t : Fin grid0.N, _)

/-- The first half of a row block's product, which the accumulator carries into the second point. -/
theorem carried (c : Dev nD) (t : Fin cfg0.N) (h0 : t.val % 2 = 0) :
    (outsAt0 m c t.val t.isLt).2 = k0_pay1 (F := Ideal) (iblk m c 0 t) (iblk m c 1 t) := by
  rw [outsAt0_A m c t h0 (by omega)]
  frame_out

/-- A sum over the contracted columns is the sum over their first half plus that over their second. -/
theorem halves (f : Fin 5632 → EReal) :
    ∑ k, f k = (∑ x : Fin 2816, f ⟨x.val, by omega⟩) + ∑ x : Fin 2816, f ⟨2816 + x.val, by omega⟩ :=
  Fin.sum_univ_add (a := 2816) (b := 2816) f

/-- What the second point stores is the reference's at the array index under the block index. -/
theorem point (c : Dev nD) (t s : Fin cfg0.N) (h : t.val % 2 = 1) (hs : s.val = t.val - 1) (y : S512x2048.Idx) :
    k0_pay3 (F := Ideal) (iblk m c 2 t) (k0_pay1 (F := Ideal) (iblk m c 0 s) (iblk m c 1 s)) (iblk m c 0 t) (iblk m c 1 t) y
      = val_main_v4 (F := Ideal) (m ((c : Thread nD τ).loc main_arg0)) (m ((c : Thread nD τ).loc main_arg1))
          (m ((c : Thread nD τ).loc main_arg2)) (((cfg0.win 3).blk t).view.emb y) := by
  pointwise [k0_pay1, k0_pay3, val_main_v4, val_main_v3, val_main_v2, val_main_v1, val_main_v0]
  rw [halves]
  have ht : t.val < 64 := lt_of_lt_of_eq t.isLt N_0
  have hr : iblk m c 2 t y = m ((c : Thread nD τ).loc main_arg2) (((cfg0.win 3).blk t).view.emb y) := by
    blk_ext! [iblk, V, idx t]
  have ha (x : Fin 2816) : iblk m c 0 s (ix2 (y 0) x)
      = m ((c : Thread nD τ).loc main_arg0) (ix2 (((cfg0.win 3).blk t).view.emb y 0) ⟨x.val, by omega⟩) := by
    blk_ext! [iblk, V, idx t, idx s]
  have hb (x : Fin 2816) : iblk m c 0 t (ix2 (y 0) x)
      = m ((c : Thread nD τ).loc main_arg0) (ix2 (((cfg0.win 3).blk t).view.emb y 0) ⟨2816 + x.val, by omega⟩) := by
    blk_ext! [iblk, V, idx t]
  have hc (x : Fin 2816) : iblk m c 1 s (ix3 0 x (y 1))
      = m ((c : Thread nD τ).loc main_arg1) (ix3 1 ⟨x.val, by omega⟩ (((cfg0.win 3).blk t).view.emb y 1)) := by
    blk_ext! [iblk, V, idx t, idx s]
  have hd (x : Fin 2816) : iblk m c 1 t (ix3 0 x (y 1))
      = m ((c : Thread nD τ).loc main_arg1) (ix3 1 ⟨2816 + x.val, by omega⟩ (((cfg0.win 3).blk t).view.emb y 1)) := by
    blk_ext! [iblk, V, idx t]
  erw [hr]
  simp only [ha, hb, hc, hd]

/-- The call's result is the reference's. -/
theorem final (c : Dev nD) : (dats m 0 c).arrAt 3 (cfgs 0).N
    = val_main_v4 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  have h1 : t.val % 2 = 1 := (flush0_3 t).mp hf
  have hp : t.val - 1 < cfg0.N := Nat.lt_of_le_of_lt (Nat.sub_le _ _) t.isLt
  have q := carried m c ⟨t.val - 1, hp⟩ (by dsimp only; omega)
  dsimp only at q
  blk_simp
  rw [after0_3, outsAt0_B m c t (by omega) h1]
  generalize (outsAt0 m c (t.val - 1) hp).2 = g at q ⊢
  subst q
  frame_out
  simp only [read_unread_whole]
  exact point m c t ⟨t.val - 1, hp⟩ h1 rfl y

end Cert.DownIdeal.Hand

end
-- ==== Proof.DownClaim.lean ====
/- The claims about the down-projecting call: its result is the reference's, and every program of the pair leaves
   its arguments as they were. Hand-written. -/
module

public import proofs.«01_k».proof.Defs
public import proofs.«01_k».proof.Proof.DownValue
public import proofs.«01_k».proof.Proof.Gen.Down
public import proofs.«01_k».proof.Proof.Gen.DownRefIdeal.Run
public import Idealize.ShloMosaic.Lib.Claim

@[expose] public section

set_option maxRecDepth 16384

noncomputable section

namespace Cert.Proof

open Idealize.ShloMosaic Idealize.SL.Sem

/-- The down-projecting call over the reals ends with its arguments unchanged and every counter at zero. -/
theorem frame_downIdeal : Cert.quiescent_DownIdeal := fun m g _ => Cert.DownIdeal.Gen.frame m g

/-- The body tables of the two printings are the same. -/
theorem rows_down : Cert.DownIdeal.defs₀ (F := Bits) = Cert.Down.defs₀ (F := Bits) := by
  unfold Cert.DownIdeal.defs₀ Cert.Down.defs₀
  congr 1
  funext a b
  match a, b with
  | 0, (_, _) => rfl

/-- So are the tables with the call's region and pipeline. -/
theorem table_down : Cert.DownIdeal.defs (F := Bits) = Cert.Down.defs (F := Bits) :=
  congrArg (Pipeline.defs Cert.DownIdeal.pcfgs) rows_down

/-- The down-projecting call on machine words ends with its arguments unchanged and every counter at zero: it is the
    same text, and the run is over any float values. -/
theorem frame_down : Cert.quiescent_Down := fun m g _ => by
  have h := Cert.DownIdeal.Gen.frame (F := Bits) m g
  rw [table_down] at h
  exact h

/-- The down-projecting reference ends with its arguments unchanged and every counter at zero. -/
theorem frame_downRef : Cert.quiescent_DownRefIdeal := by
  intro m g _
  exact (θ_run Cert.DownRefIdeal.defs _ _).mono
    (fun r h => ⟨fun c => (h c).2, sem_eq_zero_of_no_sems (by decide) r.2⟩)
    (Cert.DownRefIdeal.Value.run (F := Ideal) m g)

/-- The down-projecting call's result equals the reference's over the reals. -/
theorem algebraic_down : Cert.algebraic_DownIdeal_DownRefIdeal := by
  pair_intro
  · run_from Cert.DownIdeal.Value.run_blocks m g
  · run_from Cert.DownRefIdeal.Value.run m' g'
    rw [Cert.DownRefIdeal.Read.val_main_v4_eq]
    exact (Cert.DownIdeal.Hand.final m c).symm

end Cert.Proof

end
-- ==== Proof.AttnTrip.lean ====
/- What one trip of the attention call's loop does: the next key block's scores replace the kept ones while the kept
   ones are folded, half a query block at a time and head by head, into the running maximum and the running sums.
   Hand-written. -/
module

public import proofs.«01_k».proof.Proof.Gen.AttnIdeal.Frame
public import proofs.«01_k».proof.Proof.Gen.AttnIdeal.Skeleton
public import Idealize.ShloMosaic.Lib.Exec
public import Idealize.ShloMosaic.Lib.Tactic
public import Idealize.ShloMosaic.Lib.Pipeline.Kit
public import proofs.«01_k».proof.Proof.WholeStore

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kept scores of one head. -/
abbrev sAt0 (S : Vec F S4x512x512 .f32) : Vec F S1x512x512 .f32 := View.ld (Val := Elt F) S (Rect.unit (s := S4x512x512) ![0, 0, 0] S1x512x512.size inb_S4x512x512_S1x512x512_0_0_0)
abbrev sAt1 (S : Vec F S4x512x512 .f32) : Vec F S1x512x512 .f32 := View.ld (Val := Elt F) S (Rect.unit (s := S4x512x512) ![1, 0, 0] S1x512x512.size inb_S4x512x512_S1x512x512_1_0_0)
abbrev sAt2 (S : Vec F S4x512x512 .f32) : Vec F S1x512x512 .f32 := View.ld (Val := Elt F) S (Rect.unit (s := S4x512x512) ![2, 0, 0] S1x512x512.size inb_S4x512x512_S1x512x512_2_0_0)
abbrev sAt3 (S : Vec F S4x512x512 .f32) : Vec F S1x512x512 .f32 := View.ld (Val := Elt F) S (Rect.unit (s := S4x512x512) ![3, 0, 0] S1x512x512.size inb_S4x512x512_S1x512x512_3_0_0)

/-- The running maximum of one head over one half of the query block. -/
abbrev mAt0L (M : Vec F S4x1x512 .f32) : Vec F S1x1x256 .f32 := View.ld (Val := Elt F) M (Rect.unit (s := S4x1x512) ![0, 0, 0] S1x1x256.size inb_S4x1x512_S1x1x256_0_0_0)
abbrev mAt0R (M : Vec F S4x1x512 .f32) : Vec F S1x1x256 .f32 := View.ld (Val := Elt F) M (Rect.unit (s := S4x1x512) ![0, 0, 256] S1x1x256.size inb_S4x1x512_S1x1x256_0_0_256)
abbrev mAt1L (M : Vec F S4x1x512 .f32) : Vec F S1x1x256 .f32 := View.ld (Val := Elt F) M (Rect.unit (s := S4x1x512) ![1, 0, 0] S1x1x256.size inb_S4x1x512_S1x1x256_1_0_0)
abbrev mAt1R (M : Vec F S4x1x512 .f32) : Vec F S1x1x256 .f32 := View.ld (Val := Elt F) M (Rect.unit (s := S4x1x512) ![1, 0, 256] S1x1x256.size inb_S4x1x512_S1x1x256_1_0_256)
abbrev mAt2L (M : Vec F S4x1x512 .f32) : Vec F S1x1x256 .f32 := View.ld (Val := Elt F) M (Rect.unit (s := S4x1x512) ![2, 0, 0] S1x1x256.size inb_S4x1x512_S1x1x256_2_0_0)
abbrev mAt2R (M : Vec F S4x1x512 .f32) : Vec F S1x1x256 .f32 := View.ld (Val := Elt F) M (Rect.unit (s := S4x1x512) ![2, 0, 256] S1x1x256.size inb_S4x1x512_S1x1x256_2_0_256)
abbrev mAt3L (M : Vec F S4x1x512 .f32) : Vec F S1x1x256 .f32 := View.ld (Val := Elt F) M (Rect.unit (s := S4x1x512) ![3, 0, 0] S1x1x256.size inb_S4x1x512_S1x1x256_3_0_0)
abbrev mAt3R (M : Vec F S4x1x512 .f32) : Vec F S1x1x256 .f32 := View.ld (Val := Elt F) M (Rect.unit (s := S4x1x512) ![3, 0, 256] S1x1x256.size inb_S4x1x512_S1x1x256_3_0_256)

/-- The running sums of one head over one half of the query block. -/
abbrev aAt0L (A : Vec F S4x144x512 .f32) : Vec F S1x144x256 .f32 := View.ld (Val := Elt F) A (Rect.unit (s := S4x144x512) ![0, 0, 0] S1x144x256.size inb_S4x144x512_S1x144x256_0_0_0)
abbrev aAt0R (A : Vec F S4x144x512 .f32) : Vec F S1x144x256 .f32 := View.ld (Val := Elt F) A (Rect.unit (s := S4x144x512) ![0, 0, 256] S1x144x256.size inb_S4x144x512_S1x144x256_0_0_256)
abbrev aAt1L (A : Vec F S4x144x512 .f32) : Vec F S1x144x256 .f32 := View.ld (Val := Elt F) A (Rect.unit (s := S4x144x512) ![1, 0, 0] S1x144x256.size inb_S4x144x512_S1x144x256_1_0_0)
abbrev aAt1R (A : Vec F S4x144x512 .f32) : Vec F S1x144x256 .f32 := View.ld (Val := Elt F) A (Rect.unit (s := S4x144x512) ![1, 0, 256] S1x144x256.size inb_S4x144x512_S1x144x256_1_0_256)
abbrev aAt2L (A : Vec F S4x144x512 .f32) : Vec F S1x144x256 .f32 := View.ld (Val := Elt F) A (Rect.unit (s := S4x144x512) ![2, 0, 0] S1x144x256.size inb_S4x144x512_S1x144x256_2_0_0)
abbrev aAt2R (A : Vec F S4x144x512 .f32) : Vec F S1x144x256 .f32 := View.ld (Val := Elt F) A (Rect.unit (s := S4x144x512) ![2, 0, 256] S1x144x256.size inb_S4x144x512_S1x144x256_2_0_256)
abbrev aAt3L (A : Vec F S4x144x512 .f32) : Vec F S1x144x256 .f32 := View.ld (Val := Elt F) A (Rect.unit (s := S4x144x512) ![3, 0, 0] S1x144x256.size inb_S4x144x512_S1x144x256_3_0_0)
abbrev aAt3R (A : Vec F S4x144x512 .f32) : Vec F S1x144x256 .f32 := View.ld (Val := Elt F) A (Rect.unit (s := S4x144x512) ![3, 0, 256] S1x144x256.size inb_S4x144x512_S1x144x256_3_0_256)

/-- The running maximum kept as four heads' halves. -/
def packM (a b c d e f g h : Vec F S1x1x256 .f32) : Vec F S4x1x512 .f32 :=
  View.canon (Val := Elt F) [
    ⟨Rect.unit (s := S4x1x512) ![3, 0, 256] S1x1x256.size inb_S4x1x512_S1x1x256_3_0_256, h⟩,
    ⟨Rect.unit (s := S4x1x512) ![3, 0, 0] S1x1x256.size inb_S4x1x512_S1x1x256_3_0_0, g⟩,
    ⟨Rect.unit (s := S4x1x512) ![2, 0, 256] S1x1x256.size inb_S4x1x512_S1x1x256_2_0_256, f⟩,
    ⟨Rect.unit (s := S4x1x512) ![2, 0, 0] S1x1x256.size inb_S4x1x512_S1x1x256_2_0_0, e⟩,
    ⟨Rect.unit (s := S4x1x512) ![1, 0, 256] S1x1x256.size inb_S4x1x512_S1x1x256_1_0_256, d⟩,
    ⟨Rect.unit (s := S4x1x512) ![1, 0, 0] S1x1x256.size inb_S4x1x512_S1x1x256_1_0_0, c⟩,
    ⟨Rect.unit (s := S4x1x512) ![0, 0, 256] S1x1x256.size inb_S4x1x512_S1x1x256_0_0_256, b⟩,
    ⟨Rect.unit (s := S4x1x512) ![0, 0, 0] S1x1x256.size inb_S4x1x512_S1x1x256_0_0_0, a⟩]

/-- The running sums as they are stored, four heads' halves. -/
def listA (a b c d e f g h : Vec F S1x144x256 .f32) : List (View.Piece (Elt F) S4x144x512 .f32) := [
    ⟨Rect.unit (s := S4x144x512) ![3, 0, 256] S1x144x256.size inb_S4x144x512_S1x144x256_3_0_256, h⟩,
    ⟨Rect.unit (s := S4x144x512) ![3, 0, 0] S1x144x256.size inb_S4x144x512_S1x144x256_3_0_0, g⟩,
    ⟨Rect.unit (s := S4x144x512) ![2, 0, 256] S1x144x256.size inb_S4x144x512_S1x144x256_2_0_256, f⟩,
    ⟨Rect.unit (s := S4x144x512) ![2, 0, 0] S1x144x256.size inb_S4x144x512_S1x144x256_2_0_0, e⟩,
    ⟨Rect.unit (s := S4x144x512) ![1, 0, 256] S1x144x256.size inb_S4x144x512_S1x144x256_1_0_256, d⟩,
    ⟨Rect.unit (s := S4x144x512) ![1, 0, 0] S1x144x256.size inb_S4x144x512_S1x144x256_1_0_0, c⟩,
    ⟨Rect.unit (s := S4x144x512) ![0, 0, 256] S1x144x256.size inb_S4x144x512_S1x144x256_0_0_256, b⟩,
    ⟨Rect.unit (s := S4x144x512) ![0, 0, 0] S1x144x256.size inb_S4x144x512_S1x144x256_0_0_0, a⟩]

/-- The running sums kept as four heads' halves. -/
def packA (a b c d e f g h : Vec F S1x144x256 .f32) : Vec F S4x144x512 .f32 := View.canon (Val := Elt F) (listA a b c d e f g h)

/-- The kept scores as they are stored. -/
def listS (a b c d : Vec F S1x512x512 .f32) : List (View.Piece (Elt F) S4x512x512 .f32) := [
    ⟨Rect.unit (s := S4x512x512) ![3, 0, 0] S1x512x512.size inb_S4x512x512_S1x512x512_3_0_0, d⟩,
    ⟨Rect.unit (s := S4x512x512) ![2, 0, 0] S1x512x512.size inb_S4x512x512_S1x512x512_2_0_0, c⟩,
    ⟨Rect.unit (s := S4x512x512) ![1, 0, 0] S1x512x512.size inb_S4x512x512_S1x512x512_1_0_0, b⟩,
    ⟨Rect.unit (s := S4x512x512) ![0, 0, 0] S1x512x512.size inb_S4x512x512_S1x512x512_0_0_0, a⟩]

/-- The kept scores of four heads. -/
def packS (a b c d : Vec F S1x512x512 .f32) : Vec F S4x512x512 .f32 := View.canon (Val := Elt F) (listS a b c d)

/-- The running maximum after a half block of scores, on the left and on the right. -/
def mL (s : FVec F S512x512 .f32) (m : Vec F S1x1x256 .f32) : Vec F S1x1x256 .f32 := k0_pay32 (k0_pay28 s m)
def mR (s : FVec F S512x512 .f32) (m : Vec F S1x1x256 .f32) : Vec F S1x1x256 .f32 := k0_pay24 (k0_pay19 s m)

/-- The running sums after a half block of scores and values, on the left and on the right. -/
def aL (s : FVec F S512x512 .f32) (m : Vec F S1x1x256 .f32) (a : Vec F S1x144x256 .f32) (v : Vec F S144x512 .bf16) : Vec F S1x144x256 .f32 :=
  k0_pay31 (k0_pay29 s m) (k0_pay30 s m) a v
def aR (s : FVec F S512x512 .f32) (m : Vec F S1x1x256 .f32) (a : Vec F S1x144x256 .f32) (v : Vec F S144x512 .bf16) : Vec F S1x144x256 .f32 :=
  k0_pay23 (k0_pay20 s m a) (k0_pay21 v) (k0_pay22 s m)

/-- The running maximum after a key block's scores, four heads. -/
def stepM (s0 s1 s2 s3 : FVec F S512x512 .f32) (M : Vec F S4x1x512 .f32) : Vec F S4x1x512 .f32 :=
  packM (mL s0 (mAt0L M)) (mR s0 (mAt0R M)) (mL s1 (mAt1L M)) (mR s1 (mAt1R M))
    (mL s2 (mAt2L M)) (mR s2 (mAt2R M)) (mL s3 (mAt3L M)) (mR s3 (mAt3R M))

/-- The running sums after a key block's scores and values, as they are stored. -/
def stepAL (s0 s1 s2 s3 : FVec F S512x512 .f32) (v0 v1 v2 v3 : Vec F S144x512 .bf16)
    (M : Vec F S4x1x512 .f32) (A : Vec F S4x144x512 .f32) : List (View.Piece (Elt F) S4x144x512 .f32) :=
  listA (aL s0 (mAt0L M) (aAt0L A) v0) (aR s0 (mAt0R M) (aAt0R A) v0) (aL s1 (mAt1L M) (aAt1L A) v1) (aR s1 (mAt1R M) (aAt1R A) v1)
    (aL s2 (mAt2L M) (aAt2L A) v2) (aR s2 (mAt2R M) (aAt2R A) v2) (aL s3 (mAt3L M) (aAt3L A) v3) (aR s3 (mAt3R M) (aAt3R A) v3)

/-- The running sums after a key block's scores and values, four heads. -/
def stepA (s0 s1 s2 s3 : FVec F S512x512 .f32) (v0 v1 v2 v3 : Vec F S144x512 .bf16)
    (M : Vec F S4x1x512 .f32) (A : Vec F S4x144x512 .f32) : Vec F S4x144x512 .f32 :=
  View.canon (Val := Elt F) (stepAL s0 s1 s2 s3 v0 v1 v2 v3 M A)

/-- The running maximum after one trip. -/
def tripM (M : Vec F S4x1x512 .f32) (S : Vec F S4x512x512 .f32) : Vec F S4x1x512 .f32 :=
  stepM (k0_pay6 (sAt0 S)) (k0_pay6 (sAt1 S)) (k0_pay6 (sAt2 S)) (k0_pay6 (sAt3 S)) M

/-- The running sums after one trip. -/
def tripA (i : grid0.Coords) (x2 : Vec F S576x4096 .bf16) (k : Fin (k0_t1_loop i).trips)
    (M : Vec F S4x1x512 .f32) (A : Vec F S4x144x512 .f32) (S : Vec F S4x512x512 .f32) : Vec F S4x144x512 .f32 :=
  stepA (k0_pay6 (sAt0 S)) (k0_pay6 (sAt1 S)) (k0_pay6 (sAt2 S)) (k0_pay6 (sAt3 S))
    (View.ld (Val := Elt F) x2 (Rect.unit (s := S576x4096) (k0_off7 i k) S144x512.size (k0_off7_inb i k)))
    (View.ld (Val := Elt F) x2 (Rect.unit (s := S576x4096) (k0_off10 i k) S144x512.size (k0_off10_inb i k)))
    (View.ld (Val := Elt F) x2 (Rect.unit (s := S576x4096) (k0_off13 i k) S144x512.size (k0_off13_inb i k)))
    (View.ld (Val := Elt F) x2 (Rect.unit (s := S576x4096) (k0_off16 i k) S144x512.size (k0_off16_inb i k))) M A

/-- The scores a trip keeps for the next. -/
def tripS (i : grid0.Coords) (x0 : Vec F S1024x4096 .bf16) (x1 : Vec F S4096x1024 .bf16) (k : Fin (k0_t1_loop i).trips) : Vec F S4x512x512 .f32 :=
  packS
    (k0_pay10 (View.ld (Val := Elt F) x1 (Rect.unit (s := S4096x1024) (k0_off5 i k) S512x256.size (k0_off5_inb i k)))
      (View.ld (Val := Elt F) x0 (Rect.unit (s := S1024x4096) (k0_off6 i) S256x512.size (k0_off6_inb i))))
    (k0_pay10 (View.ld (Val := Elt F) x1 (Rect.unit (s := S4096x1024) (k0_off8 i k) S512x256.size (k0_off8_inb i k)))
      (View.ld (Val := Elt F) x0 (Rect.unit (s := S1024x4096) (k0_off9 i) S256x512.size (k0_off9_inb i))))
    (k0_pay10 (View.ld (Val := Elt F) x1 (Rect.unit (s := S4096x1024) (k0_off11 i k) S512x256.size (k0_off11_inb i k)))
      (View.ld (Val := Elt F) x0 (Rect.unit (s := S1024x4096) (k0_off12 i) S256x512.size (k0_off12_inb i))))
    (k0_pay10 (View.ld (Val := Elt F) x1 (Rect.unit (s := S4096x1024) (k0_off14 i k) S512x256.size (k0_off14_inb i k)))
      (View.ld (Val := Elt F) x0 (Rect.unit (s := S1024x4096) (k0_off15 i) S256x512.size (k0_off15_inb i))))

/-- The three scratches' contents: the running maximum, the running sums and the scores kept for the next trip. -/
structure St (F : FTy → Type) [FloatOps F] [Named F] where
  /-- The running maximum. -/
  M : Vec F S4x1x512 .f32
  /-- The running sums. -/
  A : Vec F S4x144x512 .f32
  /-- The kept scores. -/
  S : Vec F S4x512x512 .f32

/-- One trip, on the three scratches' contents. -/
def trip (i : grid0.Coords) (x0 : Vec F S1024x4096 .bf16) (x1 : Vec F S4096x1024 .bf16) (x2 : Vec F S576x4096 .bf16)
    (k : Fin (k0_t1_loop i).trips) (s : St F) : St F := ⟨tripM s.M s.S, tripA i x2 k s.M s.A s.S, tripS i x0 x1 k⟩

theorem trip_M (i : grid0.Coords) (x0 : Vec F S1024x4096 .bf16) (x1 : Vec F S4096x1024 .bf16) (x2 : Vec F S576x4096 .bf16)
    (k : Fin (k0_t1_loop i).trips) (s : St F) : (trip i x0 x1 x2 k s).M = tripM s.M s.S := by rw [trip]
theorem trip_A (i : grid0.Coords) (x0 : Vec F S1024x4096 .bf16) (x1 : Vec F S4096x1024 .bf16) (x2 : Vec F S576x4096 .bf16)
    (k : Fin (k0_t1_loop i).trips) (s : St F) : (trip i x0 x1 x2 k s).A = tripA i x2 k s.M s.A s.S := by rw [trip]
theorem trip_S (i : grid0.Coords) (x0 : Vec F S1024x4096 .bf16) (x1 : Vec F S4096x1024 .bf16) (x2 : Vec F S576x4096 .bf16)
    (k : Fin (k0_t1_loop i).trips) (s : St F) : (trip i x0 x1 x2 k s).S = tripS i x0 x1 k := by rw [trip]

/-- The first trips, one after the other. -/
def trips (i : grid0.Coords) (x0 : Vec F S1024x4096 .bf16) (x1 : Vec F S4096x1024 .bf16) (x2 : Vec F S576x4096 .bf16)
    (s : St F) : ℕ → St F
  | 0 => s
  | k + 1 => if h : k < (k0_t1_loop i).trips then trip i x0 x1 x2 ⟨k, h⟩ (trips i x0 x1 x2 s k) else trips i x0 x1 x2 s k

theorem trips_zero (i : grid0.Coords) (x0 : Vec F S1024x4096 .bf16) (x1 : Vec F S4096x1024 .bf16) (x2 : Vec F S576x4096 .bf16)
    (s : St F) : trips i x0 x1 x2 s 0 = s := by rw [trips.eq_def]

theorem trips_succ (i : grid0.Coords) (x0 : Vec F S1024x4096 .bf16) (x1 : Vec F S4096x1024 .bf16) (x2 : Vec F S576x4096 .bf16)
    (s : St F) (k : Fin (k0_t1_loop i).trips) :
    trips i x0 x1 x2 s (k.val + 1) = trip i x0 x1 x2 k (trips i x0 x1 x2 s k.val) := dif_pos k.isLt

variable (i : grid0.Coords)

set_option maxHeartbeats 4000000 in
/-- One trip: what the three scratches hold after it, from what they hold before it. -/
theorem trip_sound (c : Dev nD) (arg2 : BitVec 32) (arg3 : Memref sig .tc .vmem S1024x4096 .bf16) (harg3 : arg3.IsWhole)
    (arg4 : Memref sig .tc .vmem S4096x1024 .bf16) (harg4 : arg4.IsWhole) (arg5 : Memref sig .tc .vmem S576x4096 .bf16) (harg5 : arg5.IsWhole)
    (arg6 : Memref sig .tc .vmem S16x1024 .bf16) (harg6 : arg6.IsWhole) (arg7 : Memref sig .tc .vmem S576x16 .bf16) (harg7 : arg7.IsWhole)
    (arg8 : Memref sig .tc .vmem S512x512 .bf16) (harg8 : arg8.IsWhole) (arg9 : Memref sig .tc .vmem S4x1x512 .f32) (harg9 : arg9.IsWhole)
    (arg10 : Memref sig .tc .vmem S4x144x512 .f32) (harg10 : arg10.IsWhole) (arg11 : Memref sig .tc .vmem S4x512x512 .f32) (harg11 : arg11.IsWhole)
    (v46 v55 v64 : FVec F S16x512 .bf16) (v70 : FVec F S144x512 .f32) (k : Fin (k0_t1_loop i).trips)
    (X3 : BufTy.Contents (Elt F) arg3.view.ty) (X4 : BufTy.Contents (Elt F) arg4.view.ty) (X5 : BufTy.Contents (Elt F) arg5.view.ty)
    (f9 : BufTy.Contents (Elt F) arg9.view.ty) (f10 : BufTy.Contents (Elt F) arg10.view.ty) (f11 : BufTy.Contents (Elt F) arg11.view.ty)
    (E : Set ℕ) (K : PUnit → sProp 𝕄) :
    iprop((arg3.view.loc (c : Thread nD τ) ↦[arg3.view.set]{fullShare} X3)
        ∗ (arg4.view.loc (c : Thread nD τ) ↦[arg4.view.set]{fullShare} X4)
        ∗ (arg5.view.loc (c : Thread nD τ) ↦[arg5.view.set]{fullShare} X5)
        ∗ (arg9.view.loc (c : Thread nD τ) ↦[arg9.view.set]{fullShare} f9)
        ∗ (arg10.view.loc (c : Thread nD τ) ↦[arg10.view.set]{fullShare} f10)
        ∗ (arg11.view.loc (c : Thread nD τ) ↦[arg11.view.set]{fullShare} f11)
        ∗ (iprop((arg3.view.loc (c : Thread nD τ) ↦[arg3.view.set]{fullShare} X3)
            ∗ (arg4.view.loc (c : Thread nD τ) ↦[arg4.view.set]{fullShare} X4)
            ∗ (arg5.view.loc (c : Thread nD τ) ↦[arg5.view.set]{fullShare} X5)
            ∗ (∃ f, (arg9.view.loc (c : Thread nD τ) ↦[arg9.view.set]{fullShare} f)
                ∗ ⌜arg9.view.read (Elt F) f = tripM (arg9.view.read (Elt F) f9) (arg11.view.read (Elt F) f11)⌝)
            ∗ (∃ f, (arg10.view.loc (c : Thread nD τ) ↦[arg10.view.set]{fullShare} f)
                ∗ ⌜arg10.view.read (Elt F) f = tripA i (arg5.view.read (Elt F) X5) k (arg9.view.read (Elt F) f9) (arg10.view.read (Elt F) f10) (arg11.view.read (Elt F) f11)⌝)
            ∗ (∃ f, (arg11.view.loc (c : Thread nD τ) ↦[arg11.view.set]{fullShare} f)
                ∗ ⌜arg11.view.read (Elt F) f = tripS i (arg3.view.read (Elt F) X3) (arg4.view.read (Elt F) X4) k⌝)) -∗ K ⟨⟩))
      ⊢ wp frame (wpE (defs₀ (F := F)) Variants.none c none) E
          (k0_t1_body (F := F) i arg3 harg3 arg4 harg4 arg5 harg5 arg6 harg6 arg7 harg7 arg8 harg8 arg9 harg9 arg10 harg10 arg11 harg11 arg2 v46 v55 v64 v70 k PUnit.unit) K := by
  unfold k0_t1_body
  iintro ⟨H3, H4, H5, H9, H10, H11, Hk⟩
  sl_exec
  sl_step
  iapply Hk
  isplitl [H3]; · iexact H3
  isplitl [H4]; · iexact H4
  isplitl [H5]; · iexact H5
  isplitl [H9]
  · iexists _; isplitl [H9]; · iexact H9
    ipureintro
    refine Eq.trans (View.read_writes_eq_canon (Val := Elt F) _ _ _ (View.cover_of_tiledL _ S1x1x256.size (by sl_kernel_rfl))) ?_
    rfl
  isplitl [H10]
  · iexists _; isplitl [H10]; · iexact H10
    ipureintro
    refine Eq.trans (View.read_writes_eq_canon (Val := Elt F) _ _ _ (View.cover_of_tiledL _ S1x144x256.size (by sl_kernel_rfl))) ?_
    rfl
  iexists _; isplitl [H11]; · iexact H11
  ipureintro
  refine Eq.trans (View.read_writes_eq_canon (Val := Elt F) _ _ _ (View.cover_of_tiledL _ S1x512x512.size (by sl_kernel_rfl))) ?_
  rfl

/-- A buffer's contents before trip `k`: as found at the first, the named value from there on. -/
def hold {s : Shape} {e : EltTy} (arg : Memref sig .tc .vmem s e) (h : arg.IsWhole) (G : BufTy.Contents (Elt F) arg.view.ty)
    (v : ℕ → Vec F s e) : ℕ → BufTy.Contents (Elt F) arg.view.ty
  | 0 => G
  | k + 1 => h.unread (v (k + 1))

/-- What is read of it. -/
theorem read_hold {s : Shape} {e : EltTy} (arg : Memref sig .tc .vmem s e) (h : arg.IsWhole) (G : BufTy.Contents (Elt F) arg.view.ty)
    (v : ℕ → Vec F s e) (h0 : v 0 = arg.view.read (Elt F) G) : ∀ k, arg.view.read (Elt F) (hold arg h G v k) = v k
  | 0 => h0.symm
  | k + 1 => h.read_unread _

/-- The trips on what is read of the buffers. -/
abbrev tripsR (i : grid0.Coords) (arg3 : Memref sig .tc .vmem S1024x4096 .bf16) (arg4 : Memref sig .tc .vmem S4096x1024 .bf16)
    (arg5 : Memref sig .tc .vmem S576x4096 .bf16) (arg9 : Memref sig .tc .vmem S4x1x512 .f32) (arg10 : Memref sig .tc .vmem S4x144x512 .f32)
    (arg11 : Memref sig .tc .vmem S4x512x512 .f32)
    (X3 : BufTy.Contents (Elt F) arg3.view.ty) (X4 : BufTy.Contents (Elt F) arg4.view.ty) (X5 : BufTy.Contents (Elt F) arg5.view.ty)
    (G9 : BufTy.Contents (Elt F) arg9.view.ty) (G10 : BufTy.Contents (Elt F) arg10.view.ty) (G11 : BufTy.Contents (Elt F) arg11.view.ty) (k : ℕ) : St F :=
  trips i (arg3.view.read (Elt F) X3) (arg4.view.read (Elt F) X4) (arg5.view.read (Elt F) X5)
    ⟨arg9.view.read (Elt F) G9, arg10.view.read (Elt F) G10, arg11.view.read (Elt F) G11⟩ k

set_option warn.classDefReducibility false in
/-- The loop by its trips: before trip `k` the three scratches hold what the first `k` trips leave. -/
@[sl_loop] def loop1 (c : Dev nD) (E : Set ℕ) (arg2 : BitVec 32) (arg3 : Memref sig .tc .vmem S1024x4096 .bf16) (harg3 : arg3.IsWhole)
    (arg4 : Memref sig .tc .vmem S4096x1024 .bf16) (harg4 : arg4.IsWhole) (arg5 : Memref sig .tc .vmem S576x4096 .bf16) (harg5 : arg5.IsWhole)
    (arg6 : Memref sig .tc .vmem S16x1024 .bf16) (harg6 : arg6.IsWhole) (arg7 : Memref sig .tc .vmem S576x16 .bf16) (harg7 : arg7.IsWhole)
    (arg8 : Memref sig .tc .vmem S512x512 .bf16) (harg8 : arg8.IsWhole) (arg9 : Memref sig .tc .vmem S4x1x512 .f32) (harg9 : arg9.IsWhole)
    (arg10 : Memref sig .tc .vmem S4x144x512 .f32) (harg10 : arg10.IsWhole) (arg11 : Memref sig .tc .vmem S4x512x512 .f32) (harg11 : arg11.IsWhole)
    (X3 : BufTy.Contents (Elt F) arg3.view.ty) (X4 : BufTy.Contents (Elt F) arg4.view.ty) (X5 : BufTy.Contents (Elt F) arg5.view.ty)
    (G9 : BufTy.Contents (Elt F) arg9.view.ty) (G10 : BufTy.Contents (Elt F) arg10.view.ty) (G11 : BufTy.Contents (Elt F) arg11.view.ty) :
    LoopInv (M := 𝕄) frame (wpE (defs₀ (F := F)) Variants.none (c : Thread nD τ) none) E
      (k0_t1_loop i).lb (k0_t1_loop i).ub (k0_t1_loop i).st (k0_t1_ok i) ()
      (k0_t1_body (F := F) i arg3 harg3 arg4 harg4 arg5 harg5 arg6 harg6 arg7 harg7 arg8 harg8 arg9 harg9 arg10 harg10 arg11 harg11 arg2
        (constant S16x512 .bf16 0x0000#16) (constant S16x512 .bf16 0x0000#16) (constant S16x512 .bf16 0x0000#16) (constant S144x512 .f32 0x00000000#32)) where
  inv k _ := iprop((arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (∃ f, (arg9.view.loc (c : Thread nD τ) ↦[arg9.view.set]{fullShare} f)
        ∗ ⌜f = hold arg9 harg9 G9 (fun k => (tripsR i arg3 arg4 arg5 arg9 arg10 arg11 X3 X4 X5 G9 G10 G11 k).M) k⌝)
    ∗ (∃ f, (arg10.view.loc (c : Thread nD τ) ↦[arg10.view.set]{fullShare} f)
        ∗ ⌜f = hold arg10 harg10 G10 (fun k => (tripsR i arg3 arg4 arg5 arg9 arg10 arg11 X3 X4 X5 G9 G10 G11 k).A) k⌝)
    ∗ (∃ f, (arg11.view.loc (c : Thread nD τ) ↦[arg11.view.set]{fullShare} f)
        ∗ ⌜f = hold arg11 harg11 G11 (fun k => (tripsR i arg3 arg4 arg5 arg9 arg10 arg11 X3 X4 X5 G9 G10 G11 k).S) k⌝))
  step k acc := by
    iintro ⟨H3, H4, H5, ⟨%f9, H9, %h9⟩, ⟨%f10, H10, %h10⟩, ⟨%f11, H11, %h11⟩⟩
    have r9 := congrArg (arg9.view.read (Elt F)) h9
    have r10 := congrArg (arg10.view.read (Elt F)) h10
    have r11 := congrArg (arg11.view.read (Elt F)) h11
    rw [read_hold arg9 harg9 G9 _ (congrArg St.M (trips_zero i _ _ _ _))] at r9
    rw [read_hold arg10 harg10 G10 _ (congrArg St.A (trips_zero i _ _ _ _))] at r10
    rw [read_hold arg11 harg11 G11 _ (congrArg St.S (trips_zero i _ _ _ _))] at r11
    iapply (trip_sound i c arg2 arg3 harg3 arg4 harg4 arg5 harg5 arg6 harg6 arg7 harg7 arg8 harg8 arg9 harg9 arg10 harg10 arg11 harg11
      _ _ _ _ k X3 X4 X5 f9 f10 f11 E _)
    isplitl [H3]; · iexact H3
    isplitl [H4]; · iexact H4
    isplitl [H5]; · iexact H5
    isplitl [H9]; · iexact H9
    isplitl [H10]; · iexact H10
    isplitl [H11]; · iexact H11
    iintro ⟨H3, H4, H5, ⟨%g9, H9, %e9⟩, ⟨%g10, H10, %e10⟩, ⟨%g11, H11, %e11⟩⟩
    isplitl [H3]; · iexact H3
    isplitl [H4]; · iexact H4
    isplitl [H5]; · iexact H5
    isplitl [H9]
    · iexists _; isplitl [H9]; · iexact H9
      ipureintro; refine harg9.eq_unread ?_; rw [e9, r9, r11]; exact ((congrArg St.M (trips_succ i _ _ _ _ k)).trans (trip_M i _ _ _ k _)).symm
    isplitl [H10]
    · iexists _; isplitl [H10]; · iexact H10
      ipureintro; refine harg10.eq_unread ?_; rw [e10, r9, r10, r11]; exact ((congrArg St.A (trips_succ i _ _ _ _ k)).trans (trip_A i _ _ _ k _)).symm
    iexists _; isplitl [H11]; · iexact H11
    ipureintro; refine harg11.eq_unread ?_; rw [e11]; exact ((congrArg St.S (trips_succ i _ _ _ _ k)).trans (trip_S i _ _ _ k _)).symm

end Cert.AttnIdeal.Hand
-- ==== Proof.AttnRun.lean ====
/- What one grid point of the attention call does: the meta keys begin the running maximum and sums, the loop folds the
   key blocks before the query block's own, the last step folds that one under the mask, and the quotients are
   stored. Hand-written. -/
module

public import proofs.«01_k».proof.Proof.Gen.AttnIdeal.Frame
public import proofs.«01_k».proof.Proof.Gen.AttnIdeal.Skeleton
public import Idealize.ShloMosaic.Lib.Exec
public import Idealize.ShloMosaic.Lib.Tactic
public import Idealize.ShloMosaic.Lib.Pipeline.Kit
public import Idealize.ShloMosaic.Lib.WordCmp
public import proofs.«01_k».proof.Proof.AttnTrip

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Four whole heads as they are stored. -/
def headsML (a b c d : Vec F S1x1x512 .f32) : List (View.Piece (Elt F) S4x1x512 .f32) := [
    ⟨Rect.unit (s := S4x1x512) ![3, 0, 0] S1x1x512.size inb_S4x1x512_S1x1x512_3_0_0, d⟩,
    ⟨Rect.unit (s := S4x1x512) ![2, 0, 0] S1x1x512.size inb_S4x1x512_S1x1x512_2_0_0, c⟩,
    ⟨Rect.unit (s := S4x1x512) ![1, 0, 0] S1x1x512.size inb_S4x1x512_S1x1x512_1_0_0, b⟩,
    ⟨Rect.unit (s := S4x1x512) ![0, 0, 0] S1x1x512.size inb_S4x1x512_S1x1x512_0_0_0, a⟩]

/-- Four whole heads as they are stored. -/
def headsAL (a b c d : Vec F S1x144x512 .f32) : List (View.Piece (Elt F) S4x144x512 .f32) := [
    ⟨Rect.unit (s := S4x144x512) ![3, 0, 0] S1x144x512.size inb_S4x144x512_S1x144x512_3_0_0, d⟩,
    ⟨Rect.unit (s := S4x144x512) ![2, 0, 0] S1x144x512.size inb_S4x144x512_S1x144x512_2_0_0, c⟩,
    ⟨Rect.unit (s := S4x144x512) ![1, 0, 0] S1x144x512.size inb_S4x144x512_S1x144x512_1_0_0, b⟩,
    ⟨Rect.unit (s := S4x144x512) ![0, 0, 0] S1x144x512.size inb_S4x144x512_S1x144x512_0_0_0, a⟩]

/-- The output block as four heads' columns. -/
def headsO (a b c d : Vec F S512x128 .bf16) : Vec F S512x512 .bf16 :=
  View.canon (Val := Elt F) [
    ⟨Rect.unit (s := S512x512) ![0, 384] S512x128.size inb_S512x512_S512x128_0_384, d⟩,
    ⟨Rect.unit (s := S512x512) ![0, 256] S512x128.size inb_S512x512_S512x128_0_256, c⟩,
    ⟨Rect.unit (s := S512x512) ![0, 128] S512x128.size inb_S512x512_S512x128_0_128, b⟩,
    ⟨Rect.unit (s := S512x512) ![0, 0] S512x128.size inb_S512x512_S512x128_0_0, a⟩]

/-- The running maximum over the meta keys, as stored. -/
def startML (i : grid0.Coords) (x0 : Vec F S1024x4096 .bf16) (x3 : Vec F S16x1024 .bf16) : List (View.Piece (Elt F) S4x1x512 .f32) :=
  headsML
    (k0_pay129 (k0_pay121 (View.ld (Val := Elt F) x3 (Rect.unit (s := S16x1024) ![0, 0] S16x256.size inb_S16x1024_S16x256_0_0))
      (View.ld (Val := Elt F) x0 (Rect.unit (s := S1024x4096) (k0_off1 i) S256x512.size (k0_off1_inb i)))))
    (k0_pay129 (k0_pay121 (View.ld (Val := Elt F) x3 (Rect.unit (s := S16x1024) ![0, 256] S16x256.size inb_S16x1024_S16x256_0_256))
      (View.ld (Val := Elt F) x0 (Rect.unit (s := S1024x4096) (k0_off2 i) S256x512.size (k0_off2_inb i)))))
    (k0_pay129 (k0_pay121 (View.ld (Val := Elt F) x3 (Rect.unit (s := S16x1024) ![0, 512] S16x256.size inb_S16x1024_S16x256_0_512))
      (View.ld (Val := Elt F) x0 (Rect.unit (s := S1024x4096) (k0_off3 i) S256x512.size (k0_off3_inb i)))))
    (k0_pay129 (k0_pay121 (View.ld (Val := Elt F) x3 (Rect.unit (s := S16x1024) ![0, 768] S16x256.size inb_S16x1024_S16x256_0_768))
      (View.ld (Val := Elt F) x0 (Rect.unit (s := S1024x4096) (k0_off4 i) S256x512.size (k0_off4_inb i)))))

/-- The running maximum over the meta keys. -/
def startM (i : grid0.Coords) (x0 : Vec F S1024x4096 .bf16) (x3 : Vec F S16x1024 .bf16) : Vec F S4x1x512 .f32 := View.canon (Val := Elt F) (startML i x0 x3)

/-- The running sums over the meta keys, as stored. -/
def startAL (i : grid0.Coords) (x0 : Vec F S1024x4096 .bf16) (x3 : Vec F S16x1024 .bf16) (x4 : Vec F S576x16 .bf16) : List (View.Piece (Elt F) S4x144x512 .f32) :=
  headsAL
    (k0_pay138 (k0_pay128 (k0_pay121 (View.ld (Val := Elt F) x3 (Rect.unit (s := S16x1024) ![0, 0] S16x256.size inb_S16x1024_S16x256_0_0))
      (View.ld (Val := Elt F) x0 (Rect.unit (s := S1024x4096) (k0_off1 i) S256x512.size (k0_off1_inb i)))))
      (View.ld (Val := Elt F) x4 (Rect.unit (s := S576x16) ![0, 0] S144x16.size inb_S576x16_S144x16_0_0)))
    (k0_pay138 (k0_pay128 (k0_pay121 (View.ld (Val := Elt F) x3 (Rect.unit (s := S16x1024) ![0, 256] S16x256.size inb_S16x1024_S16x256_0_256))
      (View.ld (Val := Elt F) x0 (Rect.unit (s := S1024x4096) (k0_off2 i) S256x512.size (k0_off2_inb i)))))
      (View.ld (Val := Elt F) x4 (Rect.unit (s := S576x16) ![144, 0] S144x16.size inb_S576x16_S144x16_144_0)))
    (k0_pay138 (k0_pay128 (k0_pay121 (View.ld (Val := Elt F) x3 (Rect.unit (s := S16x1024) ![0, 512] S16x256.size inb_S16x1024_S16x256_0_512))
      (View.ld (Val := Elt F) x0 (Rect.unit (s := S1024x4096) (k0_off3 i) S256x512.size (k0_off3_inb i)))))
      (View.ld (Val := Elt F) x4 (Rect.unit (s := S576x16) ![288, 0] S144x16.size inb_S576x16_S144x16_288_0)))
    (k0_pay138 (k0_pay128 (k0_pay121 (View.ld (Val := Elt F) x3 (Rect.unit (s := S16x1024) ![0, 768] S16x256.size inb_S16x1024_S16x256_0_768))
      (View.ld (Val := Elt F) x0 (Rect.unit (s := S1024x4096) (k0_off4 i) S256x512.size (k0_off4_inb i)))))
      (View.ld (Val := Elt F) x4 (Rect.unit (s := S576x16) ![432, 0] S144x16.size inb_S576x16_S144x16_432_0)))

/-- The running sums over the meta keys. -/
def startA (i : grid0.Coords) (x0 : Vec F S1024x4096 .bf16) (x3 : Vec F S16x1024 .bf16) (x4 : Vec F S576x16 .bf16) : Vec F S4x144x512 .f32 := View.canon (Val := Elt F) (startAL i x0 x3 x4)

/-- The scores of the first query block against the first key block, as stored. -/
def firstSL (x0 : Vec F S1024x4096 .bf16) (x1 : Vec F S4096x1024 .bf16) : List (View.Piece (Elt F) S4x512x512 .f32) :=
  listS
    (k0_pay10 (View.ld (Val := Elt F) x1 (Rect.unit (s := S4096x1024) ![0, 0] S512x256.size inb_S4096x1024_S512x256_0_0))
      (View.ld (Val := Elt F) x0 (Rect.unit (s := S1024x4096) ![0, 0] S256x512.size inb_S1024x4096_S256x512_0_0)))
    (k0_pay10 (View.ld (Val := Elt F) x1 (Rect.unit (s := S4096x1024) ![0, 256] S512x256.size inb_S4096x1024_S512x256_0_256))
      (View.ld (Val := Elt F) x0 (Rect.unit (s := S1024x4096) ![256, 0] S256x512.size inb_S1024x4096_S256x512_256_0)))
    (k0_pay10 (View.ld (Val := Elt F) x1 (Rect.unit (s := S4096x1024) ![0, 512] S512x256.size inb_S4096x1024_S512x256_0_512))
      (View.ld (Val := Elt F) x0 (Rect.unit (s := S1024x4096) ![512, 0] S256x512.size inb_S1024x4096_S256x512_512_0)))
    (k0_pay10 (View.ld (Val := Elt F) x1 (Rect.unit (s := S4096x1024) ![0, 768] S512x256.size inb_S4096x1024_S512x256_0_768))
      (View.ld (Val := Elt F) x0 (Rect.unit (s := S1024x4096) ![768, 0] S256x512.size inb_S1024x4096_S256x512_768_0)))

/-- The scores of the first query block against the first key block. -/
def firstS (x0 : Vec F S1024x4096 .bf16) (x1 : Vec F S4096x1024 .bf16) : Vec F S4x512x512 .f32 := View.canon (Val := Elt F) (firstSL x0 x1)

/-- The scores kept for the next point: its query block against the first key block. -/
def nextS (i : grid0.Coords) (x0 : Vec F S1024x4096 .bf16) (x1 : Vec F S4096x1024 .bf16) : Vec F S4x512x512 .f32 :=
  packS
    (k0_pay10 (View.ld (Val := Elt F) x1 (Rect.unit (s := S4096x1024) ![0, 0] S512x256.size inb_S4096x1024_S512x256_0_0))
      (View.ld (Val := Elt F) x0 (Rect.unit (s := S1024x4096) (k0_off29 i) S256x512.size (k0_off29_inb i))))
    (k0_pay10 (View.ld (Val := Elt F) x1 (Rect.unit (s := S4096x1024) ![0, 256] S512x256.size inb_S4096x1024_S512x256_0_256))
      (View.ld (Val := Elt F) x0 (Rect.unit (s := S1024x4096) (k0_off31 i) S256x512.size (k0_off31_inb i))))
    (k0_pay10 (View.ld (Val := Elt F) x1 (Rect.unit (s := S4096x1024) ![0, 512] S512x256.size inb_S4096x1024_S512x256_0_512))
      (View.ld (Val := Elt F) x0 (Rect.unit (s := S1024x4096) (k0_off33 i) S256x512.size (k0_off33_inb i))))
    (k0_pay10 (View.ld (Val := Elt F) x1 (Rect.unit (s := S4096x1024) ![0, 768] S512x256.size inb_S4096x1024_S512x256_0_768))
      (View.ld (Val := Elt F) x0 (Rect.unit (s := S1024x4096) (k0_off35 i) S256x512.size (k0_off35_inb i))))

/-- The running sums after the masked last step, as stored. -/
def lastAL (i : grid0.Coords) (x2 : Vec F S576x4096 .bf16) (s : St F) : List (View.Piece (Elt F) S4x144x512 .f32) :=
  stepAL (k0_pay149 (sAt0 s.S)) (k0_pay149 (sAt1 s.S)) (k0_pay149 (sAt2 s.S)) (k0_pay149 (sAt3 s.S))
    (View.ld (Val := Elt F) x2 (Rect.unit (s := S576x4096) (k0_off30 i) S144x512.size (k0_off30_inb i)))
    (View.ld (Val := Elt F) x2 (Rect.unit (s := S576x4096) (k0_off32 i) S144x512.size (k0_off32_inb i)))
    (View.ld (Val := Elt F) x2 (Rect.unit (s := S576x4096) (k0_off34 i) S144x512.size (k0_off34_inb i)))
    (View.ld (Val := Elt F) x2 (Rect.unit (s := S576x4096) (k0_off36 i) S144x512.size (k0_off36_inb i)))
    s.M s.A

/-- The running sums after the masked last step. -/
def lastA (i : grid0.Coords) (x2 : Vec F S576x4096 .bf16) (s : St F) : Vec F S4x144x512 .f32 := View.canon (Val := Elt F) (lastAL i x2 s)

/-- The output block from the running sums. -/
def outOf (A : Vec F S4x144x512 .f32) : Vec F S512x512 .bf16 :=
  headsO
    (k0_pay208 (View.ld (Val := Elt F) A (Rect.unit (s := S4x144x512) ![0, 0, 0] S1x144x512.size inb_S4x144x512_S1x144x512_0_0_0)))
    (k0_pay208 (View.ld (Val := Elt F) A (Rect.unit (s := S4x144x512) ![1, 0, 0] S1x144x512.size inb_S4x144x512_S1x144x512_1_0_0)))
    (k0_pay208 (View.ld (Val := Elt F) A (Rect.unit (s := S4x144x512) ![2, 0, 0] S1x144x512.size inb_S4x144x512_S1x144x512_2_0_0)))
    (k0_pay208 (View.ld (Val := Elt F) A (Rect.unit (s := S4x144x512) ![3, 0, 0] S1x144x512.size inb_S4x144x512_S1x144x512_3_0_0)))

/-- The output block of a point whose kept scores are `S`. -/
def outS (i : grid0.Coords) (x0 : Vec F S1024x4096 .bf16) (x1 : Vec F S4096x1024 .bf16) (x2 : Vec F S576x4096 .bf16) (x3 : Vec F S16x1024 .bf16) (x4 : Vec F S576x16 .bf16) (S : Vec F S4x512x512 .f32) : Vec F S512x512 .bf16 :=
  outOf (lastA i x2 (trips i x0 x1 x2 ⟨startM i x0 x3, startA i x0 x3 x4, S⟩ (k0_t1_loop i).trips))

section
variable (i : grid0.Coords) (arg3 : Memref sig .tc .vmem S1024x4096 .bf16) (arg4 : Memref sig .tc .vmem S4096x1024 .bf16)
    (arg5 : Memref sig .tc .vmem S576x4096 .bf16) (arg9 : Memref sig .tc .vmem S4x1x512 .f32) (harg9 : arg9.IsWhole)
    (arg10 : Memref sig .tc .vmem S4x144x512 .f32) (harg10 : arg10.IsWhole) (arg11 : Memref sig .tc .vmem S4x512x512 .f32) (harg11 : arg11.IsWhole)
    (X3 : BufTy.Contents (Elt F) arg3.view.ty) (X4 : BufTy.Contents (Elt F) arg4.view.ty) (X5 : BufTy.Contents (Elt F) arg5.view.ty)
    (G9 : BufTy.Contents (Elt F) arg9.view.ty) (G10 : BufTy.Contents (Elt F) arg10.view.ty) (G11 : BufTy.Contents (Elt F) arg11.view.ty)

/-- The three scratches after the loop, as the run names them. -/
def heldSt : St F :=
  ⟨arg9.view.read (Elt F) (hold arg9 harg9 G9 (fun k => (tripsR i arg3 arg4 arg5 arg9 arg10 arg11 X3 X4 X5 G9 G10 G11 k).M) (k0_t1_loop i).trips),
    arg10.view.read (Elt F) (hold arg10 harg10 G10 (fun k => (tripsR i arg3 arg4 arg5 arg9 arg10 arg11 X3 X4 X5 G9 G10 G11 k).A) (k0_t1_loop i).trips),
    arg11.view.read (Elt F) (hold arg11 harg11 G11 (fun k => (tripsR i arg3 arg4 arg5 arg9 arg10 arg11 X3 X4 X5 G9 G10 G11 k).S) (k0_t1_loop i).trips)⟩

/-- They are the trips' state. -/
theorem heldSt_eq : heldSt i arg3 arg4 arg5 arg9 harg9 arg10 harg10 arg11 harg11 X3 X4 X5 G9 G10 G11
      = trips i (arg3.view.read (Elt F) X3) (arg4.view.read (Elt F) X4) (arg5.view.read (Elt F) X5)
          ⟨arg9.view.read (Elt F) G9, arg10.view.read (Elt F) G10, arg11.view.read (Elt F) G11⟩ (k0_t1_loop i).trips := by
  unfold heldSt
  rw [read_hold arg9 harg9 G9 _ (congrArg St.M (trips_zero i _ _ _ _)), read_hold arg10 harg10 G10 _ (congrArg St.A (trips_zero i _ _ _ _)),
    read_hold arg11 harg11 G11 _ (congrArg St.S (trips_zero i _ _ _ _))]

/-- The output block as the run leaves it is the named one. -/
theorem out_read (x3 : Vec F S16x1024 .bf16) (x4 : Vec F S576x16 .bf16) :
    outOf (arg10.view.read (Elt F) (arg10.view.writes (Elt F) arg10.view.junk (lastAL i (arg5.view.read (Elt F) X5)
        (heldSt i arg3 arg4 arg5 arg9 harg9 arg10 harg10 arg11 harg11 X3 X4 X5
          (arg9.view.writes (Elt F) arg9.view.junk (startML i (arg3.view.read (Elt F) X3) x3))
          (arg10.view.writes (Elt F) arg10.view.junk (startAL i (arg3.view.read (Elt F) X3) x3 x4)) G11))))
      = outS i (arg3.view.read (Elt F) X3) (arg4.view.read (Elt F) X4) (arg5.view.read (Elt F) X5) x3 x4 (arg11.view.read (Elt F) G11) := by
  rw [heldSt_eq, View.read_writes_eq_canon (Val := Elt F) arg10.view arg10.view.junk (lastAL _ _ _) (View.cover_of_tiledL _ S1x144x256.size (by sl_kernel_rfl)),
    View.read_writes_eq_canon (Val := Elt F) arg9.view arg9.view.junk (startML _ _ _) (View.cover_of_tiledL _ S1x1x512.size (by sl_kernel_rfl)),
    View.read_writes_eq_canon (Val := Elt F) arg10.view arg10.view.junk (startAL _ _ _ _) (View.cover_of_tiledL _ S1x144x512.size (by sl_kernel_rfl))]
  unfold outS lastA startM startA
  rfl

end

/-- The condition of the body's branch. -/
abbrev cond (i : grid0.Coords) : Prop := k0_cond1 i = 1#1

variable (i : grid0.Coords)

/-- The loop of the single remaining step has no trips. -/
theorem trips2 : (k0_t2_loop i).trips = 0 := by
  have h : ∀ n : Fin 8, Scf.Loop.trips (Scf.Loop.mk (w := 32) (Scalar.addi 0#32 (Scalar.muli (Scalar.divsi (Scalar.subi (BitVec.ofNat 32 n.val) 0#32) 1#32) 1#32)) (Scalar.addi 0#32 (Scalar.subi (BitVec.ofNat 32 n.val) 0#32)) 1#32) = 0 := by decide
  exact h (i 2)

/-- The loop runs once for each key block before the query block's own. -/
theorem trips1 : (k0_t1_loop i).trips = (i 2).val := by
  have h : ∀ n : Fin 8, Scf.Loop.trips (Scf.Loop.mk (w := 32) 0#32 (Scalar.addi 0#32 (Scalar.muli (Scalar.divsi (Scalar.subi (BitVec.ofNat 32 n.val) 0#32) 1#32) 1#32)) 1#32) = n.val := by decide
  exact h (i 2)

set_option maxHeartbeats 8000000 in
/-- The body at a first query block: all it leaves, from the five blocks it reads. -/
theorem body_first (c : Dev nD) (arg3 : Memref sig .tc .vmem S1024x4096 .bf16) (harg3 : arg3.IsWhole)
    (arg4 : Memref sig .tc .vmem S4096x1024 .bf16) (harg4 : arg4.IsWhole) (arg5 : Memref sig .tc .vmem S576x4096 .bf16) (harg5 : arg5.IsWhole)
    (arg6 : Memref sig .tc .vmem S16x1024 .bf16) (harg6 : arg6.IsWhole) (arg7 : Memref sig .tc .vmem S576x16 .bf16) (harg7 : arg7.IsWhole)
    (arg8 : Memref sig .tc .vmem S512x512 .bf16) (harg8 : arg8.IsWhole) (arg9 : Memref sig .tc .vmem S4x1x512 .f32) (harg9 : arg9.IsWhole)
    (arg10 : Memref sig .tc .vmem S4x144x512 .f32) (harg10 : arg10.IsWhole) (arg11 : Memref sig .tc .vmem S4x512x512 .f32) (harg11 : arg11.IsWhole) (hc : cond i)
    (x0 : Vec F S1024x4096 .bf16) (x1 : Vec F S4096x1024 .bf16) (x2 : Vec F S576x4096 .bf16) (x3 : Vec F S16x1024 .bf16) (x4 : Vec F S576x16 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (∃ d, owns (c : Thread nD τ) arg11 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outS i x0 x1 x2 x3 x4 (firstS x0 x1))
            ∗ (∃ d, owns (c : Thread nD τ) arg9 fullShare d) ∗ (∃ d, owns (c : Thread nD τ) arg10 fullShare d)
            ∗ owns (c : Thread nD τ) arg11 fullShare (nextS i x0 x1)) -∗ K ⟨⟩))
      ⊢ wp frame (wpE (defs₀ (F := F)) Variants.none c none) E
          (cc0_mla_attention i arg3 harg3 arg4 harg4 arg5 harg5 arg6 harg6 arg7 harg7 arg8 harg8 arg9 harg9 arg10 harg10 arg11 harg11) K := by
  have htr : (k0_t2_loop i).trips = 0 := trips2 i
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine Eq.trans (View.read_writes_eq_canon (Val := Elt F) _ _ _ (View.cover_of_tiledL _ S512x128.size (by sl_kernel_rfl))) ?_
    refine Eq.trans (b := outOf (arg10.view.read (Elt F) (arg10.view.writes (Elt F) arg10.view.junk (lastAL i (arg5.view.read (Elt F) f2)
        (heldSt i arg3 arg4 arg5 arg9 harg9 arg10 harg10 arg11 harg11 f0 f1 f2
          (arg9.view.writes (Elt F) arg9.view.junk (startML i (arg3.view.read (Elt F) f0) (arg6.view.read (Elt F) f3)))
          (arg10.view.writes (Elt F) arg10.view.junk (startAL i (arg3.view.read (Elt F) f0) (arg6.view.read (Elt F) f3) (arg7.view.read (Elt F) f4)))
          (arg11.view.writes (Elt F) arg11.view.junk (firstSL (arg3.view.read (Elt F) f0) (arg4.view.read (Elt F) f1)))))))) ?_ ?_
    · rfl
    · rw [out_read, View.read_writes_eq_canon (Val := Elt F) arg11.view arg11.view.junk (firstSL _ _) (View.cover_of_tiledL _ S1x512x512.size (by sl_kernel_rfl))]
      rfl
  isplitl [H6]
  · iexists _; iexists _; isplitr; swap; · iexact H6
    ipureintro; rfl
  isplitl [H7]
  · iexists _; iexists _; isplitr; swap; · iexact H7
    ipureintro; rfl
  iexists _; isplitr; swap; · iexact H8
  ipureintro
  refine Eq.trans (View.read_writes_eq_canon (Val := Elt F) _ _ _ (View.cover_of_tiledL _ S1x512x512.size (by sl_kernel_rfl))) ?_
  rfl

set_option maxHeartbeats 8000000 in
/-- The body at a later query block: the scores kept are those the point before left. -/
theorem body_later (c : Dev nD) (arg3 : Memref sig .tc .vmem S1024x4096 .bf16) (harg3 : arg3.IsWhole)
    (arg4 : Memref sig .tc .vmem S4096x1024 .bf16) (harg4 : arg4.IsWhole) (arg5 : Memref sig .tc .vmem S576x4096 .bf16) (harg5 : arg5.IsWhole)
    (arg6 : Memref sig .tc .vmem S16x1024 .bf16) (harg6 : arg6.IsWhole) (arg7 : Memref sig .tc .vmem S576x16 .bf16) (harg7 : arg7.IsWhole)
    (arg8 : Memref sig .tc .vmem S512x512 .bf16) (harg8 : arg8.IsWhole) (arg9 : Memref sig .tc .vmem S4x1x512 .f32) (harg9 : arg9.IsWhole)
    (arg10 : Memref sig .tc .vmem S4x144x512 .f32) (harg10 : arg10.IsWhole) (arg11 : Memref sig .tc .vmem S4x512x512 .f32) (harg11 : arg11.IsWhole) (hc : ¬ cond i)
    (x0 : Vec F S1024x4096 .bf16) (x1 : Vec F S4096x1024 .bf16) (x2 : Vec F S576x4096 .bf16) (x3 : Vec F S16x1024 .bf16) (x4 : Vec F S576x16 .bf16) (S : Vec F S4x512x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ owns (c : Thread nD τ) arg11 fullShare S
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4
            ∗ owns (c : Thread nD τ) arg8 fullShare (outS i x0 x1 x2 x3 x4 S)
            ∗ (∃ d, owns (c : Thread nD τ) arg9 fullShare d) ∗ (∃ d, owns (c : Thread nD τ) arg10 fullShare d)
            ∗ owns (c : Thread nD τ) arg11 fullShare (nextS i x0 x1)) -∗ K ⟨⟩))
      ⊢ wp frame (wpE (defs₀ (F := F)) Variants.none c none) E
          (cc0_mla_attention i arg3 harg3 arg4 harg4 arg5 harg5 arg6 harg6 arg7 harg7 arg8 harg8 arg9 harg9 arg10 harg10 arg11 harg11) K := by
  have htr : (k0_t2_loop i).trips = 0 := trips2 i
  simp only [cc0_mla_attention_eq_skeleton]; unfold cc0_mla_attention_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  subst hf0 hf1 hf2 hf3 hf4 hf8
  sl_exec (disch := first | sl_exact hc)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine Eq.trans (View.read_writes_eq_canon (Val := Elt F) _ _ _ (View.cover_of_tiledL _ S512x128.size (by sl_kernel_rfl))) ?_
    refine Eq.trans (b := outOf (arg10.view.read (Elt F) (arg10.view.writes (Elt F) arg10.view.junk (lastAL i (arg5.view.read (Elt F) f2)
        (heldSt i arg3 arg4 arg5 arg9 harg9 arg10 harg10 arg11 harg11 f0 f1 f2
          (arg9.view.writes (Elt F) arg9.view.junk (startML i (arg3.view.read (Elt F) f0) (arg6.view.read (Elt F) f3)))
          (arg10.view.writes (Elt F) arg10.view.junk (startAL i (arg3.view.read (Elt F) f0) (arg6.view.read (Elt F) f3) (arg7.view.read (Elt F) f4)))
          f8))))) ?_ ?_
    · rfl
    · exact out_read i arg3 arg4 arg5 arg9 harg9 arg10 harg10 arg11 harg11 f0 f1 f2 f8 _ _
  isplitl [H6]
  · iexists _; iexists _; isplitr; swap; · iexact H6
    ipureintro; rfl
  isplitl [H7]
  · iexists _; iexists _; isplitr; swap; · iexact H7
    ipureintro; rfl
  iexists _; isplitr; swap; · iexact H8
  ipureintro
  refine Eq.trans (View.read_writes_eq_canon (Val := Elt F) _ _ _ (View.cover_of_tiledL _ S1x512x512.size (by sl_kernel_rfl))) ?_
  rfl

end Cert.AttnIdeal.Hand
-- ==== Proof.AttnFrame.lean ====
/- The run of the attention call: what the buffers hold after every grid point, and the whole launch from it. Hand-written. -/
module

public import proofs.«01_k».proof.Proof.AttnRun

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The three scratch buffers of the kernel, as the body is passed them. -/
abbrev scrM : Memref sig .tc .vmem S4x1x512 .f32 := Memref.whole cc0_scratch0
abbrev scrA : Memref sig .tc .vmem S4x144x512 .f32 := Memref.whole cc0_scratch1
abbrev scrS : Memref sig .tc .vmem S4x512x512 .f32 := Memref.whole cc0_scratch2

/-- The scores a point leaves for the next one. -/
def keptS (c : Dev nD) (t : Fin cfg0.N) : Vec F S4x512x512 .f32 := nextS (grid0.coords t) (iblk m c 0 t) (iblk m c 1 t)

/-- What the scores' scratch holds before point `k`: anything at the first, then what the point before left. -/
def held (c : Dev nD) (k : Fin (cfg0.N + 1)) : sProp 𝕄 :=
  if h : k.val = 0 then iprop(∃ d, owns (c : Thread nD τ) scrS fullShare d)
  else owns (c : Thread nD τ) scrS fullShare (keptS m c ⟨k.val - 1, by have := k.isLt; omega⟩)

/-- The scores a point starts from: its own at a first query block, else those left by the point before. -/
def fromS (c : Dev nD) (t : Fin cfg0.N) : Vec F S4x512x512 .f32 :=
  if t.val % 8 = 0 then firstS (iblk m c 0 t) (iblk m c 1 t)
  else keptS m c ⟨t.val - 1, Nat.lt_of_le_of_lt (Nat.sub_le _ _) t.isLt⟩

/-- The output block of a point. -/
def outB (c : Dev nD) (t : Fin cfg0.N) : Vec F S512x512 .bf16 :=
  outS (grid0.coords t) (iblk m c 0 t) (iblk m c 1 t) (iblk m c 2 t) (iblk m c 3 t) (iblk m c 4 t) (fromS m c t)

/-- The proof data of the call: the inputs as they are, the output block of the point; the scores carried from
    point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outB m c t
  Φ k := iprop((∃ d, owns (c : Thread nD τ) scrM fullShare d) ∗ (∃ d, owns (c : Thread nD τ) scrA fullShare d) ∗ held m c k ∗ (∃ r, prngReg c r))
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outB m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The condition holds exactly at a first query block. -/
theorem cond_iff : ∀ t : Fin cfg0.N, cond (grid0.coords t) ↔ t.val % 8 = 0 :=
  (fun t => by
    have ht : t.val < 128 := Nat.lt_of_lt_of_eq t.isLt N_0
    have e2 : (grid0.coords t 2).val = t.val / 1 % 8 := Pipeline.Grid.coords_val t 2 (by decide) rfl
    simp only [cond, k0_cond1, e2]
    word_cmp
   : ∀ t : Fin grid0.N, cond (grid0.coords t) ↔ t.val % 8 = 0)

/-- After a point the scratch holds the scores it left. -/
theorem held_succ (c : Dev nD) (t : Fin cfg0.N) :
    held m c t.succ = owns (c : Thread nD τ) scrS fullShare (keptS m c t) :=
  (dif_neg (Nat.succ_ne_zero t.val)).trans
    (congrArg (owns (c : Thread nD τ) scrS fullShare) (congrArg (keptS m c) (Fin.ext (Nat.add_sub_cancel t.val 1))))

/-- Before a later query block it holds the scores the point starts from. -/
theorem held_later (c : Dev nD) (t : Fin cfg0.N) (h : ¬ t.val % 8 = 0) :
    held m c t.castSucc = owns (c : Thread nD τ) scrS fullShare (fromS m c t) := by
  have h0 : ¬ t.castSucc.val = 0 := fun e => h (by rw [show t.val = 0 from e])
  exact (dif_neg h0).trans (congrArg (owns (c : Thread nD τ) scrS fullShare) (if_neg h).symm)

/-- Whatever it holds, the scratch is owned. -/
theorem held_any (c : Dev nD) (k : Fin (cfg0.N + 1)) :
    held m c k ⊢ iprop(∃ d, owns (c : Thread nD τ) scrS fullShare d) := by
  unfold held
  split
  · exact .rfl
  · iintro H; iexists _; iexact H

/-- The class invariant in terms of the scratches. -/
theorem inv_eq (c : Dev nD) :
    (Pipeline.ΦA spec0 c : sProp 𝕄) = iprop(((∃ d, owns (c : Thread nD τ) scrM fullShare d) ∗ (∃ d, owns (c : Thread nD τ) scrA fullShare d)
      ∗ (∃ d, owns (c : Thread nD τ) scrS fullShare d)) ∗ (∃ r, prngReg c r)) := by
  unfold Pipeline.ΦA; rw [scopedRest0_eq]; simp only [scrM, scrA, scrS, owns_whole]; try rfl

/-- What the body is given at a point, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def handed (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- No window is idle, so each buffer is handed back at its named contents. -/
theorem leaves_eq (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1000000 in
/-- The body meets the proof data at every point. -/
theorem body_sound (c : Dev nD) (t : Fin cfg0.N) :
    given m c t ⊢ wp frame (wpE (defs₀ (F := F)) Variants.none c none) Set.univ (bodyAt0 t) (fun _ => handed m c t) := by
  unfold given handed bodyAt0
  simp only [before_0, before_1, before_2, before_3, before_4]
  rw [show (dats m 0 c).owesAt () t.succ = (dats m 0 c).owesAt () t.castSucc from rfl,
    leaves_eq m c 0 t rfl, leaves_eq m c 1 t rfl, leaves_eq m c 2 t rfl, leaves_eq m c 3 t rfl, leaves_eq m c 4 t rfl, leaves_eq m c 5 t rfl,
    after_0, after_1, after_2, after_3, after_4, after_5,
    show (dats m 0 c).Φ t.succ = iprop((∃ d, owns (c : Thread nD τ) scrM fullShare d) ∗ (∃ d, owns (c : Thread nD τ) scrA fullShare d) ∗ held m c t.succ ∗ (∃ r, prngReg c r)) from rfl, held_succ,
    show (dats m 0 c).Φ t.castSucc = iprop((∃ d, owns (c : Thread nD τ) scrM fullShare d) ∗ (∃ d, owns (c : Thread nD τ) scrA fullShare d) ∗ held m c t.castSucc ∗ (∃ r, prngReg c r)) from rfl]
  by_cases h0 : t.val % 8 = 0
  · rw [show outB m c t = outS (grid0.coords t) (iblk m c 0 t) (iblk m c 1 t) (iblk m c 2 t) (iblk m c 3 t) (iblk m c 4 t) (firstS (iblk m c 0 t) (iblk m c 1 t)) from
      congrArg (outS (grid0.coords t) (iblk m c 0 t) (iblk m c 1 t) (iblk m c 2 t) (iblk m c 3 t) (iblk m c 4 t)) (if_pos h0)]
    iintro ⟨⟨HM, HA, HS, Hg⟩, Ho, ⟨%d0, H0⟩, ⟨%d1, H1⟩, ⟨%d2, H2⟩, ⟨%d3, H3⟩, ⟨%d4, H4⟩, ⟨%d5, H5⟩⟩
    ihave HS := (held_any m c t.castSucc) $$ HS
    iapply (body_first (grid0.coords t) c _ _ _ _ _ _ _ _ _ _ _ _ _ _ _ _ _ _ ((cond_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [HM]; · iexact HM
    isplitl [HA]; · iexact HA
    isplitl [HS]; · iexact HS
    iintro ⟨H0, H1, H2, H3, H4, H5, HM, HA, HS⟩
    isplitl [HM HA HS Hg]
    · isplitl [HM]; · iexact HM
      isplitl [HA]; · iexact HA
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [held_later m c t h0]
    iintro ⟨⟨HM, HA, HS, Hg⟩, Ho, ⟨%d0, H0⟩, ⟨%d1, H1⟩, ⟨%d2, H2⟩, ⟨%d3, H3⟩, ⟨%d4, H4⟩, ⟨%d5, H5⟩⟩
    iapply (body_later (grid0.coords t) c _ _ _ _ _ _ _ _ _ _ _ _ _ _ _ _ _ _ (fun h => h0 ((cond_iff t).mp h)) (iblk m c 0 t) (iblk m c 1 t) (iblk m c 2 t) (iblk m c 3 t) (iblk m c 4 t)
      (fromS m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [HM]; · iexact HM
    isplitl [HA]; · iexact HA
    isplitl [HS]; · iexact HS
    iintro ⟨H0, H1, H2, H3, H4, H5, HM, HA, HS⟩
    isplitl [HM HA HS Hg]
    · isplitl [HM]; · iexact HM
      isplitl [HA]; · iexact HA
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body. -/
theorem row_eq (t : Fin cfg0.N) : defs₀ (F := F) .tc cfg0.body (cfg0.bodyArgs t (cfg0.slots t)) = bodyAt0 t := by
  unfold defs₀; rw [Defs.onTc_tc]

/-- The obligation of the launch theorem on the body. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

/-- The first invariant: nothing is known of the scratches. -/
theorem inv_first (c : Dev nD) : Pipeline.ΦA spec0 c ⊢ (dats (F := F) m 0 c).Φ 0 := by
  have e : (held m c 0 : sProp 𝕄) = iprop(∃ d, owns (c : Thread nD τ) scrS fullShare d) := dif_pos rfl
  rw [inv_eq, show (dats m 0 c).Φ 0 = iprop((∃ d, owns (c : Thread nD τ) scrM fullShare d) ∗ (∃ d, owns (c : Thread nD τ) scrA fullShare d) ∗ held m c 0 ∗ (∃ r, prngReg c r)) from rfl, e]
  iintro ⟨⟨HM, HA, HS⟩, Hg⟩
  isplitl [HM]; · iexact HM
  isplitl [HA]; · iexact HA
  isplitl [HS]; · iexact HS
  iexact Hg

/-- The last invariant gives the scratches back. -/
theorem inv_last (c : Dev nD) : (dats (F := F) m 0 c).Φ (Fin.last cfg0.N) ⊢ Pipeline.ΦA spec0 c := by
  rw [inv_eq, show (dats m 0 c).Φ (Fin.last cfg0.N) = iprop((∃ d, owns (c : Thread nD τ) scrM fullShare d) ∗ (∃ d, owns (c : Thread nD τ) scrA fullShare d) ∗ held m c (Fin.last cfg0.N) ∗ (∃ r, prngReg c r)) from rfl]
  iintro ⟨HM, HA, HS, Hg⟩
  isplitl [HM HA HS]
  · isplitl [HM]; · iexact HM
    isplitl [HA]; · iexact HA
    iapply (held_any m c _); iexact HS
  iexact Hg

set_option backward.isDefEq.respectTransparency.types false in
/-- The launch: every array ends as the proof data says, every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := inv_first m) (hout := inv_last m)

/-- The launch without the counters. -/
theorem run_main : θ_run defs (onTc (τ := τ) (main (F := F))) (s₀ m ρ) (Pipeline.FramePost cfgs (dats m) 0 (V m)) :=
  (θ_run defs _ _).mono (fun _ h => h.1) (run m ρ)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run m ρ))

end Cert.AttnIdeal.Hand

end
-- ==== Proof.AttnMath.lean ====
/- Softmax over keys taken block by block, over the extended reals: the running maximum and the running weighted sums,
   and that their quotient is the sum of the softmax weights times the values. Hand-written. -/
module

public import Idealize.ShloMosaic.PureOps.Ideal.Laws

@[expose] public section

noncomputable section

namespace Cert.Softmax

open Idealize.ShloMosaic
open Finset (range)

/-- A power of two is nonnegative. -/
theorem exp2_nonneg (x : EReal) : 0 ≤ Ideal.exp2 x := by
  induction x with
  | bot => simp
  | top => simp
  | coe r => rw [Ideal.exp2_coe]; exact_mod_cast (Real.rpow_pos_of_pos two_pos r).le

/-- A power of two is finite below `⊤`. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- A difference from something at least as large is below `⊤`. -/
theorem sub_ne_top {a b : EReal} (h : a ≤ b) : a - b ≠ ⊤ := by
  induction b with
  | bot => rw [le_bot_iff.mp h]; simp
  | top => simp
  | coe r =>
    induction a with
    | bot => simp
    | top => simp at h
    | coe q => rw [← EReal.coe_sub]; exact EReal.coe_ne_top _

/-- Rescaling a weight from one maximum to a larger one. -/
theorem exp2_rescale {s a b : EReal} (h : s ≤ a) (h' : a ≤ b) :
    Ideal.exp2 (a - b) * Ideal.exp2 (s - a) = Ideal.exp2 (s - b) := by
  induction b with
  | bot => rw [le_bot_iff.mp h'] at h ⊢; rw [le_bot_iff.mp h]; simp
  | top => simp
  | coe r =>
    induction a with
    | bot => rw [le_bot_iff.mp h]; simp
    | top => simp at h'
    | coe q =>
      induction s with
      | bot => simp
      | top => simp at h
      | coe p =>
        rw [← EReal.coe_sub, ← EReal.coe_sub, ← EReal.coe_sub, Ideal.exp2_coe, Ideal.exp2_coe, Ideal.exp2_coe, ← EReal.coe_mul]
        congr 1
        show (2 : ℝ) ^ (q - r) * (2 : ℝ) ^ (p - q) = (2 : ℝ) ^ (p - r)
        rw [← Real.rpow_add two_pos]
        congr 1; ring

/-- A finite nonnegative factor moves into a sum. -/
theorem mul_sum {ι : Type*} (t : Finset ι) (f : ι → EReal) {a : EReal} (h : 0 ≤ a) (h' : a ≠ ⊤) :
    a * ∑ i ∈ t, f i = ∑ i ∈ t, a * f i := by
  classical
  induction t using Finset.induction with
  | empty => simp
  | insert i t hi ih => rw [Finset.sum_insert hi, Finset.sum_insert hi, EReal.left_distrib_of_nonneg_of_ne_top h h', ih]

/-- A sum of reals is the same sum over the extended reals. -/
theorem coe_sum {ι : Type*} (t : Finset ι) (f : ι → ℝ) : ((∑ i ∈ t, f i : ℝ) : EReal) = ∑ i ∈ t, (f i : EReal) := by
  classical
  induction t using Finset.induction with
  | empty => simp
  | insert i t hi ih => rw [Finset.sum_insert hi, Finset.sum_insert hi, EReal.coe_add, ih]

/-- The largest of the first `n` scores. -/
def top (s : ℕ → EReal) (n : ℕ) : EReal := (range n).sup s

/-- The first `n` values weighted by their scores' powers of two relative to the largest. -/
def acc (s v : ℕ → EReal) (n : ℕ) : EReal := ∑ j ∈ range n, Ideal.exp2 (s j - top s n) * v j

theorem le_top (s : ℕ → EReal) {n j : ℕ} (h : j < n) : s j ≤ top s n := Finset.le_sup (Finset.mem_range.mpr h)

/-- The largest score after `w` further ones. -/
theorem top_add (s : ℕ → EReal) (n w : ℕ) : top s (n + w) = max (top s n) ((Finset.univ : Finset (Fin w)).sup fun x => s (n + x.val)) := by
  apply le_antisymm
  · refine Finset.sup_le fun j hj => ?_
    by_cases h : j < n
    · exact le_max_of_le_left (le_top s h)
    · have hw : j - n < w := by have := Finset.mem_range.mp hj; omega
      have := Finset.le_sup (f := fun x : Fin w => s (n + x.val)) (Finset.mem_univ ⟨j - n, hw⟩)
      simp only [show n + (j - n) = j by omega] at this
      exact le_max_of_le_right this
  · refine max_le (Finset.sup_le fun j hj => le_top s (by have := Finset.mem_range.mp hj; omega)) (Finset.sup_le fun x _ => le_top s (by omega))

/-- The weighted sum after `w` further keys: the old sum rescaled, and the new keys' terms. -/
theorem acc_add (s v : ℕ → EReal) (n w : ℕ) : acc s v (n + w)
    = Ideal.exp2 (top s n - top s (n + w)) * acc s v n + ∑ x : Fin w, v (n + x.val) * Ideal.exp2 (s (n + x.val) - top s (n + w)) := by
  have hle : top s n ≤ top s (n + w) := by rw [top_add]; exact le_max_left _ _
  unfold acc
  rw [Finset.sum_range_add, mul_sum _ _ (exp2_nonneg _) (exp2_ne_top (sub_ne_top hle))]
  congr 1
  · refine Finset.sum_congr rfl fun j hj => ?_
    rw [← mul_assoc, exp2_rescale (le_top s (Finset.mem_range.mp hj)) hle]
  · rw [← Fin.sum_univ_eq_sum_range (fun x => Ideal.exp2 (s (n + x) - top s (n + w)) * v (n + x))]
    exact Finset.sum_congr rfl fun x _ => mul_comm _ _

/-- The first `w` keys. -/
theorem top_first (s : ℕ → EReal) (w : ℕ) : top s w = (Finset.univ : Finset (Fin w)).sup fun x => s x.val := by
  have h := top_add s 0 w
  simp only [Nat.zero_add] at h
  rw [h]; unfold top; simp

theorem acc_first (s v : ℕ → EReal) (w : ℕ) : acc s v w = ∑ x : Fin w, v x.val * Ideal.exp2 (s x.val - top s w) := by
  unfold acc
  rw [← Fin.sum_univ_eq_sum_range (fun x => Ideal.exp2 (s x - top s w) * v x)]
  exact Finset.sum_congr rfl fun x _ => mul_comm _ _

/-- Keys whose score is `⊥` add nothing. -/
theorem top_masked (s : ℕ → EReal) {n N : ℕ} (h : n ≤ N) (hs : ∀ j, n ≤ j → s j = ⊥) : top s N = top s n := by
  obtain ⟨w, rfl⟩ := Nat.exists_eq_add_of_le h
  rw [top_add]
  refine max_eq_left (Finset.sup_le fun x _ => ?_)
  rw [hs _ (Nat.le_add_right _ _)]; exact bot_le

theorem acc_masked (s v : ℕ → EReal) {n N : ℕ} (h : n ≤ N) (hs : ∀ j, n ≤ j → s j = ⊥) : acc s v N = acc s v n := by
  have e := top_masked s h hs
  obtain ⟨w, rfl⟩ := Nat.exists_eq_add_of_le h
  unfold acc
  rw [Finset.sum_range_add, e]
  refine (congrArg _ (Finset.sum_eq_zero fun x _ => ?_)).trans (add_zero _)
  rw [hs _ (Nat.le_add_right _ _)]; simp

/-- Only the first `n` scores matter. -/
theorem top_congr {s s' : ℕ → EReal} {n : ℕ} (h : ∀ j < n, s j = s' j) : top s n = top s' n :=
  Finset.sup_congr rfl fun j hj => h j (Finset.mem_range.mp hj)

theorem acc_congr {s s' v v' : ℕ → EReal} {n : ℕ} (h : ∀ j < n, s j = s' j) (hv : ∀ j < n, v j = v' j) : acc s v n = acc s' v' n := by
  unfold acc
  rw [top_congr h]
  exact Finset.sum_congr rfl fun j hj => by rw [h j (Finset.mem_range.mp hj), hv j (Finset.mem_range.mp hj)]

/-- With finite or `-∞` scores, one of them finite, the largest is finite. -/
theorem top_real (s : ℕ → EReal) {n i : ℕ} (hi : i < n) (h : s i ≠ ⊥) (ht : ∀ j < n, s j ≠ ⊤) : ∃ r : ℝ, top s n = r := by
  have h1 : top s n ≠ ⊤ := by
    intro e
    have : top s n < ⊤ := (Finset.sup_lt_iff (bot_lt_top)).mpr fun j hj => lt_top_iff_ne_top.mpr (ht j (Finset.mem_range.mp hj))
    exact absurd e this.ne
  have h2 : top s n ≠ ⊥ := fun e => h (le_bot_iff.mp (e ▸ le_top s hi))
  exact ⟨(top s n).toReal, (EReal.coe_toReal h1 h2).symm⟩

/-- The total weight is a positive real. -/
theorem weight_real (s : ℕ → EReal) {n : ℕ} {r : ℝ} (h : top s n = r) : ∃ l : ℝ, 0 < l ∧ acc s (fun _ => 1) n = l := by
  have hn : 0 < n := by
    by_contra hn
    have : n = 0 := by omega
    subst this
    unfold top at h; simp at h
  have hne : (range n).Nonempty := ⟨0, Finset.mem_range.mpr hn⟩
  obtain ⟨i, hi, hmax⟩ := Finset.exists_mem_eq_sup (range n) hne s
  have hterm : ∀ j ∈ range n, ∃ p : ℝ, 0 ≤ p ∧ Ideal.exp2 (s j - top s n) = p := fun j hj => by
    have a := exp2_nonneg (s j - top s n)
    have b := exp2_ne_top (sub_ne_top (le_top s (Finset.mem_range.mp hj)))
    refine ⟨(Ideal.exp2 (s j - top s n)).toReal, EReal.toReal_nonneg a, (EReal.coe_toReal b ?_).symm⟩
    intro e; rw [e] at a; simp at a
  choose! p hp hpe using hterm
  have hsum : acc s (fun _ => 1) n = ((∑ j ∈ range n, p j : ℝ) : EReal) := by
    unfold acc
    rw [coe_sum]
    exact Finset.sum_congr rfl fun j hj => by rw [mul_one, hpe j hj]
  refine ⟨∑ j ∈ range n, p j, ?_, hsum⟩
  have hpi : p i = 1 := by
    have := hpe i hi
    rw [← hmax, show (range n).sup s = top s n from rfl, h, ← EReal.coe_sub, sub_self, Ideal.exp2_coe] at this
    have e : (Real.rpow 2 0 : ℝ) = p i := by exact_mod_cast this
    rw [← e]; exact Real.rpow_zero 2
  have := Finset.single_le_sum hp hi
  rw [hpi] at this
  linarith

/-- The weighted sum times the reciprocal of the total weight is the sum of the quotients' products. -/
theorem quotient (s v : ℕ → EReal) {n : ℕ} {r : ℝ} (h : top s n = r) :
    acc s v n * Ideal.div 1 (acc s (fun _ => 1) n)
      = ∑ j ∈ range n, Ideal.div (Ideal.exp2 (s j - top s n)) (acc s (fun _ => 1) n) * v j := by
  obtain ⟨l, hl, e⟩ := weight_real s h
  rw [e, Ideal.div_coe hl.ne', one_mul, mul_comm]
  have h0 : (0 : EReal) ≤ ((1 / l : ℝ) : EReal) := by exact_mod_cast (by positivity : (0 : ℝ) ≤ 1 / l)
  unfold acc
  rw [mul_sum _ _ h0 (EReal.coe_ne_top _)]
  refine Finset.sum_congr rfl fun j _ => ?_
  rw [Ideal.div_coe hl.ne', ← mul_assoc, mul_comm (((1 / l : ℝ) : EReal))]

/-- A natural exponential of a difference in units of `log 2` is the power of two. -/
theorem exp_log2 (a b : EReal) : Ideal.exp (a * (Real.log 2 : ℝ) - b * (Real.log 2 : ℝ)) = Ideal.exp2 (a - b) := by
  have hp : 0 < Real.log 2 := Real.log_pos one_lt_two
  have hT : (⊤ : EReal) * (Real.log 2 : ℝ) = ⊤ := EReal.top_mul_coe_of_pos hp
  have hB : (⊥ : EReal) * (Real.log 2 : ℝ) = ⊥ := EReal.bot_mul_coe_of_pos hp
  induction a with
  | bot => rw [hB]; simp
  | top =>
    induction b with
    | bot => rw [hT, hB]; rfl
    | top => rw [hT]; simp
    | coe q => rw [hT, ← EReal.coe_mul, EReal.top_sub_coe, EReal.top_sub_coe]; simp
  | coe p =>
    induction b with
    | bot => rw [hB, ← EReal.coe_mul, EReal.coe_sub_bot, EReal.coe_sub_bot]; rfl
    | top => rw [hT, ← EReal.coe_mul]; simp
    | coe q =>
      rw [← EReal.coe_mul, ← EReal.coe_mul, ← EReal.coe_sub, ← EReal.coe_sub, Ideal.exp_coe, Ideal.exp2_coe]
      congr 1
      show Real.exp _ = (2 : ℝ) ^ (p - q)
      rw [Real.rpow_def_of_pos two_pos]
      congr 1; ring

/-- The largest of the scaled scores is the largest score, scaled. -/
theorem top_scaled (s : ℕ → EReal) (n : ℕ) : top (fun j => s j * (Real.log 2 : ℝ)) n = top s n * (Real.log 2 : ℝ) := by
  have hp : 0 < Real.log 2 := Real.log_pos one_lt_two
  have h0 : (0 : EReal) ≤ ((Real.log 2 : ℝ) : EReal) := by exact_mod_cast hp.le
  unfold top
  refine (Finset.comp_sup_eq_sup_comp (fun x : EReal => x * (Real.log 2 : ℝ)) (fun x y => ?_) (EReal.bot_mul_coe_of_pos hp)).symm
  have hm : Monotone fun x : EReal => x * (Real.log 2 : ℝ) := fun a b hab => mul_le_mul_of_nonneg_right hab h0
  exact hm.map_sup x y

end Cert.Softmax

end
-- ==== Proof.AttnStep.lean ====
/- One key block's step of the attention call, entry by entry: the running maximum and the running sums over the extended
   reals. Hand-written. -/
module

public import proofs.«01_k».proof.Proof.AttnRun
public import proofs.«01_k».proof.Proof.AttnMath
public import Idealize.ShloMosaic.Lib.Pipeline.ValueKit
public import Idealize.ShloMosaic.Lib.Pointwise
public import Idealize.ShloMosaic.Lib.Pipeline.ReadBack

@[expose] public section

set_option maxRecDepth 16384

noncomputable section

namespace Cert.AttnIdeal.Hand

open Cert.AttnIdeal Cert.AttnIdeal.Gen Idealize.ShloMosaic Idealize.ShloMosaic.TcCoe Idealize.SL.Sem

/-- The word of negative infinity. -/
theorem ofBits_negInf : Ideal.ofBits .f32 0xFF800000#32 = ⊥ := by
  simp [Ideal.ofBits, Ideal.ieee]

/-- The running maximum after a half block, left and right. -/
theorem mL_apply (s : FVec Ideal S512x512 .f32) (M : Vec Ideal S1x1x256 .f32) (c : Fin 256) (y : Fin 512) (hy : y.val = c.val) :
    mL s M (ix3 0 0 c) = max (M (ix3 0 0 c)) (Finset.univ.sup fun k : Fin 512 => s (ix2 k y)) := by
  obtain ⟨y, hb⟩ := y
  dsimp only at hy
  subst hy
  unfold mL
  pointwise [k0_pay32, k0_pay28, k0_pay26, k0_pay27]
  rw [ofBits_negInf]; rfl

theorem mR_apply (s : FVec Ideal S512x512 .f32) (M : Vec Ideal S1x1x256 .f32) (c : Fin 256) (y : Fin 512) (hy : y.val = 256 + c.val) :
    mR s M (ix3 0 0 c) = max (M (ix3 0 0 c)) (Finset.univ.sup fun k : Fin 512 => s (ix2 k y)) := by
  obtain ⟨y, hb⟩ := y
  dsimp only at hy
  subst hy
  unfold mR
  pointwise [k0_pay24, k0_pay19, k0_pay17, k0_pay18]
  rw [ofBits_negInf]; rfl

/-- The running sums after a half block, left and right. -/
theorem aL_apply (s : FVec Ideal S512x512 .f32) (M : Vec Ideal S1x1x256 .f32) (A : Vec Ideal S1x144x256 .f32) (v : Vec Ideal S144x512 .bf16)
    (r : Fin 144) (c : Fin 256) (y : Fin 512) (hy : y.val = c.val) :
    aL s M A v (ix3 0 r c)
      = Ideal.exp2 (M (ix3 0 0 c) - max (M (ix3 0 0 c)) (Finset.univ.sup fun k : Fin 512 => s (ix2 k y))) * A (ix3 0 r c)
        + ∑ k : Fin 512, v (ix2 r k) * Ideal.exp2 (s (ix2 k y) - max (M (ix3 0 0 c)) (Finset.univ.sup fun k : Fin 512 => s (ix2 k y))) := by
  obtain ⟨y, hb⟩ := y
  dsimp only at hy
  subst hy
  unfold aL
  pointwise [k0_pay31, k0_pay29, k0_pay30, k0_pay28, k0_pay26, k0_pay27]
  rw [ofBits_negInf]; rfl

theorem aR_apply (s : FVec Ideal S512x512 .f32) (M : Vec Ideal S1x1x256 .f32) (A : Vec Ideal S1x144x256 .f32) (v : Vec Ideal S144x512 .bf16)
    (r : Fin 144) (c : Fin 256) (y : Fin 512) (hy : y.val = 256 + c.val) :
    aR s M A v (ix3 0 r c)
      = Ideal.exp2 (M (ix3 0 0 c) - max (M (ix3 0 0 c)) (Finset.univ.sup fun k : Fin 512 => s (ix2 k y))) * A (ix3 0 r c)
        + ∑ k : Fin 512, v (ix2 r k) * Ideal.exp2 (s (ix2 k y) - max (M (ix3 0 0 c)) (Finset.univ.sup fun k : Fin 512 => s (ix2 k y))) := by
  obtain ⟨y, hb⟩ := y
  dsimp only at hy
  subst hy
  unfold aR
  pointwise [k0_pay23, k0_pay20, k0_pay21, k0_pay22, k0_pay19, k0_pay17, k0_pay18]
  rw [ofBits_negInf]; rfl

/-- What the eight stored halves of the maximum hold, when each holds one function's entries. -/
theorem packM_apply (a b c d e f g h : Vec Ideal S1x1x256 .f32) (G : Fin 4 → Fin 512 → EReal)
    (ha : ∀ (x : Fin 256) (y : Fin 512), y.val = x.val → a (ix3 0 0 x) = G 0 y) (hb : ∀ (x : Fin 256) (y : Fin 512), y.val = 256 + x.val → b (ix3 0 0 x) = G 0 y)
    (hc : ∀ (x : Fin 256) (y : Fin 512), y.val = x.val → c (ix3 0 0 x) = G 1 y) (hd : ∀ (x : Fin 256) (y : Fin 512), y.val = 256 + x.val → d (ix3 0 0 x) = G 1 y)
    (he : ∀ (x : Fin 256) (y : Fin 512), y.val = x.val → e (ix3 0 0 x) = G 2 y) (hf : ∀ (x : Fin 256) (y : Fin 512), y.val = 256 + x.val → f (ix3 0 0 x) = G 2 y)
    (hg : ∀ (x : Fin 256) (y : Fin 512), y.val = x.val → g (ix3 0 0 x) = G 3 y) (hh : ∀ (x : Fin 256) (y : Fin 512), y.val = 256 + x.val → h (ix3 0 0 x) = G 3 y)
    (u : Fin 4) (y : Fin 512) : packM a b c d e f g h (ix3 u 0 y) = G u y := by
  unfold packM
  canon_tiles x q
  all_goals (idx_vars x; obtain rfl : x0 = 0 := Subsingleton.elim _ _; obtain rfl : x1 = 0 := Subsingleton.elim _ _)
  · obtain rfl : u = 3 := Fin.ext q0
    exact hh x2 y q2
  · obtain rfl : u = 3 := Fin.ext q0
    exact hg x2 y q2
  · obtain rfl : u = 2 := Fin.ext q0
    exact hf x2 y q2
  · obtain rfl : u = 2 := Fin.ext q0
    exact he x2 y q2
  · obtain rfl : u = 1 := Fin.ext q0
    exact hd x2 y q2
  · obtain rfl : u = 1 := Fin.ext q0
    exact hc x2 y q2
  · obtain rfl : u = 0 := Fin.ext q0
    exact hb x2 y q2
  · obtain rfl : u = 0 := Fin.ext q0
    exact ha x2 y q2

/-- What the eight stored halves of the sums hold, when each holds one function's entries. -/
theorem packA_apply (a b c d e f g h : Vec Ideal S1x144x256 .f32) (G : Fin 4 → Fin 144 → Fin 512 → EReal)
    (ha : ∀ (r : Fin 144) (x : Fin 256) (y : Fin 512), y.val = x.val → a (ix3 0 r x) = G 0 r y) (hb : ∀ (r : Fin 144) (x : Fin 256) (y : Fin 512), y.val = 256 + x.val → b (ix3 0 r x) = G 0 r y)
    (hc : ∀ (r : Fin 144) (x : Fin 256) (y : Fin 512), y.val = x.val → c (ix3 0 r x) = G 1 r y) (hd : ∀ (r : Fin 144) (x : Fin 256) (y : Fin 512), y.val = 256 + x.val → d (ix3 0 r x) = G 1 r y)
    (he : ∀ (r : Fin 144) (x : Fin 256) (y : Fin 512), y.val = x.val → e (ix3 0 r x) = G 2 r y) (hf : ∀ (r : Fin 144) (x : Fin 256) (y : Fin 512), y.val = 256 + x.val → f (ix3 0 r x) = G 2 r y)
    (hg : ∀ (r : Fin 144) (x : Fin 256) (y : Fin 512), y.val = x.val → g (ix3 0 r x) = G 3 r y) (hh : ∀ (r : Fin 144) (x : Fin 256) (y : Fin 512), y.val = 256 + x.val → h (ix3 0 r x) = G 3 r y)
    (u : Fin 4) (r : Fin 144) (y : Fin 512) : View.canon (Val := Elt Ideal) (listA a b c d e f g h) (ix3 u r y) = G u r y := by
  unfold listA
  canon_tiles x q
  all_goals (idx_vars x; obtain rfl : x0 = 0 := Subsingleton.elim _ _; obtain rfl : r = x1 := Fin.ext q1)
  · obtain rfl : u = 3 := Fin.ext q0
    exact hh r x2 y q2
  · obtain rfl : u = 3 := Fin.ext q0
    exact hg r x2 y q2
  · obtain rfl : u = 2 := Fin.ext q0
    exact hf r x2 y q2
  · obtain rfl : u = 2 := Fin.ext q0
    exact he r x2 y q2
  · obtain rfl : u = 1 := Fin.ext q0
    exact hd r x2 y q2
  · obtain rfl : u = 1 := Fin.ext q0
    exact hc r x2 y q2
  · obtain rfl : u = 0 := Fin.ext q0
    exact hb r x2 y q2
  · obtain rfl : u = 0 := Fin.ext q0
    exact ha r x2 y q2

/-- What the four stored heads of the scores hold. -/
theorem packS_apply (a b c d : Vec Ideal S1x512x512 .f32) (u : Fin 4) (k y : Fin 512) :
    View.canon (Val := Elt Ideal) (listS a b c d) (ix3 u k y) = (![a, b, c, d] u) (ix3 0 k y) := by
  unfold listS
  canon_tiles x q
  all_goals (idx_vars x; obtain rfl : x0 = 0 := Subsingleton.elim _ _; obtain rfl : k = x1 := Fin.ext q1; obtain rfl : y = x2 := Fin.ext q2)
  · obtain rfl : u = 3 := Fin.ext q0
    rfl
  · obtain rfl : u = 2 := Fin.ext q0
    rfl
  · obtain rfl : u = 1 := Fin.ext q0
    rfl
  · obtain rfl : u = 0 := Fin.ext q0
    rfl

/-- What the four stored heads of the maximum over the meta keys hold. -/
theorem headsM_apply (a b c d : Vec Ideal S1x1x512 .f32) (u : Fin 4) (y : Fin 512) :
    View.canon (Val := Elt Ideal) (headsML a b c d) (ix3 u 0 y) = (![a, b, c, d] u) (ix3 0 0 y) := by
  unfold headsML
  canon_tiles x q
  all_goals (idx_vars x; obtain rfl : x0 = 0 := Subsingleton.elim _ _; obtain rfl : x1 = 0 := Subsingleton.elim _ _; obtain rfl : y = x2 := Fin.ext q2)
  · obtain rfl : u = 3 := Fin.ext q0
    rfl
  · obtain rfl : u = 2 := Fin.ext q0
    rfl
  · obtain rfl : u = 1 := Fin.ext q0
    rfl
  · obtain rfl : u = 0 := Fin.ext q0
    rfl

/-- What the four stored heads of the sums over the meta keys hold. -/
theorem headsA_apply (a b c d : Vec Ideal S1x144x512 .f32) (u : Fin 4) (r : Fin 144) (y : Fin 512) :
    View.canon (Val := Elt Ideal) (headsAL a b c d) (ix3 u r y) = (![a, b, c, d] u) (ix3 0 r y) := by
  unfold headsAL
  canon_tiles x q
  all_goals (idx_vars x; obtain rfl : x0 = 0 := Subsingleton.elim _ _; obtain rfl : r = x1 := Fin.ext q1; obtain rfl : y = x2 := Fin.ext q2)
  · obtain rfl : u = 3 := Fin.ext q0
    rfl
  · obtain rfl : u = 2 := Fin.ext q0
    rfl
  · obtain rfl : u = 1 := Fin.ext q0
    rfl
  · obtain rfl : u = 0 := Fin.ext q0
    rfl

/-- What the output block's four column groups hold. -/
theorem headsO_apply (a b c d : Vec Ideal S512x128 .bf16) (u : Fin 4) (y : Fin 512) (r : Fin 128) (z : Fin 512) (hz : z.val = 128 * u.val + r.val) :
    headsO a b c d (ix2 y z) = (![a, b, c, d] u) (ix2 y r) := by
  unfold headsO
  canon_tiles x q
  all_goals (idx_vars x; obtain rfl : y = x0 := Fin.ext q0)
  · have q1' : z.val = 384 + x1.val := q1
    obtain rfl : u = 3 := Fin.ext (show u.val = 3 by omega)
    obtain rfl : r = x1 := Fin.ext (by rw [q1'] at hz; simpa using hz.symm)
    rfl
  · have q1' : z.val = 256 + x1.val := q1
    obtain rfl : u = 2 := Fin.ext (show u.val = 2 by omega)
    obtain rfl : r = x1 := Fin.ext (by rw [q1'] at hz; simpa using hz.symm)
    rfl
  · have q1' : z.val = 128 + x1.val := q1
    obtain rfl : u = 1 := Fin.ext (show u.val = 1 by omega)
    obtain rfl : r = x1 := Fin.ext (by rw [q1'] at hz; simpa using hz.symm)
    rfl
  · have q1' : z.val = x1.val := q1
    obtain rfl : u = 0 := Fin.ext (show u.val = 0 by omega)
    obtain rfl : r = x1 := Fin.ext (by rw [q1'] at hz; simpa using hz.symm)
    rfl

/-- The running maximum after a key block, at a head and a query. -/
theorem stepM_apply (s0 s1 s2 s3 : FVec Ideal S512x512 .f32) (M : Vec Ideal S4x1x512 .f32) (u : Fin 4) (y : Fin 512) :
    stepM s0 s1 s2 s3 M (ix3 u 0 y) = max (M (ix3 u 0 y)) (Finset.univ.sup fun k : Fin 512 => (![s0, s1, s2, s3] u) (ix2 k y)) := by
  unfold stepM
  refine packM_apply _ _ _ _ _ _ _ _ (fun u y => max (M (ix3 u 0 y)) (Finset.univ.sup fun k : Fin 512 => (![s0, s1, s2, s3] u) (ix2 k y))) ?_ ?_ ?_ ?_ ?_ ?_ ?_ ?_ u y
  all_goals (intro x y h; first | rw [mL_apply _ _ x y h] | rw [mR_apply _ _ x y h])
  all_goals refine congrArg₂ max (View.ld_unit_apply_of (Val := Elt Ideal) M _ _ _ _ _ fun a => ?_) rfl
  all_goals (fin_cases a; rfl; rfl; first | exact h | exact h.trans (Nat.zero_add _).symm)

/-- The running sums after a key block, at a head, a row and a query. -/
theorem stepA_apply (s0 s1 s2 s3 : FVec Ideal S512x512 .f32) (v0 v1 v2 v3 : Vec Ideal S144x512 .bf16) (M : Vec Ideal S4x1x512 .f32)
    (A : Vec Ideal S4x144x512 .f32) (u : Fin 4) (r : Fin 144) (y : Fin 512) (g : EReal) (hg : stepM s0 s1 s2 s3 M (ix3 u 0 y) = g) :
    View.canon (Val := Elt Ideal) (stepAL s0 s1 s2 s3 v0 v1 v2 v3 M A) (ix3 u r y) = Ideal.exp2 (M (ix3 u 0 y) - g) * A (ix3 u r y)
      + ∑ k : Fin 512, (![v0, v1, v2, v3] u) (ix2 r k) * Ideal.exp2 ((![s0, s1, s2, s3] u) (ix2 k y) - g) := by
  subst hg
  rw [stepM_apply]
  unfold stepAL
  refine packA_apply _ _ _ _ _ _ _ _ (fun u r y => Ideal.exp2 (M (ix3 u 0 y) - max (M (ix3 u 0 y)) (Finset.univ.sup fun k : Fin 512 => (![s0, s1, s2, s3] u) (ix2 k y))) * A (ix3 u r y)
      + ∑ k : Fin 512, (![v0, v1, v2, v3] u) (ix2 r k) * Ideal.exp2 ((![s0, s1, s2, s3] u) (ix2 k y) - max (M (ix3 u 0 y)) (Finset.univ.sup fun k : Fin 512 => (![s0, s1, s2, s3] u) (ix2 k y)))) ?_ ?_ ?_ ?_ ?_ ?_ ?_ ?_ u r y
  all_goals (intro r x y h; first | rw [aL_apply _ _ _ _ r x y h] | rw [aR_apply _ _ _ _ r x y h])
  · rw [show mAt0L M (ix3 0 0 x) = M (ix3 0 0 y) from View.ld_unit_apply_of (Val := Elt Ideal) M _ _ _ _ _ fun a => by fin_cases a; rfl; rfl; exact h.trans (Nat.zero_add _).symm,
      show aAt0L A (ix3 0 r x) = A (ix3 0 r y) from View.ld_unit_apply_of (Val := Elt Ideal) A _ _ _ _ _ fun a => by fin_cases a; rfl; exact (Nat.zero_add _).symm; exact h.trans (Nat.zero_add _).symm]
    rfl
  · rw [show mAt0R M (ix3 0 0 x) = M (ix3 0 0 y) from View.ld_unit_apply_of (Val := Elt Ideal) M _ _ _ _ _ fun a => by fin_cases a; rfl; rfl; exact h,
      show aAt0R A (ix3 0 r x) = A (ix3 0 r y) from View.ld_unit_apply_of (Val := Elt Ideal) A _ _ _ _ _ fun a => by fin_cases a; rfl; exact (Nat.zero_add _).symm; exact h]
    rfl
  · rw [show mAt1L M (ix3 0 0 x) = M (ix3 1 0 y) from View.ld_unit_apply_of (Val := Elt Ideal) M _ _ _ _ _ fun a => by fin_cases a; rfl; rfl; exact h.trans (Nat.zero_add _).symm,
      show aAt1L A (ix3 0 r x) = A (ix3 1 r y) from View.ld_unit_apply_of (Val := Elt Ideal) A _ _ _ _ _ fun a => by fin_cases a; rfl; exact (Nat.zero_add _).symm; exact h.trans (Nat.zero_add _).symm]
    rfl
  · rw [show mAt1R M (ix3 0 0 x) = M (ix3 1 0 y) from View.ld_unit_apply_of (Val := Elt Ideal) M _ _ _ _ _ fun a => by fin_cases a; rfl; rfl; exact h,
      show aAt1R A (ix3 0 r x) = A (ix3 1 r y) from View.ld_unit_apply_of (Val := Elt Ideal) A _ _ _ _ _ fun a => by fin_cases a; rfl; exact (Nat.zero_add _).symm; exact h]
    rfl
  · rw [show mAt2L M (ix3 0 0 x) = M (ix3 2 0 y) from View.ld_unit_apply_of (Val := Elt Ideal) M _ _ _ _ _ fun a => by fin_cases a; rfl; rfl; exact h.trans (Nat.zero_add _).symm,
      show aAt2L A (ix3 0 r x) = A (ix3 2 r y) from View.ld_unit_apply_of (Val := Elt Ideal) A _ _ _ _ _ fun a => by fin_cases a; rfl; exact (Nat.zero_add _).symm; exact h.trans (Nat.zero_add _).symm]
    rfl
  · rw [show mAt2R M (ix3 0 0 x) = M (ix3 2 0 y) from View.ld_unit_apply_of (Val := Elt Ideal) M _ _ _ _ _ fun a => by fin_cases a; rfl; rfl; exact h,
      show aAt2R A (ix3 0 r x) = A (ix3 2 r y) from View.ld_unit_apply_of (Val := Elt Ideal) A _ _ _ _ _ fun a => by fin_cases a; rfl; exact (Nat.zero_add _).symm; exact h]
    rfl
  · rw [show mAt3L M (ix3 0 0 x) = M (ix3 3 0 y) from View.ld_unit_apply_of (Val := Elt Ideal) M _ _ _ _ _ fun a => by fin_cases a; rfl; rfl; exact h.trans (Nat.zero_add _).symm,
      show aAt3L A (ix3 0 r x) = A (ix3 3 r y) from View.ld_unit_apply_of (Val := Elt Ideal) A _ _ _ _ _ fun a => by fin_cases a; rfl; exact (Nat.zero_add _).symm; exact h.trans (Nat.zero_add _).symm]
    rfl
  · rw [show mAt3R M (ix3 0 0 x) = M (ix3 3 0 y) from View.ld_unit_apply_of (Val := Elt Ideal) M _ _ _ _ _ fun a => by fin_cases a; rfl; rfl; exact h,
      show aAt3R A (ix3 0 r x) = A (ix3 3 r y) from View.ld_unit_apply_of (Val := Elt Ideal) A _ _ _ _ _ fun a => by fin_cases a; rfl; exact (Nat.zero_add _).symm; exact h]
    rfl

/-- One head's kept scores, as a matrix. -/
theorem sAt_apply (S : Vec Ideal S4x512x512 .f32) (u : Fin 4) (k y : Fin 512) :
    (![k0_pay6 (sAt0 S), k0_pay6 (sAt1 S), k0_pay6 (sAt2 S), k0_pay6 (sAt3 S)] u : FVec Ideal S512x512 .f32) (ix2 k y) = S (ix3 u k y) := by
  fin_cases u
  · show k0_pay6 (sAt0 S) (ix2 k y) = S (ix3 0 k y)
    pointwise [k0_pay6, sAt0]
  · show k0_pay6 (sAt1 S) (ix2 k y) = S (ix3 1 k y)
    pointwise [k0_pay6, sAt1]
  · show k0_pay6 (sAt2 S) (ix2 k y) = S (ix3 2 k y)
    pointwise [k0_pay6, sAt2]
  · show k0_pay6 (sAt3 S) (ix2 k y) = S (ix3 3 k y)
    pointwise [k0_pay6, sAt3]

/-- The kept scores of the block on the diagonal, masked. -/
theorem diag_apply (S : Vec Ideal S1x512x512 .f32) (k y : Fin 512) :
    k0_pay149 S (ix2 k y) = if k.val ≤ y.val then S (ix3 0 k y) else ⊥ := by
  pointwise [k0_pay149]
  rw [show (Named.named (F := Ideal) κ "mask" (φ := .f32) 0xF149F2CA#32) = (⊥ : EReal) from IdealRules.named_const.ideal_named_scalar _ _ _ _ rfl]
  word_cmp

theorem score_apply (x1 : Vec Ideal S512x256 .bf16) (x0 : Vec Ideal S256x512 .bf16) (k y : Fin 512) :
    k0_pay10 x1 x0 (ix3 0 k y) = ∑ d : Fin 256, x1 (ix2 k d) * x0 (ix2 d y) := by
  pointwise [k0_pay10]

theorem metaScore_apply (x1 : Vec Ideal S16x256 .bf16) (x0 : Vec Ideal S256x512 .bf16) (k : Fin 16) (y : Fin 512) :
    k0_pay121 x1 x0 (ix2 k y) = ∑ d : Fin 256, x1 (ix2 k d) * x0 (ix2 d y) := by
  pointwise [k0_pay121]

theorem metaMax_apply (s : FVec Ideal S16x512 .f32) (y : Fin 512) :
    k0_pay129 s (ix3 0 0 y) = Finset.univ.sup fun k : Fin 16 => s (ix2 k y) := by
  pointwise [k0_pay129, k0_pay127]
  rw [ofBits_negInf]; rfl

theorem metaSum_apply (s : FVec Ideal S16x512 .f32) (v : Vec Ideal S144x16 .bf16) (r : Fin 144) (y : Fin 512) :
    k0_pay138 (k0_pay128 s) v (ix3 0 r y) = ∑ k : Fin 16, v (ix2 r k) * Ideal.exp2 (s (ix2 k y) - Finset.univ.sup fun k : Fin 16 => s (ix2 k y)) := by
  pointwise [k0_pay138, k0_pay128, k0_pay127]
  rw [ofBits_negInf]; rfl

theorem head_apply (A : Vec Ideal S1x144x512 .f32) (r : Fin 128) (y : Fin 512) :
    k0_pay208 A (ix2 y r) = A (ix3 0 ⟨r.val, by omega⟩ y) * Ideal.div 1 (A (ix3 0 128 y)) := by
  pointwise [k0_pay208]

theorem outOf_apply (A : Vec Ideal S4x144x512 .f32) (u : Fin 4) (y : Fin 512) (r : Fin 128) (z : Fin 512) (hz : z.val = 128 * u.val + r.val) :
    outOf A (ix2 y z) = A (ix3 u ⟨r.val, by omega⟩ y) * Ideal.div 1 (A (ix3 u 128 y)) := by
  unfold outOf
  rw [headsO_apply _ _ _ _ u y r z hz]
  fin_cases u
  all_goals (dsimp only [Fin.zero_eta, Fin.mk_one, Fin.reduceFinMk, Matrix.cons_val]; pointwise [k0_pay208])

end Cert.AttnIdeal.Hand

end
-- ==== Proof.AttnKeys.lean ====
/- The attention call's state after each key block: the running maximum and the running sums are those of the keys seen so
   far, and the kept scores are the next block's. Hand-written. -/
module

public import proofs.«01_k».proof.Proof.AttnStep

@[expose] public section

set_option maxRecDepth 16384

noncomputable section

namespace Cert.AttnIdeal.Hand

open Cert.AttnIdeal Cert.AttnIdeal.Gen Idealize.ShloMosaic Idealize.ShloMosaic.TcCoe Idealize.SL.Sem
open Cert.Softmax (top acc)

/-! Where the blocks are read: rows of a head, columns of a query or key block. -/

theorem off1 : ∀ i : grid0.Coords, k0_off1 i = ![256 * (0 : Fin 4).val, 512 * (i 2).val] := by decide +kernel
theorem off2 : ∀ i : grid0.Coords, k0_off2 i = ![256 * (1 : Fin 4).val, 512 * (i 2).val] := by decide +kernel
theorem off3 : ∀ i : grid0.Coords, k0_off3 i = ![256 * (2 : Fin 4).val, 512 * (i 2).val] := by decide +kernel
theorem off4 : ∀ i : grid0.Coords, k0_off4 i = ![256 * (3 : Fin 4).val, 512 * (i 2).val] := by decide +kernel
theorem off6 : ∀ i : grid0.Coords, k0_off6 i = ![256 * (0 : Fin 4).val, 512 * (i 2).val] := by decide +kernel
theorem off9 : ∀ i : grid0.Coords, k0_off9 i = ![256 * (1 : Fin 4).val, 512 * (i 2).val] := by decide +kernel
theorem off12 : ∀ i : grid0.Coords, k0_off12 i = ![256 * (2 : Fin 4).val, 512 * (i 2).val] := by decide +kernel
theorem off15 : ∀ i : grid0.Coords, k0_off15 i = ![256 * (3 : Fin 4).val, 512 * (i 2).val] := by decide +kernel
theorem off5 : ∀ (i : grid0.Coords) (k : Fin (k0_t1_loop i).trips), k0_off5 i k = ![512 * (k.val + 1), 256 * (0 : Fin 4).val] := by decide +kernel
theorem off8 : ∀ (i : grid0.Coords) (k : Fin (k0_t1_loop i).trips), k0_off8 i k = ![512 * (k.val + 1), 256 * (1 : Fin 4).val] := by decide +kernel
theorem off11 : ∀ (i : grid0.Coords) (k : Fin (k0_t1_loop i).trips), k0_off11 i k = ![512 * (k.val + 1), 256 * (2 : Fin 4).val] := by decide +kernel
theorem off14 : ∀ (i : grid0.Coords) (k : Fin (k0_t1_loop i).trips), k0_off14 i k = ![512 * (k.val + 1), 256 * (3 : Fin 4).val] := by decide +kernel
theorem off7 : ∀ (i : grid0.Coords) (k : Fin (k0_t1_loop i).trips), k0_off7 i k = ![144 * (0 : Fin 4).val, 512 * k.val] := by decide +kernel
theorem off10 : ∀ (i : grid0.Coords) (k : Fin (k0_t1_loop i).trips), k0_off10 i k = ![144 * (1 : Fin 4).val, 512 * k.val] := by decide +kernel
theorem off13 : ∀ (i : grid0.Coords) (k : Fin (k0_t1_loop i).trips), k0_off13 i k = ![144 * (2 : Fin 4).val, 512 * k.val] := by decide +kernel
theorem off16 : ∀ (i : grid0.Coords) (k : Fin (k0_t1_loop i).trips), k0_off16 i k = ![144 * (3 : Fin 4).val, 512 * k.val] := by decide +kernel
theorem off29 : ∀ i : grid0.Coords, k0_off29 i = ![256 * (0 : Fin 4).val, 512 * min ((i 2).val + 1) 7] := by decide +kernel
theorem off31 : ∀ i : grid0.Coords, k0_off31 i = ![256 * (1 : Fin 4).val, 512 * min ((i 2).val + 1) 7] := by decide +kernel
theorem off33 : ∀ i : grid0.Coords, k0_off33 i = ![256 * (2 : Fin 4).val, 512 * min ((i 2).val + 1) 7] := by decide +kernel
theorem off35 : ∀ i : grid0.Coords, k0_off35 i = ![256 * (3 : Fin 4).val, 512 * min ((i 2).val + 1) 7] := by decide +kernel
theorem off30 : ∀ i : grid0.Coords, k0_off30 i = ![144 * (0 : Fin 4).val, 512 * (i 2).val] := by decide +kernel
theorem off32 : ∀ i : grid0.Coords, k0_off32 i = ![144 * (1 : Fin 4).val, 512 * (i 2).val] := by decide +kernel
theorem off34 : ∀ i : grid0.Coords, k0_off34 i = ![144 * (2 : Fin 4).val, 512 * (i 2).val] := by decide +kernel
theorem off36 : ∀ i : grid0.Coords, k0_off36 i = ![144 * (3 : Fin 4).val, 512 * (i 2).val] := by decide +kernel

/-- The score of key `j` (the meta keys first) against query `q`, in one of the point's four heads. -/
def sc (x0 : Vec Ideal S1024x4096 .bf16) (x1 : Vec Ideal S4096x1024 .bf16) (x3 : Vec Ideal S16x1024 .bf16) (u : Fin 4) (q : Fin 4096) (j : ℕ) : EReal :=
  if h : j < 16 then ∑ d : Fin 256, x3 (ix2 ⟨j, h⟩ ⟨256 * u.val + d.val, by omega⟩) * x0 (ix2 ⟨256 * u.val + d.val, by omega⟩ q)
  else ∑ d : Fin 256, x1 (ix2 ⟨(j - 16) % 4096, Nat.mod_lt _ (by norm_num)⟩ ⟨256 * u.val + d.val, by omega⟩) * x0 (ix2 ⟨256 * u.val + d.val, by omega⟩ q)

/-- Row `r` of key `j`'s values in one of the point's four heads. -/
def va (x2 : Vec Ideal S576x4096 .bf16) (x4 : Vec Ideal S576x16 .bf16) (u : Fin 4) (r : Fin 144) (j : ℕ) : EReal :=
  if h : j < 16 then x4 (ix2 ⟨144 * u.val + r.val, by omega⟩ ⟨j, h⟩)
  else x2 (ix2 ⟨144 * u.val + r.val, by omega⟩ ⟨(j - 16) % 4096, Nat.mod_lt _ (by norm_num)⟩)

section
variable (x0 : Vec Ideal S1024x4096 .bf16) (x1 : Vec Ideal S4096x1024 .bf16) (x2 : Vec Ideal S576x4096 .bf16) (x3 : Vec Ideal S16x1024 .bf16)
  (x4 : Vec Ideal S576x16 .bf16)

/-- A block of scores loaded and multiplied. -/
theorem score_ld (o1 o2 : Fin 2 → ℕ) (h1 h2) (u : Fin 4) (n p : ℕ) (q : Fin 4096) (k y : Fin 512) (hn : n + 512 ≤ 4096)
    (e1 : o1 = ![n, 256 * u.val]) (e2 : o2 = ![256 * u.val, p]) (hq : q.val = p + y.val) :
    k0_pay10 (View.ld (Val := Elt Ideal) x1 (Rect.unit (s := S4096x1024) o1 S512x256.size h1))
      (View.ld (Val := Elt Ideal) x0 (Rect.unit (s := S1024x4096) o2 S256x512.size h2)) (ix3 0 k y) = sc x0 x1 x3 u q (16 + n + k.val) := by
  subst e1 e2
  refine (score_apply _ _ k y).trans ?_
  unfold sc
  rw [dif_neg (by omega)]
  refine Finset.sum_congr rfl fun d _ => ?_
  refine Ideal.mul_congr (View.ld_unit_apply_of (Val := Elt Ideal) x1 _ _ _ _ _ fun a => ?_) (View.ld_unit_apply_of (Val := Elt Ideal) x0 _ _ _ _ _ fun a => ?_)
  · fin_cases a
    · show (16 + n + k.val - 16) % 4096 = n + k.val
      rw [Nat.mod_eq_of_lt (by omega)]; omega
    · rfl
  · fin_cases a
    · rfl
    · exact hq

/-- The meta keys' scores loaded and multiplied. -/
theorem metaScore_ld (o1 o2 : Fin 2 → ℕ) (h1 h2) (u : Fin 4) (p : ℕ) (q : Fin 4096) (k : Fin 16) (y : Fin 512)
    (e1 : o1 = ![0, 256 * u.val]) (e2 : o2 = ![256 * u.val, p]) (hq : q.val = p + y.val) :
    k0_pay121 (View.ld (Val := Elt Ideal) x3 (Rect.unit (s := S16x1024) o1 S16x256.size h1))
      (View.ld (Val := Elt Ideal) x0 (Rect.unit (s := S1024x4096) o2 S256x512.size h2)) (ix2 k y) = sc x0 x1 x3 u q k.val := by
  subst e1 e2
  refine (metaScore_apply _ _ k y).trans ?_
  unfold sc
  rw [dif_pos k.isLt]
  refine Finset.sum_congr rfl fun d _ => ?_
  refine Ideal.mul_congr (View.ld_unit_apply_of (Val := Elt Ideal) x3 _ _ _ _ _ fun a => ?_) (View.ld_unit_apply_of (Val := Elt Ideal) x0 _ _ _ _ _ fun a => ?_)
  · fin_cases a
    · exact (Nat.zero_add _).symm
    · rfl
  · fin_cases a
    · rfl
    · exact hq

/-- A block of values loaded. -/
theorem value_ld (o : Fin 2 → ℕ) (h) (u : Fin 4) (n : ℕ) (r : Fin 144) (k : Fin 512) (hn : n + 512 ≤ 4096) (e : o = ![144 * u.val, n]) :
    View.ld (Val := Elt Ideal) x2 (Rect.unit (s := S576x4096) o S144x512.size h) (ix2 r k) = va x2 x4 u r (16 + n + k.val) := by
  subst e
  unfold va
  rw [dif_neg (by omega)]
  refine View.ld_unit_apply_of (Val := Elt Ideal) x2 _ _ _ _ _ fun a => ?_
  fin_cases a
  · rfl
  · show (16 + n + k.val - 16) % 4096 = n + k.val
    rw [Nat.mod_eq_of_lt (by omega)]; omega

/-- The meta keys' values loaded. -/
theorem metaValue_ld (o : Fin 2 → ℕ) (h) (u : Fin 4) (r : Fin 144) (k : Fin 16) (e : o = ![144 * u.val, 0]) :
    View.ld (Val := Elt Ideal) x4 (Rect.unit (s := S576x16) o S144x16.size h) (ix2 r k) = va x2 x4 u r k.val := by
  subst e
  unfold va
  rw [dif_pos k.isLt]
  refine View.ld_unit_apply_of (Val := Elt Ideal) x4 _ _ _ _ _ fun a => ?_
  fin_cases a
  · rfl
  · exact (Nat.zero_add _).symm

variable (i : grid0.Coords) (u : Fin 4) (y : Fin 512) (q : Fin 4096) (hq : q.val = 512 * (i 2).val + y.val)

/-- The scores a trip keeps are the next key block's. -/
theorem tripS_apply (hq : q.val = 512 * (i 2).val + y.val) (k : Fin (k0_t1_loop i).trips) (κ : Fin 512) :
    tripS i x0 x1 k (ix3 u κ y) = sc x0 x1 x3 u q (16 + 512 * (k.val + 1) + κ.val) := by
  have hk : k.val < 8 := lt_of_lt_of_le (lt_of_lt_of_eq k.isLt (trips1 i)) (i 2).isLt.le
  have hk' : k.val + 1 < 8 := by have := lt_of_lt_of_eq k.isLt (trips1 i); have h8 : (i 2).val < 8 := (i 2).isLt; omega
  unfold tripS packS
  rw [packS_apply]
  fin_cases u
  · exact score_ld x0 x1 x3 _ _ _ _ 0 _ _ q κ y (by omega) (off5 i k) (off6 i) hq
  · exact score_ld x0 x1 x3 _ _ _ _ 1 _ _ q κ y (by omega) (off8 i k) (off9 i) hq
  · exact score_ld x0 x1 x3 _ _ _ _ 2 _ _ q κ y (by omega) (off11 i k) (off12 i) hq
  · exact score_ld x0 x1 x3 _ _ _ _ 3 _ _ q κ y (by omega) (off14 i k) (off15 i) hq

/-- The scores kept for the next query block. -/
theorem nextS_apply (hq : q.val = 512 * min ((i 2).val + 1) 7 + y.val) (κ : Fin 512) :
    nextS i x0 x1 (ix3 u κ y) = sc x0 x1 x3 u q (16 + 0 + κ.val) := by
  unfold nextS packS
  rw [packS_apply]
  fin_cases u
  · exact score_ld x0 x1 x3 _ _ _ _ 0 0 _ q κ y (by omega) rfl (off29 i) hq
  · exact score_ld x0 x1 x3 _ _ _ _ 1 0 _ q κ y (by omega) rfl (off31 i) hq
  · exact score_ld x0 x1 x3 _ _ _ _ 2 0 _ q κ y (by omega) rfl (off33 i) hq
  · exact score_ld x0 x1 x3 _ _ _ _ 3 0 _ q κ y (by omega) rfl (off35 i) hq

/-- The scores of the first query block. -/
theorem firstS_apply (hq : q.val = y.val) (κ : Fin 512) : firstS x0 x1 (ix3 u κ y) = sc x0 x1 x3 u q (16 + 0 + κ.val) := by
  unfold firstS firstSL
  rw [packS_apply]
  have hq' : q.val = 0 + y.val := by omega
  fin_cases u
  · exact score_ld x0 x1 x3 _ _ _ _ 0 0 0 q κ y (by omega) rfl rfl hq'
  · exact score_ld x0 x1 x3 _ _ _ _ 1 0 0 q κ y (by omega) rfl rfl hq'
  · exact score_ld x0 x1 x3 _ _ _ _ 2 0 0 q κ y (by omega) rfl rfl hq'
  · exact score_ld x0 x1 x3 _ _ _ _ 3 0 0 q κ y (by omega) rfl rfl hq'

/-- The running maximum over the meta keys. -/
theorem startM_apply (hq : q.val = 512 * (i 2).val + y.val) : startM i x0 x3 (ix3 u 0 y) = top (sc x0 x1 x3 u q) 16 := by
  rw [Softmax.top_first]
  unfold startM startML
  rw [headsM_apply]
  fin_cases u
  · exact (metaMax_apply _ y).trans (Finset.sup_congr rfl fun k _ => metaScore_ld x0 x1 x3 _ _ _ _ 0 _ q k y rfl (off1 i) hq)
  · exact (metaMax_apply _ y).trans (Finset.sup_congr rfl fun k _ => metaScore_ld x0 x1 x3 _ _ _ _ 1 _ q k y rfl (off2 i) hq)
  · exact (metaMax_apply _ y).trans (Finset.sup_congr rfl fun k _ => metaScore_ld x0 x1 x3 _ _ _ _ 2 _ q k y rfl (off3 i) hq)
  · exact (metaMax_apply _ y).trans (Finset.sup_congr rfl fun k _ => metaScore_ld x0 x1 x3 _ _ _ _ 3 _ q k y rfl (off4 i) hq)

/-- One head's sums over the meta keys, from its scores and values. -/
theorem metaAcc (s : FVec Ideal S16x512 .f32) (v : Vec Ideal S144x16 .bf16) (r : Fin 144) (f w : ℕ → EReal)
    (hs : ∀ k : Fin 16, s (ix2 k y) = f k.val) (hv : ∀ k : Fin 16, v (ix2 r k) = w k.val) :
    k0_pay138 (k0_pay128 s) v (ix3 0 r y) = acc f w 16 := by
  rw [metaSum_apply, Softmax.acc_first, Softmax.top_first]
  refine Finset.sum_congr rfl fun k _ => Ideal.mul_congr (hv k) ?_
  rw [hs k, Finset.sup_congr rfl fun k _ => hs k]

/-- The running sums over the meta keys. -/
theorem startA_apply (hq : q.val = 512 * (i 2).val + y.val) (r : Fin 144) :
    startA i x0 x3 x4 (ix3 u r y) = acc (sc x0 x1 x3 u q) (va x2 x4 u r) 16 := by
  unfold startA startAL
  rw [headsA_apply]
  fin_cases u
  · exact metaAcc y _ _ r _ _ (fun k => metaScore_ld x0 x1 x3 _ _ _ _ 0 _ q k y rfl (off1 i) hq) fun k => metaValue_ld x2 x4 _ _ 0 r k rfl
  · exact metaAcc y _ _ r _ _ (fun k => metaScore_ld x0 x1 x3 _ _ _ _ 1 _ q k y rfl (off2 i) hq) fun k => metaValue_ld x2 x4 _ _ 1 r k rfl
  · exact metaAcc y _ _ r _ _ (fun k => metaScore_ld x0 x1 x3 _ _ _ _ 2 _ q k y rfl (off3 i) hq) fun k => metaValue_ld x2 x4 _ _ 2 r k rfl
  · exact metaAcc y _ _ r _ _ (fun k => metaScore_ld x0 x1 x3 _ _ _ _ 3 _ q k y rfl (off4 i) hq) fun k => metaValue_ld x2 x4 _ _ 3 r k rfl

/-- The maximum after a further block, once the block's scores are known. -/
theorem stepM_top (s0 s1 s2 s3 : FVec Ideal S512x512 .f32) (M : Vec Ideal S4x1x512 .f32) (f : ℕ → EReal) (n : ℕ)
    (hM : M (ix3 u 0 y) = top f n) (hs : ∀ k : Fin 512, (![s0, s1, s2, s3] u) (ix2 k y) = f (n + k.val)) :
    stepM s0 s1 s2 s3 M (ix3 u 0 y) = top f (n + 512) := by
  rw [stepM_apply, hM, Softmax.top_add, Finset.sup_congr rfl fun k _ => hs k]

/-- The sums after a further block, once the block's scores and values are known. -/
theorem stepA_acc (s0 s1 s2 s3 : FVec Ideal S512x512 .f32) (v0 v1 v2 v3 : Vec Ideal S144x512 .bf16) (M : Vec Ideal S4x1x512 .f32)
    (A : Vec Ideal S4x144x512 .f32) (r : Fin 144) (f w : ℕ → EReal) (n : ℕ) (hM : M (ix3 u 0 y) = top f n) (hA : A (ix3 u r y) = acc f w n)
    (hs : ∀ k : Fin 512, (![s0, s1, s2, s3] u) (ix2 k y) = f (n + k.val)) (hv : ∀ k : Fin 512, (![v0, v1, v2, v3] u) (ix2 r k) = w (n + k.val)) :
    View.canon (Val := Elt Ideal) (stepAL s0 s1 s2 s3 v0 v1 v2 v3 M A) (ix3 u r y) = acc f w (n + 512) := by
  rw [stepA_apply _ _ _ _ _ _ _ _ _ _ u r y _ (stepM_top u y s0 s1 s2 s3 M f n hM hs), hM, hA, Softmax.acc_add]
  exact congrArg₂ (· + ·) rfl (Finset.sum_congr rfl fun k _ => by rw [hs k, hv k])

/-- A key block's values in the four heads. -/
theorem values_at (o0 o1 o2 o3 : Fin 2 → ℕ) (h0 h1 h2 h3) (n : ℕ) (hn : n + 512 ≤ 4096)
    (e0 : o0 = ![144 * (0 : Fin 4).val, n]) (e1 : o1 = ![144 * (1 : Fin 4).val, n]) (e2 : o2 = ![144 * (2 : Fin 4).val, n]) (e3 : o3 = ![144 * (3 : Fin 4).val, n])
    (r : Fin 144) (k : Fin 512) :
    (![View.ld (Val := Elt Ideal) x2 (Rect.unit (s := S576x4096) o0 S144x512.size h0), View.ld (Val := Elt Ideal) x2 (Rect.unit (s := S576x4096) o1 S144x512.size h1),
      View.ld (Val := Elt Ideal) x2 (Rect.unit (s := S576x4096) o2 S144x512.size h2), View.ld (Val := Elt Ideal) x2 (Rect.unit (s := S576x4096) o3 S144x512.size h3)] u : Vec Ideal S144x512 .bf16)
      (ix2 r k) = va x2 x4 u r (16 + n + k.val) := by
  fin_cases u
  · exact value_ld x2 x4 _ _ 0 n r k hn e0
  · exact value_ld x2 x4 _ _ 1 n r k hn e1
  · exact value_ld x2 x4 _ _ 2 n r k hn e2
  · exact value_ld x2 x4 _ _ 3 n r k hn e3

/-- After `k` trips the maximum and the sums are those of the meta keys and `k` key blocks, and the kept scores are the
    next block's. -/
theorem trips_inv (S : Vec Ideal S4x512x512 .f32)
    (hS : ∀ (u : Fin 4) (κ y : Fin 512) (q : Fin 4096), q.val = 512 * (i 2).val + y.val → S (ix3 u κ y) = sc x0 x1 x3 u q (16 + 0 + κ.val)) :
    ∀ k : ℕ, k ≤ (i 2).val → ∀ (u : Fin 4) (y : Fin 512) (q : Fin 4096), q.val = 512 * (i 2).val + y.val →
      (trips i x0 x1 x2 ⟨startM i x0 x3, startA i x0 x3 x4, S⟩ k).M (ix3 u 0 y) = top (sc x0 x1 x3 u q) (16 + 512 * k)
      ∧ (∀ r : Fin 144, (trips i x0 x1 x2 ⟨startM i x0 x3, startA i x0 x3 x4, S⟩ k).A (ix3 u r y) = acc (sc x0 x1 x3 u q) (va x2 x4 u r) (16 + 512 * k))
      ∧ ∀ κ : Fin 512, (trips i x0 x1 x2 ⟨startM i x0 x3, startA i x0 x3 x4, S⟩ k).S (ix3 u κ y) = sc x0 x1 x3 u q (16 + 512 * k + κ.val) := by
  intro k
  induction k with
  | zero =>
    intro _ u y q hq
    rw [trips_zero]
    have e : 16 + 512 * 0 = 16 := by decide
    rw [e]
    dsimp only
    refine ⟨startM_apply x0 x1 x3 i u y q hq, fun r => startA_apply x0 x1 x2 x3 x4 i u y q hq r, fun κ => ?_⟩
    rw [hS u κ y q hq]
  | succ k ih =>
    intro hk u y q hq
    have h8 : (i 2).val < 8 := (i 2).isLt
    obtain ⟨hM, hA, hs⟩ := ih (by omega) u y q hq
    have e := trips_succ i x0 x1 x2 ⟨startM i x0 x3, startA i x0 x3 x4, S⟩ ⟨k, lt_of_lt_of_eq hk (trips1 i).symm⟩
    dsimp only at e
    rw [e, trip_M, trip_A, trip_S, show 16 + 512 * (k + 1) = 16 + 512 * k + 512 by omega]
    have hs' : ∀ κ : Fin 512, (![k0_pay6 (sAt0 _), k0_pay6 (sAt1 _), k0_pay6 (sAt2 _), k0_pay6 (sAt3 _)] u : FVec Ideal S512x512 .f32) (ix2 κ y) = sc x0 x1 x3 u q (16 + 512 * k + κ.val) :=
      fun κ => (sAt_apply (trips i x0 x1 x2 ⟨startM i x0 x3, startA i x0 x3 x4, S⟩ k).S u κ y).trans (hs κ)
    refine ⟨?_, fun r => ?_, fun κ => ?_⟩
    · unfold tripM
      exact stepM_top u y _ _ _ _ _ _ _ hM hs'
    · unfold tripA stepA
      exact stepA_acc u y _ _ _ _ _ _ _ _ _ _ r _ _ _ hM (hA r) hs' fun κ =>
        values_at x2 x4 u _ _ _ _ _ _ _ _ (512 * k) (by omega) (off7 i _) (off10 i _) (off13 i _) (off16 i _) r κ
    · exact (tripS_apply x0 x1 x3 i u y q hq _ κ).trans (by congr 1)

/-- The scores as the softmax takes them: keys after the query at `-∞`. -/
def ms (u : Fin 4) (q : Fin 4096) (j : ℕ) : EReal := if j ≤ 16 + q.val then sc x0 x1 x3 u q j else ⊥

/-- The diagonal block's masked scores in the four heads. -/
theorem diag_at (S : Vec Ideal S4x512x512 .f32) (u : Fin 4) (κ y : Fin 512) :
    (![k0_pay149 (sAt0 S), k0_pay149 (sAt1 S), k0_pay149 (sAt2 S), k0_pay149 (sAt3 S)] u : FVec Ideal S512x512 .f32) (ix2 κ y)
      = if κ.val ≤ y.val then S (ix3 u κ y) else ⊥ := by
  have h0 : sAt0 S (ix3 0 κ y) = S (ix3 0 κ y) := by pointwise [sAt0]
  have h1 : sAt1 S (ix3 0 κ y) = S (ix3 1 κ y) := by pointwise [sAt1]
  have h2 : sAt2 S (ix3 0 κ y) = S (ix3 2 κ y) := by pointwise [sAt2]
  have h3 : sAt3 S (ix3 0 κ y) = S (ix3 3 κ y) := by pointwise [sAt3]
  fin_cases u
  · exact (diag_apply (sAt0 S) κ y).trans (by rw [h0]; rfl)
  · exact (diag_apply (sAt1 S) κ y).trans (by rw [h1]; rfl)
  · exact (diag_apply (sAt2 S) κ y).trans (by rw [h2]; rfl)
  · exact (diag_apply (sAt3 S) κ y).trans (by rw [h3]; rfl)

/-- The output block's entry: the weighted sum over every key up to the query times the reciprocal of the total weight. -/
theorem outS_apply (S : Vec Ideal S4x512x512 .f32)
    (hS : ∀ (u : Fin 4) (κ y : Fin 512) (q : Fin 4096), q.val = 512 * (i 2).val + y.val → S (ix3 u κ y) = sc x0 x1 x3 u q (16 + 0 + κ.val))
    (u : Fin 4) (y : Fin 512) (q : Fin 4096) (hq : q.val = 512 * (i 2).val + y.val) (r : Fin 128) (z : Fin 512) (hz : z.val = 128 * u.val + r.val) :
    outS i x0 x1 x2 x3 x4 S (ix2 y z) = acc (ms x0 x1 x3 u q) (va x2 x4 u ⟨r.val, by omega⟩) 4112
      * Ideal.div 1 (acc (ms x0 x1 x3 u q) (va x2 x4 u 128) 4112) := by
  have h8 : (i 2).val < 8 := (i 2).isLt
  obtain ⟨hM, hA, hs⟩ := trips_inv x0 x1 x2 x3 x4 i S hS (i 2).val le_rfl u y q hq
  have hlt : ∀ j < 16 + 512 * (i 2).val, sc x0 x1 x3 u q j = ms x0 x1 x3 u q j := fun j hj => by unfold ms; rw [if_pos (by omega)]
  have hmask : ∀ j, 16 + 512 * (i 2).val + 512 ≤ j → ms x0 x1 x3 u q j = ⊥ := fun j hj => by unfold ms; rw [if_neg (by omega)]
  have key : ∀ r : Fin 144, lastA i x2 (trips i x0 x1 x2 ⟨startM i x0 x3, startA i x0 x3 x4, S⟩ (i 2).val) (ix3 u r y)
      = acc (ms x0 x1 x3 u q) (va x2 x4 u r) 4112 := fun r => by
    rw [Softmax.acc_masked _ _ (by omega : 16 + 512 * (i 2).val + 512 ≤ 4112) hmask]
    unfold lastA lastAL
    refine stepA_acc u y _ _ _ _ _ _ _ _ _ _ r _ _ (16 + 512 * (i 2).val) (hM.trans (Softmax.top_congr hlt)) ((hA r).trans (Softmax.acc_congr hlt fun _ _ => rfl)) (fun κ => ?_) fun κ =>
        values_at x2 x4 u _ _ _ _ _ _ _ _ (512 * (i 2).val) (by omega) (off30 i) (off32 i) (off34 i) (off36 i) r κ
    rw [diag_at, hs κ]
    unfold ms
    by_cases h : κ.val ≤ y.val
    · rw [if_pos h, if_pos (by omega)]
    · rw [if_neg h, if_neg (by omega)]
  unfold outS
  rw [outOf_apply _ u y r z hz, trips1 i, key, key]

end

end Cert.AttnIdeal.Hand

end
-- ==== Proof.AttnRef.lean ====
/- The attention reference, read entry by entry. Hand-written. -/
module

public import proofs.«01_k».proof.Proof.Gen.AttnRefIdeal.Read
public import proofs.«01_k».proof.Proof.AttnMath
public import Idealize.ShloMosaic.Lib.Pipeline.ValueKit
public import Idealize.ShloMosaic.Lib.Pointwise
public import Idealize.ShloMosaic.Lib.KernelVsHost
public import Idealize.ShloMosaic.Lib.WordCmp

@[expose] public section

set_option maxRecDepth 16384

noncomputable section

namespace Cert.AttnRefIdeal.Hand

open Cert.AttnRefIdeal Cert.AttnRefIdeal.Read Idealize.ShloMosaic Idealize.ShloMosaic.TcCoe Idealize.SL.Sem
open Cert.Softmax (top acc)

section
variable (x0 x1 : FVec Ideal S4x4096x16x192 .f32) (x2 : FVec Ideal S4x4096x16x128 .f32) (x3 : FVec Ideal S16x16x192 .f32) (x4 : FVec Ideal S16x16x128 .f32)

theorem key_at (b : Fin 4) (h : Fin 16) (j : Fin 4112) (d : Fin 192) :
    val_main_v6 (F := Ideal) x1 x3 (ix4 b h j d) = if e : j.val < 16 then x3 (ix3 ⟨j.val, e⟩ h d) else x1 (ix4 b ⟨j.val - 16, by omega⟩ h d) := by
  pointwise [val_main_v6, val_main_v5, val_main_v1, val_main_v0]

theorem value_at (b : Fin 4) (h : Fin 16) (j : Fin 4112) (d : Fin 128) :
    val_main_v8 (F := Ideal) x2 x4 (ix4 b h j d) = if e : j.val < 16 then x4 (ix3 ⟨j.val, e⟩ h d) else x2 (ix4 b ⟨j.val - 16, by omega⟩ h d) := by
  pointwise [val_main_v8, val_main_v7, val_main_v3, val_main_v2]

theorem score_at (b : Fin 4) (h : Fin 16) (q : Fin 4096) (j : Fin 4112) :
    val_main_v13 (F := Ideal) x0 x1 x3 (ix4 b h q j) = ∑ d : Fin 192, x0 (ix4 b q h d) * val_main_v6 (F := Ideal) x1 x3 (ix4 b h j d) := by
  pointwise [val_main_v13, val_main_v4]

theorem masked_at (b : Fin 4) (h : Fin 16) (q : Fin 4096) (j : Fin 4112) :
    val_main_v22 (F := Ideal) x0 x1 x3 (ix4 b h q j) = (if j.val ≤ 16 + q.val then val_main_v13 (F := Ideal) x0 x1 x3 (ix4 b h q j) else ⊥) * (Real.log 2 : ℝ) := by
  pointwise [val_main_v22, val_main_call0_v1, val_main_v21, val_main_v19, val_main_v17, val_main_v9, val_main_v20, val_main_v18, val_main_v12, val_main_v11, val_main_v10, val_main_c,
    val_main_v16, val_main_v15, val_main_v14, val_main_cst, val_main_call0_v2, val_main_call0_v0, val_main_cst_0]
  have e : IntOp.addi 16#32 (BitVec.ofNat 32 q.val) = BitVec.ofNat 32 (16 + q.val) := by
    apply BitVec.eq_of_toNat_eq
    simp [IntOp.addi, BitVec.toNat_add, BitVec.toNat_ofNat]
  have el : Ideal.log (Ideal.ofBits FTy.f32 0x40000000#32) = (Real.log 2 : ℝ) := by
    rw [show Ideal.ofBits FTy.f32 0x40000000#32 = ((2 : ℝ) : EReal) by simp [Ideal.ofBits, Ideal.ieee, -EReal.coe_mul]; norm_num, Ideal.log_coe, if_neg (by norm_num)]
  have eb : (id (constant (F := Ideal) S_ FTy.f32 0xFF800000#32) ix0 : EReal) = ⊥ := by
    show Ideal.ofBits FTy.f32 0xFF800000#32 = ⊥
    simp [Ideal.ofBits, Ideal.ieee]
  rw [e, el, eb]
  have hj := j.isLt
  have hq := q.isLt
  by_cases hc : j.val ≤ 16 + q.val
  · word_cmp
    rw [if_pos hc, if_pos hc]
  · word_cmp
    rw [if_neg hc, if_neg hc, EReal.bot_mul_coe_of_pos (Real.log_pos one_lt_two)]

theorem reduces_keys : S4x16x4096x4112.Reduces [3] S4x16x4096 := by decide

theorem max_fold (v : FVec Ideal S4x16x4096x4112 .f32) (c : BitVec 32) (hc : c = 0xFF800000#32) (b : Fin 4) (h : Fin 16) (q : Fin 4096) :
    Host.reduce FloatOps.maximumf v (constant (F := Ideal) S_ .f32 c) Gen.reducesTo_S4x16x4096x4112_S4x16x4096_d3 Gen.h_S_ (ix3 b h q)
      = Finset.univ.sup fun j : Fin 4112 => v (ix4 b h q j) := by
  rw [hostReduce_maximumf_eq_multiReduction v c _ _ reduces_keys (.inl rfl) (by rw [hc]; rfl), Ideal.multiReduction_maximumf_single]
  subst hc
  have eb : FloatOps.ofBits (F := Ideal) FTy.f32 0xFF800000#32 = (⊥ : EReal) := by
    show Ideal.ofBits FTy.f32 0xFF800000#32 = ⊥
    simp [Ideal.ofBits, Ideal.ieee]
  rw [eb]
  refine Finset.sup_congr rfl fun j _ => congrArg v ?_
  funext a; fin_cases a <;> rfl

theorem max_at (b : Fin 4) (h : Fin 16) (q : Fin 4096) :
    val_main_v25 (F := Ideal) x0 x1 x3 (ix3 b h q) = Finset.univ.sup fun j : Fin 4112 => val_main_v22 (F := Ideal) x0 x1 x3 (ix4 b h q j) := by
  rw [val_main_v25_apply, val_main_v24_apply, val_main_cst_2_apply]
  unfold val_main_v23 val_main_cst_1
  generalize val_main_v22 (F := Ideal) x0 x1 x3 = v
  rw [max_fold v _ rfl]
  have eb : FloatOps.ofBits (F := Ideal) FTy.f32 0xFF800000#32 = (⊥ : EReal) := by
    show Ideal.ofBits FTy.f32 0xFF800000#32 = ⊥
    simp [Ideal.ofBits, Ideal.ieee]
  rw [eb]
  exact max_eq_right bot_le

theorem exp_at (b : Fin 4) (h : Fin 16) (q : Fin 4096) (j : Fin 4112) :
    val_main_v29 (F := Ideal) x0 x1 x3 (ix4 b h q j) = Ideal.exp (val_main_v22 (F := Ideal) x0 x1 x3 (ix4 b h q j) - val_main_v25 (F := Ideal) x0 x1 x3 (ix3 b h q)) := by
  pointwise [val_main_v29, val_main_v28, val_main_v27, val_main_v26]

theorem sum_at (b : Fin 4) (h : Fin 16) (q : Fin 4096) (j : Fin 4112) :
    val_main_v33 (F := Ideal) x0 x1 x3 (ix4 b h q j) = Ideal.div (val_main_v29 (F := Ideal) x0 x1 x3 (ix4 b h q j)) (∑ k : Fin 4112, val_main_v29 (F := Ideal) x0 x1 x3 (ix4 b h q k)) := by
  pointwise [val_main_v33, val_main_v32, val_main_v31, val_main_v30, val_main_cst_3]

theorem out_at (b : Fin 4) (h : Fin 16) (q : Fin 4096) (r : Fin 128) (R : Fin 16384) (C : Fin 2048) (hR : R.val = 4096 * b.val + q.val) (hC : C.val = 128 * h.val + r.val) :
    val_main_v37 (F := Ideal) x0 x1 x2 x3 x4 (ix2 R C) = ∑ j : Fin 4112, val_main_v33 (F := Ideal) x0 x1 x3 (ix4 b h q j) * val_main_v8 (F := Ideal) x2 x4 (ix4 b h j r) := by
  have e1 : ∀ h', (⟨R.val / 4096, h'⟩ : Fin 4) = b := fun _ => Fin.ext (show R.val / 4096 = b.val by omega)
  have e2 : ∀ h', (⟨C.val / 128, h'⟩ : Fin 16) = h := fun _ => Fin.ext (show C.val / 128 = h.val by omega)
  have e3 : ∀ h', (⟨R.val % 4096, h'⟩ : Fin 4096) = q := fun _ => Fin.ext (show R.val % 4096 = q.val by omega)
  have e4 : ∀ h', (⟨C.val % 128, h'⟩ : Fin 128) = r := fun _ => Fin.ext (show C.val % 128 = r.val by omega)
  pointwise [val_main_v37, val_main_v36, val_main_v35, val_main_v34]
  simp only [e1, e2, e3, e4]

/-- The score of key `j`, the meta keys first, against query `q` of a head. -/
def rs (b : Fin 4) (h : Fin 16) (q : Fin 4096) (j : ℕ) : EReal :=
  ∑ d : Fin 192, x0 (ix4 b q h d) * (if e : j < 16 then x3 (ix3 ⟨j, e⟩ h d) else x1 (ix4 b ⟨(j - 16) % 4096, Nat.mod_lt _ (by norm_num)⟩ h d))

/-- The same, with minus infinity at the keys after the query. -/
def rms (b : Fin 4) (h : Fin 16) (q : Fin 4096) (j : ℕ) : EReal := if j ≤ 16 + q.val then rs x0 x1 x3 b h q j else ⊥

/-- Column `r` of key `j`'s value. -/
def rv (b : Fin 4) (h : Fin 16) (r : Fin 128) (j : ℕ) : EReal :=
  if e : j < 16 then x4 (ix3 ⟨j, e⟩ h r) else x2 (ix4 b ⟨(j - 16) % 4096, Nat.mod_lt _ (by norm_num)⟩ h r)

theorem scaled_at (b : Fin 4) (h : Fin 16) (q : Fin 4096) (j : Fin 4112) :
    val_main_v22 (F := Ideal) x0 x1 x3 (ix4 b h q j) = rms x0 x1 x3 b h q j.val * (Real.log 2 : ℝ) := by
  rw [masked_at, score_at]
  have e : (∑ d : Fin 192, x0 (ix4 b q h d) * val_main_v6 (F := Ideal) x1 x3 (ix4 b h j d)) = rs x0 x1 x3 b h q j.val := by
    refine Finset.sum_congr rfl fun d _ => ?_
    rw [key_at]
    by_cases hj : j.val < 16
    · rw [dif_pos hj, dif_pos hj]
    · rw [dif_neg hj, dif_neg hj]
      have e' : (⟨(j.val - 16) % 4096, Nat.mod_lt _ (by norm_num)⟩ : Fin 4096) = ⟨j.val - 16, by omega⟩ := Fin.ext (Nat.mod_eq_of_lt (by omega))
      rw [e']
  rw [e]; rfl

theorem top_at (b : Fin 4) (h : Fin 16) (q : Fin 4096) :
    val_main_v25 (F := Ideal) x0 x1 x3 (ix3 b h q) = top (rms x0 x1 x3 b h q) 4112 * (Real.log 2 : ℝ) := by
  rw [max_at, ← Cert.Softmax.top_scaled, Cert.Softmax.top_first]
  exact Finset.sup_congr rfl fun j _ => scaled_at x0 x1 x3 b h q j

theorem weight_at (b : Fin 4) (h : Fin 16) (q : Fin 4096) (j : Fin 4112) :
    val_main_v29 (F := Ideal) x0 x1 x3 (ix4 b h q j) = Ideal.exp2 (rms x0 x1 x3 b h q j.val - top (rms x0 x1 x3 b h q) 4112) := by
  rw [exp_at, scaled_at, top_at, Cert.Softmax.exp_log2]

theorem total_at (b : Fin 4) (h : Fin 16) (q : Fin 4096) :
    (∑ k : Fin 4112, val_main_v29 (F := Ideal) x0 x1 x3 (ix4 b h q k)) = acc (rms x0 x1 x3 b h q) (fun _ => 1) 4112 := by
  unfold acc
  rw [← Fin.sum_univ_eq_sum_range (fun j => Ideal.exp2 (rms x0 x1 x3 b h q j - top (rms x0 x1 x3 b h q) 4112) * 1)]
  exact Finset.sum_congr rfl fun j _ => by rw [weight_at, mul_one]

theorem values_at (b : Fin 4) (h : Fin 16) (j : Fin 4112) (r : Fin 128) :
    val_main_v8 (F := Ideal) x2 x4 (ix4 b h j r) = rv x2 x4 b h r j.val := by
  rw [value_at]
  unfold rv
  by_cases hj : j.val < 16
  · rw [dif_pos hj, dif_pos hj]
  · rw [dif_neg hj, dif_neg hj]
    have e' : (⟨(j.val - 16) % 4096, Nat.mod_lt _ (by norm_num)⟩ : Fin 4096) = ⟨j.val - 16, by omega⟩ := Fin.ext (Nat.mod_eq_of_lt (by omega))
    rw [e']

/-- An entry of the reference: the values weighted by the softmax of the scores. -/
theorem entry (b : Fin 4) (h : Fin 16) (q : Fin 4096) (r : Fin 128) (R : Fin 16384) (C : Fin 2048) (hR : R.val = 4096 * b.val + q.val) (hC : C.val = 128 * h.val + r.val) :
    val_main_v37 (F := Ideal) x0 x1 x2 x3 x4 (ix2 R C) = ∑ j ∈ Finset.range 4112,
      Ideal.div (Ideal.exp2 (rms x0 x1 x3 b h q j - top (rms x0 x1 x3 b h q) 4112)) (acc (rms x0 x1 x3 b h q) (fun _ => 1) 4112) * rv x2 x4 b h r j := by
  rw [out_at x0 x1 x2 x3 x4 b h q r R C hR hC,
    ← Fin.sum_univ_eq_sum_range (fun j => Ideal.div (Ideal.exp2 (rms x0 x1 x3 b h q j - top (rms x0 x1 x3 b h q) 4112)) (acc (rms x0 x1 x3 b h q) (fun _ => 1) 4112) * rv x2 x4 b h r j)]
  exact Finset.sum_congr rfl fun j _ => by rw [sum_at, total_at, weight_at, values_at]

end
end Cert.AttnRefIdeal.Hand

end
-- ==== Proof.AttnHost.lean ====
/- The arrays the attention call is given, read in the arguments. Hand-written. -/
module

public import proofs.«01_k».proof.Proof.AttnFrame
public import proofs.«01_k».proof.Proof.AttnKeys
public import Idealize.ShloMosaic.Lib.Pipeline.ValueKit
public import Idealize.ShloMosaic.Lib.Pointwise
public import Idealize.ShloMosaic.Lib.Pipeline.ReadBack
public import proofs.«01_k».proof.Proof.AttnRef

@[expose] public section

set_option maxRecDepth 16384

noncomputable section

namespace Cert.AttnIdeal.Hand

open Cert.AttnIdeal Cert.AttnIdeal.Gen Idealize.ShloMosaic Idealize.ShloMosaic.TcCoe Idealize.SL.Sem
open Cert.Softmax (top acc)
open Idealize.ShloMosaic.Pipeline (Dat)

/-- A head's 192 columns laid out over 256: the first 160, 32 zeros, the last 32, 32 zeros. -/
def pad (f : Fin 192 → EReal) (d : Fin 256) : EReal :=
  if h : d.val < 160 then f ⟨d.val, by omega⟩ else if d.val < 192 then 0 else if h : d.val < 224 then f ⟨d.val - 32, by omega⟩ else 0

/-- The zeros add nothing to a product of two such layouts. -/
theorem pad_sum (f g : Fin 192 → EReal) : ∑ d, pad f d * pad g d = ∑ d, g d * f d := by
  symm
  refine Fintype.sum_of_injective (fun d : Fin 192 => if d.val < 160 then (⟨d.val, by omega⟩ : Fin 256) else ⟨d.val + 32, by omega⟩) ?_ _ _ ?_ ?_
  · intro a b h
    dsimp only at h
    split at h <;> split at h <;> (have := congrArg Fin.val h; dsimp only at this; exact Fin.ext (by omega))
  · intro d hd
    have h1 : ¬ d.val < 160 := fun h => hd ⟨⟨d.val, by omega⟩, if_pos h⟩
    by_cases h2 : d.val < 192
    · unfold pad; rw [dif_neg h1, if_pos h2, zero_mul]
    · have h3 : ¬ d.val < 224 := fun h => hd ⟨⟨d.val - 32, by omega⟩, by
        dsimp only
        rw [if_neg (by omega)]; exact Fin.ext (by dsimp only; omega)⟩
      unfold pad; rw [dif_neg h1, if_neg h2, dif_neg h3, zero_mul]
  · intro d
    unfold pad
    by_cases h : d.val < 160
    · rw [if_pos h, dif_pos h, dif_pos h, mul_comm]
    · rw [if_neg h, dif_neg (by dsimp only; omega), if_neg (by dsimp only; omega), dif_pos (by dsimp only; omega), dif_neg (by dsimp only; omega),
        if_neg (by dsimp only; omega), dif_pos (by dsimp only; omega), mul_comm]
      simp only [Nat.add_sub_cancel]

/-- The token arrays in the padded head layout, as the host code builds them. -/
def padTok (x : FVec Ideal S4x4096x16x192 .f32) : FVec Ideal S4x4096x16x256 .f32 :=
  concatenate S4x4096x16x256 3 [⟨S4x4096x16x128, extractStridedSlice S4x4096x16x128 ![0, 0, 0, 0] x slices_S4x4096x16x192_S4x4096x16x128_0_0_0_0⟩,
    ⟨S4x4096x16x128, concatenate S4x4096x16x128 3 [
      ⟨S4x4096x16x32, extractStridedSlice S4x4096x16x32 ![0, 0, 0, 0] (extractStridedSlice S4x4096x16x64 ![0, 0, 0, 128] x slices_S4x4096x16x192_S4x4096x16x64_0_0_0_128) slices_S4x4096x16x64_S4x4096x16x32_0_0_0_0⟩,
      ⟨S4x4096x16x32, broadcastInDim S4x4096x16x32 ![] bcast_S_S4x4096x16x32 (constant S_ .f32 0x00000000#32)⟩,
      ⟨S4x4096x16x32, extractStridedSlice S4x4096x16x32 ![0, 0, 0, 32] (extractStridedSlice S4x4096x16x64 ![0, 0, 0, 128] x slices_S4x4096x16x192_S4x4096x16x64_0_0_0_128) slices_S4x4096x16x64_S4x4096x16x32_0_0_0_32⟩,
      ⟨S4x4096x16x32, broadcastInDim S4x4096x16x32 ![] bcast_S_S4x4096x16x32 (constant S_ .f32 0x00000000#32)⟩] concatenates_S4x4096x16x32_S4x4096x16x32_S4x4096x16x32_S4x4096x16x32_S4x4096x16x128_d3⟩]
    concatenates_S4x4096x16x128_S4x4096x16x128_S4x4096x16x256_d3

/-- The meta keys in the padded head layout, as the host code builds them. -/
def padMeta (x : FVec Ideal S16x16x192 .f32) : FVec Ideal S16x16x256 .f32 :=
  concatenate S16x16x256 2 [⟨S16x16x128, extractStridedSlice S16x16x128 ![0, 0, 0] x slices_S16x16x192_S16x16x128_0_0_0⟩,
    ⟨S16x16x128, concatenate S16x16x128 2 [
      ⟨S16x16x32, extractStridedSlice S16x16x32 ![0, 0, 0] (extractStridedSlice S16x16x64 ![0, 0, 128] x slices_S16x16x192_S16x16x64_0_0_128) slices_S16x16x64_S16x16x32_0_0_0⟩,
      ⟨S16x16x32, broadcastInDim S16x16x32 ![] bcast_S_S16x16x32 (constant S_ .f32 0x00000000#32)⟩,
      ⟨S16x16x32, extractStridedSlice S16x16x32 ![0, 0, 32] (extractStridedSlice S16x16x64 ![0, 0, 128] x slices_S16x16x192_S16x16x64_0_0_128) slices_S16x16x64_S16x16x32_0_0_32⟩,
      ⟨S16x16x32, broadcastInDim S16x16x32 ![] bcast_S_S16x16x32 (constant S_ .f32 0x00000000#32)⟩] concatenates_S16x16x32_S16x16x32_S16x16x32_S16x16x32_S16x16x128_d2⟩]
    concatenates_S16x16x128_S16x16x128_S16x16x256_d2

/-- The stacking of the pieces is the padded layout. -/
theorem ladder (f : Fin 192 → EReal) (d : Fin 256) :
    (if h : d.val < 128 then f ⟨d.val, by omega⟩ else if h : d.val - 128 < 32 then f ⟨128 + (d.val - 128), by omega⟩
      else if h : d.val - 128 - 32 < 32 then 0 else if h : d.val - 128 - 32 - 32 < 32 then f ⟨128 + (32 + (d.val - 128 - 32 - 32)), by omega⟩ else 0) = pad f d := by
  unfold pad
  split_ifs <;> first | rfl | (exfalso; omega) | exact congrArg f (Fin.ext (by dsimp only; omega))

theorem padTok_at (x : FVec Ideal S4x4096x16x192 .f32) (b : Fin 4) (t : Fin 4096) (h : Fin 16) (d : Fin 256) :
    padTok x (ix4 b t h d) = pad (fun e => x (ix4 b t h e)) d := by
  refine Eq.trans ?_ (ladder (fun e => x (ix4 b t h e)) d)
  pointwise [padTok]

theorem padMeta_at (x : FVec Ideal S16x16x192 .f32) (j : Fin 16) (h : Fin 16) (d : Fin 256) :
    padMeta x (ix3 j h d) = pad (fun e => x (ix3 j h e)) d := by
  refine Eq.trans ?_ (ladder (fun e => x (ix3 j h e)) d)
  pointwise [padMeta]

variable (m : (ℓ : Loc nD τ sig) → Buf (Elt Ideal) ℓ)

abbrev a0 (c : Dev nD) : FVec Ideal S4x4096x16x192 .f32 := m ((c : Thread nD τ).loc main_arg0)
abbrev a1 (c : Dev nD) : FVec Ideal S4x4096x16x192 .f32 := m ((c : Thread nD τ).loc main_arg1)
abbrev a2 (c : Dev nD) : FVec Ideal S4x4096x16x128 .f32 := m ((c : Thread nD τ).loc main_arg2)
abbrev a3 (c : Dev nD) : FVec Ideal S16x16x192 .f32 := m ((c : Thread nD τ).loc main_arg3)
abbrev a4 (c : Dev nD) : FVec Ideal S16x16x128 .f32 := m ((c : Thread nD τ).loc main_arg4)

/-- Where every window stands at a grid point: batch row `t / 32`, head group `t / 8 % 4`, query block `t % 8`. -/
theorem idx : ∀ t : Fin cfg0.N,
    win0_0.index t = ![t.val / 8 % 4, t.val / 32] ∧ win0_1.index t = ![t.val / 32, t.val / 8 % 4] ∧ win0_2.index t = ![t.val / 8 % 4, t.val / 32]
      ∧ win0_3.index t = ![0, t.val / 8 % 4] ∧ win0_4.index t = ![t.val / 8 % 4, 0] ∧ win0_5.index t = ![8 * (t.val / 32) + t.val % 8, t.val / 8 % 4] :=
  (by decide +kernel : ∀ t : Fin grid0.N, _)

/-! The arrays the call is given, in terms of the arguments. -/

theorem queries (c : Dev nD) : V m c main_v9
    = (truncf .bf16 (transpose S4096x16384 [1, 0] (shapeCast S16384x4096 (padTok (a0 m c)) shapeCasts_S4x4096x16x256_S16384x4096) transposes_S16384x4096_S4096x16384_1_0) bitsLt_bf16_f32 : FVec Ideal S4096x16384 .bf16) := rfl

theorem keys (c : Dev nD) : V m c main_v18
    = (truncf .bf16 (shapeCast S16384x4096 (padTok (a1 m c)) shapeCasts_S4x4096x16x256_S16384x4096) bitsLt_bf16_f32 : FVec Ideal S16384x4096 .bf16) := rfl

theorem metas (c : Dev nD) : V m c main_v27
    = (truncf .bf16 (shapeCast S16x4096 (padMeta (a3 m c)) shapeCasts_S16x16x256_S16x4096) bitsLt_bf16_f32 : FVec Ideal S16x4096 .bf16) := rfl

/-- The queries' array, transposed. -/
theorem query_at (c : Dev nD) (b : Fin 4) (q : Fin 4096) (h : Fin 16) (d : Fin 256) (R : Fin 4096) (C : Fin 16384)
    (hR : R.val = 256 * h.val + d.val) (hC : C.val = 4096 * b.val + q.val) :
    (V m c main_v9 (ix2 R C) : EReal) = pad (fun e => a0 m c (ix4 b q h e)) d := by
  rw [queries]
  have e1 : ∀ h', (⟨C.val / 4096, h'⟩ : Fin 4) = b := fun _ => Fin.ext (show C.val / 4096 = b.val by omega)
  have e2 : ∀ h', (⟨R.val / 256, h'⟩ : Fin 16) = h := fun _ => Fin.ext (show R.val / 256 = h.val by omega)
  have e3 : ∀ h', (⟨C.val % 4096, h'⟩ : Fin 4096) = q := fun _ => Fin.ext (show C.val % 4096 = q.val by omega)
  have e4 : ∀ h', (⟨R.val % 256, h'⟩ : Fin 256) = d := fun _ => Fin.ext (show R.val % 256 = d.val by omega)
  generalize a0 m c = x
  pointwise
  simp only [e1, e2, e3, e4]
  exact padTok_at x b q h d

/-- The keys' array. -/
theorem keyrow_at (c : Dev nD) (b : Fin 4) (k : Fin 4096) (h : Fin 16) (d : Fin 256) (R : Fin 16384) (C : Fin 4096)
    (hR : R.val = 4096 * b.val + k.val) (hC : C.val = 256 * h.val + d.val) :
    (V m c main_v18 (ix2 R C) : EReal) = pad (fun e => a1 m c (ix4 b k h e)) d := by
  rw [keys]
  have e1 : ∀ h', (⟨R.val / 4096, h'⟩ : Fin 4) = b := fun _ => Fin.ext (show R.val / 4096 = b.val by omega)
  have e2 : ∀ h', (⟨C.val / 256, h'⟩ : Fin 16) = h := fun _ => Fin.ext (show C.val / 256 = h.val by omega)
  have e3 : ∀ h', (⟨R.val % 4096, h'⟩ : Fin 4096) = k := fun _ => Fin.ext (show R.val % 4096 = k.val by omega)
  have e4 : ∀ h', (⟨C.val % 256, h'⟩ : Fin 256) = d := fun _ => Fin.ext (show C.val % 256 = d.val by omega)
  generalize a1 m c = x
  pointwise
  simp only [e1, e2, e3, e4]
  exact padTok_at x b k h d

/-- The meta keys' array. -/
theorem meta_at (c : Dev nD) (j : Fin 16) (h : Fin 16) (d : Fin 256) (C : Fin 4096) (hC : C.val = 256 * h.val + d.val) :
    (V m c main_v27 (ix2 j C) : EReal) = pad (fun e => a3 m c (ix3 j h e)) d := by
  rw [metas]
  have e2 : ∀ h', (⟨C.val / 256, h'⟩ : Fin 16) = h := fun _ => Fin.ext (show C.val / 256 = h.val by omega)
  have e4 : ∀ h', (⟨C.val % 256, h'⟩ : Fin 256) = d := fun _ => Fin.ext (show C.val % 256 = d.val by omega)
  generalize a3 m c = x
  pointwise
  simp only [e2, e4]
  exact padMeta_at x j h d

/-- The values' array, transposed, with its rows of ones. -/
theorem valrow_at (c : Dev nD) (b : Fin 4) (k : Fin 4096) (h : Fin 16) (r : Fin 144) (R : Fin 2304) (C : Fin 16384)
    (hR : R.val = 144 * h.val + r.val) (hC : C.val = 4096 * b.val + k.val) :
    (V m c main_v32 (ix2 R C) : EReal) = if e : r.val < 128 then a2 m c (ix4 b k h ⟨r.val, e⟩) else 1 := by
  have e1 : ∀ h', (⟨C.val / 4096, h'⟩ : Fin 4) = b := fun _ => Fin.ext (show C.val / 4096 = b.val by omega)
  have e2 : ∀ h', (⟨R.val / 144, h'⟩ : Fin 16) = h := fun _ => Fin.ext (show R.val / 144 = h.val by omega)
  have e3 : ∀ h', (⟨C.val % 4096, h'⟩ : Fin 4096) = k := fun _ => Fin.ext (show C.val % 4096 = k.val by omega)
  have e4 : R.val % 144 = r.val := by omega
  show ((truncf .bf16 (transpose S2304x16384 [1, 0] (shapeCast S16384x2304 (concatenate S4x4096x16x144 3 [⟨S4x4096x16x128, a2 m c⟩, ⟨S4x4096x16x16, broadcastInDim S4x4096x16x16 ![] bcast_S_S4x4096x16x16 (constant S_ .f32 0x3F800000#32)⟩] concatenates_S4x4096x16x128_S4x4096x16x16_S4x4096x16x144_d3) shapeCasts_S4x4096x16x144_S16384x2304) transposes_S16384x2304_S2304x16384_1_0) bitsLt_bf16_f32 : FVec Ideal S2304x16384 .bf16) (ix2 R C) : EReal) = _
  generalize a2 m c = x
  pointwise
  simp only [e1, e2, e3, e4]

/-- The meta values' array, transposed, with its rows of ones. -/
theorem metaval_at (c : Dev nD) (j : Fin 16) (h : Fin 16) (r : Fin 144) (R : Fin 2304) (hR : R.val = 144 * h.val + r.val) :
    (V m c main_v37 (ix2 R j) : EReal) = if e : r.val < 128 then a4 m c (ix3 j h ⟨r.val, e⟩) else 1 := by
  have e2 : ∀ h', (⟨R.val / 144, h'⟩ : Fin 16) = h := fun _ => Fin.ext (show R.val / 144 = h.val by omega)
  have e4 : R.val % 144 = r.val := by omega
  show ((truncf .bf16 (transpose S2304x16 [1, 0] (shapeCast S16x2304 (concatenate S16x16x144 2 [⟨S16x16x128, a4 m c⟩, ⟨S16x16x16, broadcastInDim S16x16x16 ![] bcast_S_S16x16x16 (constant S_ .f32 0x3F800000#32)⟩] concatenates_S16x16x128_S16x16x16_S16x16x144_d2) shapeCasts_S16x16x144_S16x2304) transposes_S16x2304_S2304x16_1_0) bitsLt_bf16_f32 : FVec Ideal S2304x16 .bf16) (ix2 R j) : EReal) = _
  generalize a4 m c = x
  pointwise
  simp only [e2, e4]

end Cert.AttnIdeal.Hand

end
-- ==== Proof.AttnValue.lean ====
/- The values of the attention call: what each block of its result holds, and that the array is the
   reference's when no query and no key is infinite. Hand-written. -/
module

public import proofs.«01_k».proof.Proof.AttnFrame
public import proofs.«01_k».proof.Proof.AttnKeys
public import proofs.«01_k».proof.Proof.AttnHost
public import Idealize.ShloMosaic.Lib.Pipeline.ValueKit
public import Idealize.ShloMosaic.Lib.Pointwise
public import Idealize.ShloMosaic.Lib.Pipeline.ReadBack
public import proofs.«01_k».proof.Proof.AttnRef

@[expose] public section

set_option maxRecDepth 16384

noncomputable section

namespace Cert.AttnIdeal.Hand

open Cert.AttnIdeal Cert.AttnIdeal.Gen Idealize.ShloMosaic Idealize.ShloMosaic.TcCoe Idealize.SL.Sem
open Cert.Softmax (top acc)
open Cert.AttnRefIdeal.Hand (rs rms rv)
open Cert.AttnRefIdeal.Read (val_main_v37)
open Idealize.ShloMosaic.Pipeline (Dat)

variable (m : (ℓ : Loc nD τ sig) → Buf (Elt Ideal) ℓ)

/-- The batch row of a point. -/
def row (t : Fin cfg0.N) : Fin 4 := ⟨t.val / 32, by have : t.val < 128 := Nat.lt_of_lt_of_eq t.isLt N_0; omega⟩

/-- The head a point's `u`-th head is. -/
def head (t : Fin cfg0.N) (u : Fin 4) : Fin 16 := ⟨4 * (t.val / 8 % 4) + u.val, by omega⟩

/-! The blocks of a point, in the arguments. -/

theorem block0 (c : Dev nD) (t : Fin cfg0.N) (u : Fin 4) (d : Fin 256) (q : Fin 4096) :
    (iblk m c 0 t (ix2 ⟨256 * u.val + d.val, by omega⟩ q) : EReal) = pad (fun e => a0 m c (ix4 (row t) q (head t u) e)) d := by
  have ht : t.val < 128 := Nat.lt_of_lt_of_eq t.isLt N_0
  have e : iblk m c 0 t (ix2 ⟨256 * u.val + d.val, by omega⟩ q)
      = V m c main_v9 (ix2 ⟨1024 * (t.val / 8 % 4) + (256 * u.val + d.val), by omega⟩ ⟨4096 * (t.val / 32) + q.val, by omega⟩) := by
    blk_ext [iblk, idx t]
  exact e.trans (query_at m c (row t) q (head t u) d _ _ (by simp only [head]; omega) rfl)

theorem block1 (c : Dev nD) (t : Fin cfg0.N) (u : Fin 4) (d : Fin 256) (k : Fin 4096) :
    (iblk m c 1 t (ix2 k ⟨256 * u.val + d.val, by omega⟩) : EReal) = pad (fun e => a1 m c (ix4 (row t) k (head t u) e)) d := by
  have ht : t.val < 128 := Nat.lt_of_lt_of_eq t.isLt N_0
  have e : iblk m c 1 t (ix2 k ⟨256 * u.val + d.val, by omega⟩)
      = V m c main_v18 (ix2 ⟨4096 * (t.val / 32) + k.val, by omega⟩ ⟨1024 * (t.val / 8 % 4) + (256 * u.val + d.val), by omega⟩) := by
    blk_ext [iblk, idx t]
  exact e.trans (keyrow_at m c (row t) k (head t u) d _ _ rfl (by simp only [head]; omega))

theorem block3 (c : Dev nD) (t : Fin cfg0.N) (u : Fin 4) (d : Fin 256) (j : Fin 16) :
    (iblk m c 3 t (ix2 j ⟨256 * u.val + d.val, by omega⟩) : EReal) = pad (fun e => a3 m c (ix3 j (head t u) e)) d := by
  have ht : t.val < 128 := Nat.lt_of_lt_of_eq t.isLt N_0
  have e : iblk m c 3 t (ix2 j ⟨256 * u.val + d.val, by omega⟩)
      = V m c main_v27 (ix2 j ⟨1024 * (t.val / 8 % 4) + (256 * u.val + d.val), by omega⟩) := by
    blk_ext [iblk, idx t]
  exact e.trans (meta_at m c j (head t u) d _ (by simp only [head]; omega))

theorem block2 (c : Dev nD) (t : Fin cfg0.N) (u : Fin 4) (r : Fin 144) (k : Fin 4096) :
    (iblk m c 2 t (ix2 ⟨144 * u.val + r.val, by omega⟩ k) : EReal) = if e : r.val < 128 then a2 m c (ix4 (row t) k (head t u) ⟨r.val, e⟩) else 1 := by
  have ht : t.val < 128 := Nat.lt_of_lt_of_eq t.isLt N_0
  have e : iblk m c 2 t (ix2 ⟨144 * u.val + r.val, by omega⟩ k)
      = V m c main_v32 (ix2 ⟨576 * (t.val / 8 % 4) + (144 * u.val + r.val), by omega⟩ ⟨4096 * (t.val / 32) + k.val, by omega⟩) := by
    blk_ext [iblk, idx t]
  exact e.trans (valrow_at m c (row t) k (head t u) r _ _ (by simp only [head]; omega) rfl)

theorem block4 (c : Dev nD) (t : Fin cfg0.N) (u : Fin 4) (r : Fin 144) (j : Fin 16) :
    (iblk m c 4 t (ix2 ⟨144 * u.val + r.val, by omega⟩ j) : EReal) = if e : r.val < 128 then a4 m c (ix3 j (head t u) ⟨r.val, e⟩) else 1 := by
  have ht : t.val < 128 := Nat.lt_of_lt_of_eq t.isLt N_0
  have e : iblk m c 4 t (ix2 ⟨144 * u.val + r.val, by omega⟩ j)
      = V m c main_v37 (ix2 ⟨576 * (t.val / 8 % 4) + (144 * u.val + r.val), by omega⟩ j) := by
    blk_ext [iblk, idx t]
  exact e.trans (metaval_at m c j (head t u) r _ (by simp only [head]; omega))

/-- The block's score is the reference's. -/
theorem score_eq (c : Dev nD) (t : Fin cfg0.N) (u : Fin 4) (q : Fin 4096) (j : ℕ) :
    sc (iblk m c 0 t) (iblk m c 1 t) (iblk m c 3 t) u q j = rs (a0 m c) (a1 m c) (a3 m c) (row t) (head t u) q j := by
  unfold sc rs
  by_cases hj : j < 16
  · rw [dif_pos hj]
    refine (Finset.sum_congr rfl fun d _ => congrArg₂ (fun a b : EReal => a * b) (block3 m c t u d ⟨j, hj⟩) (block0 m c t u d q)).trans ?_
    refine (pad_sum _ _).trans (Finset.sum_congr rfl fun d _ => ?_)
    rw [dif_pos hj]
  · rw [dif_neg hj]
    refine (Finset.sum_congr rfl fun d _ => congrArg₂ (fun a b : EReal => a * b) (block1 m c t u d _) (block0 m c t u d q)).trans ?_
    refine (pad_sum _ _).trans (Finset.sum_congr rfl fun d _ => ?_)
    rw [dif_neg hj]

theorem masked_eq (c : Dev nD) (t : Fin cfg0.N) (u : Fin 4) (q : Fin 4096) :
    ms (iblk m c 0 t) (iblk m c 1 t) (iblk m c 3 t) u q = rms (a0 m c) (a1 m c) (a3 m c) (row t) (head t u) q := by
  funext j
  unfold ms rms
  rw [score_eq]

/-- The block's values are the reference's. -/
theorem value_eq (c : Dev nD) (t : Fin cfg0.N) (u : Fin 4) (r : Fin 128) :
    va (iblk m c 2 t) (iblk m c 4 t) u ⟨r.val, by omega⟩ = rv (a2 m c) (a4 m c) (row t) (head t u) r := by
  funext j
  unfold va rv
  by_cases hj : j < 16
  · rw [dif_pos hj, dif_pos hj]
    exact (block4 m c t u ⟨r.val, by omega⟩ ⟨j, hj⟩).trans (dif_pos r.isLt)
  · rw [dif_neg hj, dif_neg hj]
    exact (block2 m c t u ⟨r.val, by omega⟩ _).trans (dif_pos r.isLt)

/-- The row of ones. -/
theorem ones_eq (c : Dev nD) (t : Fin cfg0.N) (u : Fin 4) : va (iblk m c 2 t) (iblk m c 4 t) u 128 = fun _ => 1 := by
  funext j
  unfold va
  by_cases hj : j < 16
  · rw [dif_pos hj]
    exact (block4 m c t u 128 ⟨j, hj⟩).trans (dif_neg (by decide))
  · rw [dif_neg hj]
    exact (block2 m c t u 128 _).trans (dif_neg (by decide))

theorem block0_next (c : Dev nD) (t s : Fin cfg0.N) (hs : s.val = t.val - 1) (h : ¬ t.val % 8 = 0) :
    (iblk m c 0 s : Vec Ideal S1024x4096 .bf16) = iblk m c 0 t := by
  have ht : t.val < 128 := Nat.lt_of_lt_of_eq t.isLt N_0
  funext y
  blk_ext [iblk, idx t, idx s]

theorem block1_next (c : Dev nD) (t s : Fin cfg0.N) (hs : s.val = t.val - 1) (h : ¬ t.val % 8 = 0) :
    (iblk m c 1 s : Vec Ideal S4096x1024 .bf16) = iblk m c 1 t := by
  have ht : t.val < 128 := Nat.lt_of_lt_of_eq t.isLt N_0
  funext y
  blk_ext [iblk, idx t, idx s]

/-- The scores a point starts from are those of its query block against the first key block. -/
theorem from_eq (c : Dev nD) (t : Fin cfg0.N) (u : Fin 4) (κ y : Fin 512) (q : Fin 4096) (hq : q.val = 512 * (t.val % 8) + y.val) :
    fromS m c t (ix3 u κ y) = sc (iblk m c 0 t) (iblk m c 1 t) (iblk m c 3 t) u q (16 + 0 + κ.val) := by
  unfold fromS
  by_cases h : t.val % 8 = 0
  · rw [if_pos h]
    exact firstS_apply (iblk m c 0 t) (iblk m c 1 t) (iblk m c 3 t) u y q (by omega) κ
  · rw [if_neg h]
    have hs : t.val - 1 < cfg0.N := Nat.lt_of_le_of_lt (Nat.sub_le _ _) t.isLt
    have e2 : (grid0.coords ⟨t.val - 1, hs⟩ 2).val = (t.val - 1) / 1 % 8 := Pipeline.Grid.coords_val ⟨t.val - 1, hs⟩ 2 (by decide) rfl
    unfold keptS
    rw [block0_next m c t ⟨t.val - 1, hs⟩ rfl h, block1_next m c t ⟨t.val - 1, hs⟩ rfl h]
    exact nextS_apply (iblk m c 0 t) (iblk m c 1 t) (iblk m c 3 t) (grid0.coords ⟨t.val - 1, hs⟩) u y q (by rw [e2]; omega) κ

/-- No query and no key is infinite. -/
def Finite (c : Dev nD) : Prop :=
  (∀ i, ∃ r : ℝ, a0 m c i = r) ∧ (∀ i, ∃ r : ℝ, a1 m c i = r) ∧ (∀ i, ∃ r : ℝ, a3 m c i = r)

/-- Then every score is a real. -/
theorem score_real (c : Dev nD) (hf : Finite m c) (b : Fin 4) (h : Fin 16) (q : Fin 4096) (j : ℕ) :
    ∃ r : ℝ, rs (a0 m c) (a1 m c) (a3 m c) b h q j = r := by
  obtain ⟨f0, f1, f3⟩ := hf
  choose g0 e0 using f0
  choose g1 e1 using f1
  choose g3 e3 using f3
  unfold rs
  by_cases hj : j < 16
  · refine ⟨∑ d : Fin 192, g0 (ix4 b q h d) * g3 (ix3 ⟨j, hj⟩ h d), ?_⟩
    rw [Cert.Softmax.coe_sum]
    refine Finset.sum_congr rfl fun d _ => ?_
    rw [dif_pos hj, e0, e3, EReal.coe_mul]
  · refine ⟨∑ d : Fin 192, g0 (ix4 b q h d) * g1 (ix4 b ⟨(j - 16) % 4096, Nat.mod_lt _ (by norm_num)⟩ h d), ?_⟩
    rw [Cert.Softmax.coe_sum]
    refine Finset.sum_congr rfl fun d _ => ?_
    rw [dif_neg hj, e0, e1, EReal.coe_mul]

/-- And so is the largest of a query's. -/
theorem largest_real (c : Dev nD) (hf : Finite m c) (b : Fin 4) (h : Fin 16) (q : Fin 4096) :
    ∃ r : ℝ, top (rms (a0 m c) (a1 m c) (a3 m c) b h q) 4112 = r := by
  refine Cert.Softmax.top_real _ (i := 0) (by norm_num) ?_ fun j _ => ?_
  · obtain ⟨r, e⟩ := score_real m c hf b h q 0
    unfold rms; rw [if_pos (Nat.zero_le _), e]; exact EReal.coe_ne_bot r
  · obtain ⟨r, e⟩ := score_real m c hf b h q j
    unfold rms
    split
    · rw [e]; exact EReal.coe_ne_top r
    · exact bot_ne_top

/-- What a point stores is the reference's at the array index under the block index. -/
theorem point (c : Dev nD) (hf : Finite m c) (t : Fin cfg0.N) (y z : Fin 512) (R : Fin 16384) (C : Fin 2048)
    (hR : R.val = 512 * (8 * (t.val / 32) + t.val % 8) + y.val) (hC : C.val = 512 * (t.val / 8 % 4) + z.val) :
    (outB m c t (ix2 y z) : EReal) = val_main_v37 (F := Ideal) (a0 m c) (a1 m c) (a2 m c) (a3 m c) (a4 m c) (ix2 R C) := by
  have e2 : (grid0.coords t 2).val = t.val / 1 % 8 := Pipeline.Grid.coords_val t 2 (by decide) rfl
  have hq : 512 * (t.val % 8) + y.val < 4096 := by omega
  obtain ⟨r0, hr0⟩ := largest_real m c hf (row t) (head t ⟨z.val / 128, by omega⟩) ⟨512 * (t.val % 8) + y.val, hq⟩
  have h1 := outS_apply (iblk m c 0 t) (iblk m c 1 t) (iblk m c 2 t) (iblk m c 3 t) (iblk m c 4 t) (grid0.coords t) y ⟨512 * (t.val % 8) + y.val, hq⟩ (fromS m c t)
    (fun u κ y q h => from_eq m c t u κ y q (by rw [e2] at h; omega)) ⟨z.val / 128, by omega⟩ y ⟨512 * (t.val % 8) + y.val, hq⟩
    (by rw [e2]; dsimp only; omega) ⟨z.val % 128, by omega⟩ z (by dsimp only; omega)
  have h2 := value_eq m c t ⟨z.val / 128, by omega⟩ ⟨z.val % 128, by omega⟩
  dsimp only at h2
  refine h1.trans ?_
  rw [masked_eq, ones_eq]
  rw [h2, Cert.Softmax.quotient _ _ hr0]
  exact (Cert.AttnRefIdeal.Hand.entry (a0 m c) (a1 m c) (a2 m c) (a3 m c) (a4 m c) (row t) (head t ⟨z.val / 128, by omega⟩) ⟨512 * (t.val % 8) + y.val, hq⟩
    ⟨z.val % 128, by omega⟩ R C (by simp only [row]; omega) (by simp only [head]; omega)).symm

/-- The call's result is the reference's. -/
theorem final (c : Dev nD) (hf : Finite m c) : (dats m 0 c).arrAt 5 (cfgs 0).N
    = val_main_v37 (F := Ideal) (a0 m c) (a1 m c) (a2 m c) (a3 m c) (a4 m c) := by
  refine (dats m 0 c).arrAt_eq_of_covers 5 _ (by decide +kernel) fun t _ y => ?_
  blk_simp
  rw [after_5]
  have ht : t.val < 128 := Nat.lt_of_lt_of_eq t.isLt N_0
  have ey : y = ix2 (y 0) (y 1) := by funext a; fin_cases a <;> rfl
  have hi : (win0_5.blk t).view.emb y = ix2 ⟨512 * (8 * (t.val / 32) + t.val % 8) + (y 0).val, by have : (y 0).val < 512 := (y 0).isLt; omega⟩
      ⟨512 * (t.val / 8 % 4) + (y 1).val, by have : (y 1).val < 512 := (y 1).isLt; omega⟩ := by
    blk_ext [idx t]
  rw [hi]
  exact (congrArg (outB m c t) ey).trans (point m c hf t (y 0) (y 1) _ _ rfl rfl)

end Cert.AttnIdeal.Hand

end
-- ==== Proof.AttnClaim.lean ====
/- The claims about the attention call: the frames of the kernel at both instances and of the reference, what is
   named in passing to the reals, and that the result is the reference's. Hand-written. -/
module

public import proofs.«01_k».proof.Defs
public import proofs.«01_k».proof.Proof.Gen.Attn
public import proofs.«01_k».proof.Proof.AttnFrame
public import proofs.«01_k».proof.Proof.AttnValue
public import proofs.«01_k».proof.Proof.Gen.AttnRefIdeal.Run
public import Idealize.ShloMosaic.Lib.Claim
public import Idealize.ShloMosaic.Lib.Tactic

@[expose] public section

set_option maxRecDepth 16384

noncomputable section

namespace Cert.Proof

open Idealize.ShloMosaic Idealize.SL.Sem

/-- The side conditions of the precondition's operations. -/
instance finite_facts : Cert.Pre_finite_scores.Facts := ⟨by decide, by decide⟩

/-- The attention call over the reals ends with its arguments unchanged and every counter at zero. -/
theorem frame_attnIdeal : Cert.quiescent_AttnIdeal := fun m g _ => Cert.AttnIdeal.Hand.frame m g

/-- On machine words a named constant is the word it names. -/
local instance namedBits : Named Bits where
  named _ _ b := FloatOps.ofBits b

/-- The body tables of the two printings are the same. -/
theorem rows_attn : Cert.AttnIdeal.defs₀ (F := Bits) = Cert.Attn.defs₀ (F := Bits) := by
  unfold Cert.AttnIdeal.defs₀ Cert.Attn.defs₀
  congr 1
  funext a b
  match a, b with
  | 0, (_, _) => rfl

/-- So are the tables with the call's region and pipeline. -/
theorem table_attn : Cert.AttnIdeal.defs (F := Bits) = Cert.Attn.defs (F := Bits) :=
  congrArg (Pipeline.defs Cert.AttnIdeal.pcfgs) rows_attn

/-- So are the two main functions. -/
theorem main_attn : Cert.AttnIdeal.main (F := Bits) = Cert.Attn.main (F := Bits) := by
  sl_kernel_rfl

/-- The attention call on machine words ends with its arguments unchanged and every counter at zero: it is the
    same text, and the run above is over any float values. -/
theorem frame_attn : Cert.quiescent_Attn := fun m g _ => by
  have h := Cert.AttnIdeal.Hand.frame (F := Bits) m g
  rw [table_attn, main_attn] at h
  exact h

/-- The attention's reference ends with its arguments unchanged and every counter at zero. -/
theorem frame_attnRef : Cert.quiescent_AttnRefIdeal := by
  intro m g _
  exact (θ_run Cert.AttnRefIdeal.defs _ _).mono
    (fun r h => ⟨fun c => (h c).2, sem_eq_zero_of_no_sems (by decide) r.2⟩)
    (Cert.AttnRefIdeal.Value.run (F := Ideal) m g)

/-- The mask's word is read as minus infinity. -/
theorem preserves_attn : Cert.preserves_Attn_AttnIdeal :=
  IdealRules.named_const.statement Cert.AttnIdeal.κ "mask" .f32 0xF149F2CA#32 ⊥ rfl

/-- In particular so it does under the precondition. -/
theorem frame_attnIdeal_pre : Cert.quiescent_AttnIdeal_pre_finite_scores := fun m g _ => Cert.AttnIdeal.Hand.frame m g

/-- And so does the reference. -/
theorem frame_attnRef_pre : Cert.quiescent_AttnRefIdeal_pre_finite_scores := fun m g _ => frame_attnRef m g trivial

/-- What compares below the infinity in absolute value is a real. -/
theorem real_of_below (x : EReal) (h : Ideal.cmp .olt (max x (-x)) (Ideal.ofBits .f32 0x7F800000#32) = 1#1) : ∃ r : ℝ, x = r := by
  have e : Ideal.ofBits .f32 0x7F800000#32 = (⊤ : EReal) := by simp [Ideal.ofBits, Ideal.ieee]
  rw [e] at h
  induction x with
  | bot => simp [Ideal.cmp] at h
  | top => simp [Ideal.cmp] at h
  | coe r => exact ⟨r, rfl⟩

/-- The precondition says that no query and no key is infinite. -/
theorem finite_of_pre (m) (hpre : Cert.Pre_AttnIdeal_finite_scores m) (c) : Cert.AttnIdeal.Hand.Finite m c := by
  obtain ⟨h0, h1, h3⟩ := hpre c
  exact ⟨fun i => real_of_below _ (congrFun h0 i), fun i => real_of_below _ (congrFun h1 i), fun i => real_of_below _ (congrFun h3 i)⟩

/-- The attention call's result equals the reference's over the reals, when no query and no key is infinite. -/
theorem algebraic_attn : Cert.algebraic_AttnIdeal_AttnRefIdeal_pre_finite_scores := by
  pair_intro
  · run_from Cert.AttnIdeal.Hand.run_main m g
  · run_from Cert.AttnRefIdeal.Value.run m' g'
    rw [Cert.AttnRefIdeal.Read.val_main_v37_eq]
    simp only [hagree c]
    exact (Cert.AttnIdeal.Hand.final m c (finite_of_pre m hpre c)).symm

end Cert.Proof

end
-- ==== Proof.QueryOut.lean ====
/- The block the query projection stores at a grid point: sixteen heads, five stores each. Hand-written. -/
module

public import proofs.«01_k».proof.Proof.Gen.QueryIdeal.Frame
public import Idealize.ShloMosaic.Lib.Pipeline.ValueKit
public import Idealize.ShloMosaic.Lib.Pointwise
public import Idealize.ShloMosaic.Lib.Pipeline.ReadBack

@[expose] public section

set_option maxRecDepth 16384

noncomputable section

namespace Cert.QueryIdeal.Hand

open Cert.QueryIdeal Cert.QueryIdeal.Gen Idealize.ShloMosaic Idealize.ShloMosaic.TcCoe Idealize.SL.Sem
open Idealize.ShloMosaic.Pipeline (Dat)

/-- A head's row `r` as it is stored, from the head's normed rows: the first 128 as they are, then the rotated first
    half, a row of the layout that stays, the rotated second half, and again rows that stay. -/
def outRow (n : FVec Ideal S256x1024 .f32) (C S : FVec Ideal S32x1024 .f32) (r : Fin 256) (y : Fin 1024) : EReal :=
  if h1 : r.val < 128 then n (ix2 r y)
  else if h2 : r.val < 160 then
    n (ix2 r y) * C (ix2 ⟨r.val - 128, by omega⟩ y) - n (ix2 ⟨r.val + 64, by omega⟩ y) * S (ix2 ⟨r.val - 128, by omega⟩ y)
  else if h3 : r.val < 192 then n (ix2 r y)
  else if h4 : r.val < 224 then
    n (ix2 r y) * C (ix2 ⟨r.val - 192, by omega⟩ y) + n (ix2 ⟨r.val - 64, by omega⟩ y) * S (ix2 ⟨r.val - 192, by omega⟩ y)
  else n (ix2 r y)

/-- The whole block: row `256 h + r` is row `r` of head `h`. -/
def out (N : Fin 16 → FVec Ideal S256x1024 .f32) (C S : FVec Ideal S32x1024 .f32) (y : S4096x1024.Idx) : EReal :=
  outRow (N ⟨(y 0).val / 256, by have h : (y 0).val < 4096 := (y 0).isLt; omega⟩) C S ⟨(y 0).val % 256, Nat.mod_lt _ (by decide)⟩ (y 1)

theorem out_eq (N : Fin 16 → FVec Ideal S256x1024 .f32) (C S : FVec Ideal S32x1024 .f32) (y : S4096x1024.Idx) (h : Fin 16)
    (r : Fin 256) (x : Fin 1024) (hy : (y 0).val = 256 * h.val + r.val) (hx : (y 1).val = x.val) : out N C S y = outRow (N h) C S r x := by
  have e1 : ∀ p, (⟨(y 0).val / 256, p⟩ : Fin 16) = h := fun _ => Fin.ext (show (y 0).val / 256 = h.val by omega)
  have e2 : ∀ p, (⟨(y 0).val % 256, p⟩ : Fin 256) = r := fun _ => Fin.ext (show (y 0).val % 256 = r.val by omega)
  have e3 : (y 1 : Fin 1024) = x := Fin.ext hx
  unfold out
  rw [e1, e2, e3]

/-- The bounds of a store of `k` rows from row `off`. -/
theorem inb (off k : ℕ) (h : off + k ≤ 4096) : ∀ a, (![off, 0] : Fin 2 → ℕ) a + (![k, 1024] : Fin 2 → ℕ) a ≤ S4096x1024.size a := by
  intro a
  match a with
  | 0 => exact h
  | 1 => exact le_refl _

/-- The stores of the first `n` heads, the last first. -/
def pieces (N : Fin 16 → FVec Ideal S256x1024 .f32) (C S : FVec Ideal S32x1024 .f32) :
    (n : ℕ) → n ≤ 16 → List (View.Piece (Elt Ideal) S4096x1024 .bf16)
  | 0, _ => []
  | n + 1, h =>
    ⟨Rect.unit ![256 * n + 224, 0] ![32, 1024] (inb _ _ (by omega)), k0_pay5 (F := Ideal) (N ⟨n, h⟩)⟩
      :: ⟨Rect.unit ![256 * n + 192, 0] ![32, 1024] (inb _ _ (by omega)),
          k0_pay4 (F := Ideal) C S (extractStridedSlice S32x1024 ![128, 0] (N ⟨n, h⟩) slices_S256x1024_o128_0_S32x1024)
            (extractStridedSlice S32x1024 ![192, 0] (N ⟨n, h⟩) slices_S256x1024_o192_0_S32x1024)⟩
      :: ⟨Rect.unit ![256 * n + 160, 0] ![32, 1024] (inb _ _ (by omega)), k0_pay3 (F := Ideal) (N ⟨n, h⟩)⟩
      :: ⟨Rect.unit ![256 * n + 128, 0] ![32, 1024] (inb _ _ (by omega)),
          k0_pay2 (F := Ideal) C S (extractStridedSlice S32x1024 ![128, 0] (N ⟨n, h⟩) slices_S256x1024_o128_0_S32x1024)
            (extractStridedSlice S32x1024 ![192, 0] (N ⟨n, h⟩) slices_S256x1024_o192_0_S32x1024)⟩
      :: ⟨Rect.unit ![256 * n, 0] ![128, 1024] (inb _ _ (by omega)), k0_pay1 (F := Ideal) (N ⟨n, h⟩)⟩
      :: pieces N C S n (by omega)

/-- Every store holds the block's entries. -/
theorem pieces_at (N : Fin 16 → FVec Ideal S256x1024 .f32) (C S : FVec Ideal S32x1024 .f32) (y : S4096x1024.Idx) :
    ∀ (n : ℕ) (h : n ≤ 16), View.AllAt (pieces N C S n h) y (out N C S y)
  | 0, _ => View.allAt_nil _ _
  | n + 1, h => by
    unfold pieces
    refine View.allAt_cons_unit _ _ _ _ _ ?_ (View.allAt_cons_unit _ _ _ _ _ ?_ (View.allAt_cons_unit _ _ _ _ _ ?_
      (View.allAt_cons_unit _ _ _ _ _ ?_ (View.allAt_cons_unit _ _ _ _ _ ?_ (pieces_at N C S y n (by omega))))))
    · tile_intro x q
      rw [out_eq N C S y ⟨n, h⟩ ⟨224 + (x 0).val, by omega⟩ (x 1) (by dsimp only; omega) (by omega)]
      generalize N ⟨n, h⟩ = M
      unfold outRow
      rw [dif_neg (by dsimp only; omega), dif_neg (by dsimp only; omega), dif_neg (by dsimp only; omega), dif_neg (by dsimp only; omega)]
      pointwise [k0_pay5]
    · tile_intro x q
      rw [out_eq N C S y ⟨n, h⟩ ⟨192 + (x 0).val, by omega⟩ (x 1) (by dsimp only; omega) (by omega)]
      generalize N ⟨n, h⟩ = M
      unfold outRow
      rw [dif_neg (by dsimp only; omega), dif_neg (by dsimp only; omega), dif_neg (by dsimp only; omega), dif_pos (by dsimp only; omega)]
      have e2 : ∀ p p', (⟨192 + (x 0).val - 64, p⟩ : Fin 256) = ⟨128 + (x 0).val, p'⟩ := fun _ _ => Fin.ext (by dsimp only; omega)
      pointwise [k0_pay4]
      rw [e2]
    · tile_intro x q
      rw [out_eq N C S y ⟨n, h⟩ ⟨160 + (x 0).val, by omega⟩ (x 1) (by dsimp only; omega) (by omega)]
      generalize N ⟨n, h⟩ = M
      unfold outRow
      rw [dif_neg (by dsimp only; omega), dif_neg (by dsimp only; omega), dif_pos (by dsimp only; omega)]
      pointwise [k0_pay3]
    · tile_intro x q
      rw [out_eq N C S y ⟨n, h⟩ ⟨128 + (x 0).val, by omega⟩ (x 1) (by dsimp only; omega) (by omega)]
      generalize N ⟨n, h⟩ = M
      unfold outRow
      rw [dif_neg (by dsimp only; omega), dif_pos (by dsimp only; omega)]
      have e2 : ∀ p p', (⟨128 + (x 0).val + 64, p⟩ : Fin 256) = ⟨192 + (x 0).val, p'⟩ := fun _ _ => Fin.ext (by dsimp only; omega)
      pointwise [k0_pay2]
      rw [e2]
    · tile_intro x q
      rw [out_eq N C S y ⟨n, h⟩ ⟨(x 0).val, by omega⟩ (x 1) (by dsimp only; omega) (by omega)]
      generalize N ⟨n, h⟩ = M
      unfold outRow
      rw [dif_pos (by dsimp only; omega)]
      pointwise [k0_pay1]

/-- A head's rows of the weights are in bounds. -/
theorem inbW (h : Fin 16) : ∀ a, (![256 * h.val, 0] : Fin 2 → ℕ) a + S256x512.size a ≤ S4096x512.size a := by
  intro a
  match a with
  | 0 => show 256 * h.val + 256 ≤ 4096; omega
  | 1 => exact le_refl _

/-- A head's normed rows, from what the call reads. -/
def head (x0 : Vec Ideal S1024x512 .f32) (x1 : Vec Ideal S1x512 .f32) (x3 : Vec Ideal S256x1 .f32) (w : Vec Ideal S256x512 .bf16) :
    FVec Ideal S256x1024 .f32 :=
  k0_pay18 (F := Ideal) (k0_pay6 x0 x1) (k0_pay9 x3) w

variable (m : (ℓ : Loc nD τ sig) → Buf (Elt Ideal) ℓ)

/-- The run's stores are these. -/
theorem run_pieces (c : Dev nD) (i : grid0.Coords) (arg1 : Memref sig .tc .vmem S1024x512 .f32) (harg1 : arg1.IsWhole) (arg2 : Memref sig .tc .vmem S1x512 .f32) (harg2 : arg2.IsWhole) (arg3 : Memref sig .tc .vmem S4096x512 .bf16) (harg3 : arg3.IsWhole) (arg4 : Memref sig .tc .vmem S256x1 .f32) (harg4 : arg4.IsWhole) (arg5 : Memref sig .tc .vmem S32x1024 .f32) (harg5 : arg5.IsWhole) (arg6 : Memref sig .tc .vmem S32x1024 .f32) (harg6 : arg6.IsWhole) (arg7 : Memref sig .tc .vmem S4096x1024 .bf16) (harg7 : arg7.IsWhole)
    (x0 : Vec Ideal S1024x512 .f32) (x1 : Vec Ideal S1x512 .f32) (x2 : Vec Ideal S4096x512 .bf16) (x3 : Vec Ideal S256x1 .f32) (x4 : Vec Ideal S32x1024 .f32) (x5 : Vec Ideal S32x1024 .f32) :
    (kernelRun0_A c i arg1 harg1 arg2 harg2 arg3 harg3 arg4 harg4 arg5 harg5 arg6 harg6 arg7 harg7 x0 x1 x2 x3 x4 x5).1
      = pieces (fun h => head
          (View.readAt (Elt Ideal) arg1.view (Rect.unit ![0, 0] S1024x512.size inb_S1024x512_S1024x512_0_0).toLoadRect (harg1.unread x0))
          (View.readAt (Elt Ideal) arg2.view (Rect.unit ![0, 0] S1x512.size inb_S1x512_S1x512_0_0).toLoadRect (harg2.unread x1))
          (View.readAt (Elt Ideal) arg4.view (Rect.unit ![0, 0] S256x1.size inb_S256x1_S256x1_0_0).toLoadRect (harg4.unread x3))
          (View.readAt (Elt Ideal) arg3.view (Rect.unit (s := S4096x512) ![256 * h.val, 0] S256x512.size (inbW h)).toLoadRect (harg3.unread x2)))
        (k0_pay7 (View.readAt (Elt Ideal) arg5.view (Rect.unit ![0, 0] S32x1024.size inb_S32x1024_S32x1024_0_0).toLoadRect (harg5.unread x4)))
        (k0_pay7 (View.readAt (Elt Ideal) arg6.view (Rect.unit ![0, 0] S32x1024.size inb_S32x1024_S32x1024_0_0).toLoadRect (harg6.unread x5)))
        16 (le_refl _) := by
  sl_kernel_rfl

/-- What the body leaves after a grid point. -/
theorem left (c : Dev nD) (t : Fin cfg0.N) (y : S4096x1024.Idx) :
    outsAt0 m c t y = out (fun h => head (iblk m c 0 t) (iblk m c 1 t) (iblk m c 3 t)
        (View.ld (iblk m c 2 t) (Rect.unit (s := S4096x512) ![256 * h.val, 0] S256x512.size (inbW h))))
      (iblk m c 4 t) (iblk m c 5 t) y := by
  unfold outsAt0 out0_A_6
  rw [View.read_writes_junk_eq_canon]
  refine View.canon_eq_of_allAt _ y _ (cover0_A_6 ..) ?_
  rw [run_pieces]
  have h7 : ∀ C : Vec Ideal S32x1024 .f32, k0_pay7 (F := Ideal) C = C := fun C => by
    unfold k0_pay7; exact shapeCast_self _ _
  simp (disch := decide) only [View.ld_unit_lit', View.readAt_eq_ld, h7, Memref.IsWhole.read_unread]
  exact pieces_at _ _ _ y 16 _

end Cert.QueryIdeal.Hand

end
-- ==== Proof.QueryValue.lean ====
/- The values of the query projection: what each block of its result holds, and that the array is the reference's.
   Hand-written. -/
module

public import proofs.«01_k».proof.Proof.QueryOut
public import proofs.«01_k».proof.Proof.AttnHost
public import proofs.«01_k».proof.Proof.Gen.QueryRefIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.QueryIdeal.Hand

open Cert.QueryIdeal Cert.QueryIdeal.Gen Idealize.ShloMosaic Idealize.ShloMosaic.TcCoe Idealize.SL.Sem
open Idealize.ShloMosaic.Pipeline (Dat)
open Cert.QueryRefIdeal.Read
open Cert.AttnIdeal.Hand (pad_sum ladder)

/-! ## A head's row in terms of the arguments -/

/-- A token's query columns, normed. -/
def normed (z g : Fin 512 → EReal) (e : Fin 512) : EReal :=
  z e * Ideal.rsqrt (Ideal.div (∑ k, z k * z k) (Ideal.ofBits .f32 0x44000000#32) + Ideal.ofBits .f32 0x358637BD#32) * g e

/-- A head's 192 entries, normed and scaled. -/
def scaled (q g : Fin 192 → EReal) (d : Fin 192) : EReal :=
  q d * Ideal.rsqrt (Ideal.div (∑ k, q k * q k) (Ideal.ofBits .f32 0x43400000#32) + Ideal.ofBits .f32 0x358637BD#32) * g d
    * Ideal.ofBits .f32 0x3DD53B95#32

/-- A head's 256 rows of the result: the first 128 entries, the two halves of the last 64 rotated, each with 32 zeros. -/
def rotated (n : Fin 192 → EReal) (co si : Fin 32 → EReal) (r : Fin 256) : EReal :=
  if h1 : r.val < 128 then n ⟨r.val, by omega⟩
  else if h2 : r.val < 160 then
    n ⟨r.val, by omega⟩ * co ⟨r.val - 128, by omega⟩ - n ⟨r.val + 32, by omega⟩ * si ⟨r.val - 128, by omega⟩
  else if h3 : r.val < 192 then 0
  else if h4 : r.val < 224 then
    n ⟨r.val - 32, by omega⟩ * co ⟨r.val - 192, by omega⟩ + n ⟨r.val - 64, by omega⟩ * si ⟨r.val - 192, by omega⟩
  else 0

/-- The layout's zeros are 0 for the zero function too, and a product with a layout is the layout of the products. -/
theorem pad_mul (f g : Fin 192 → EReal) (r : Fin 256) : AttnIdeal.Hand.pad f r * AttnIdeal.Hand.pad g r = AttnIdeal.Hand.pad (fun d => f d * g d) r := by
  unfold AttnIdeal.Hand.pad; split_ifs <;> simp only [mul_zero]

theorem pad_mul_right (f : Fin 192 → EReal) (x : EReal) (r : Fin 256) : AttnIdeal.Hand.pad f r * x = AttnIdeal.Hand.pad (fun d => f d * x) r := by
  unfold AttnIdeal.Hand.pad; split_ifs <;> simp only [zero_mul]

/-- A product with padded weights is the padded product. -/
theorem sum_pad (w : Fin 512 → Fin 192 → EReal) (x : Fin 512 → EReal) (r : Fin 256) :
    ∑ e, AttnIdeal.Hand.pad (w e) r * x e = AttnIdeal.Hand.pad (fun d => ∑ e, x e * w e d) r := by
  unfold AttnIdeal.Hand.pad
  split_ifs
  · exact Finset.sum_congr rfl fun e _ => mul_comm _ _
  · simp only [zero_mul, Finset.sum_const_zero]
  · exact Finset.sum_congr rfl fun e _ => mul_comm _ _
  · simp only [zero_mul, Finset.sum_const_zero]

/-- The kernel's factor is the division by 192. -/
theorem by_192 (x : EReal) : x * Named.named (F := Ideal) κ "inv_192" (φ := .f32) 0x3BAAAAAB#32 = Ideal.div x (Ideal.ofBits .f32 0x43400000#32) := by
  have h : Ideal.ofBits .f32 0x43400000#32 = ((192 : ℝ) : EReal) := by
    simp [Ideal.ofBits, Ideal.ieee, -EReal.coe_mul]; norm_num
  rw [h, Ideal.div_coe (by norm_num)]
  show x * ((192⁻¹ : ℝ) : EReal) = _
  rw [one_div]

/-- What the kernel computes of a head, with the arguments it reads at the entries named. -/
theorem head_at (x0 : Vec Ideal S1024x512 .f32) (x1 : Vec Ideal S1x512 .f32) (x3 : Vec Ideal S256x1 .f32) (W : Vec Ideal S256x512 .bf16)
    (y : Fin 1024) (z g : Fin 512 → EReal) (w : Fin 512 → Fin 192 → EReal) (gh : Fin 192 → EReal)
    (h0 : ∀ e, x0 (ix2 y e) = z e) (h1 : ∀ e, x1 (ix2 0 e) = g e) (h2 : ∀ r e, W (ix2 r e) = AttnIdeal.Hand.pad (w e) r)
    (h3 : ∀ r, x3 (ix2 r 0) = AttnIdeal.Hand.pad gh r * Ideal.ofBits .f32 0x3DD53B95#32) (r : Fin 256) :
    head x0 x1 x3 W (ix2 r y) = AttnIdeal.Hand.pad (scaled (fun d => ∑ e, normed z g e * w e d) gh) r := by
  unfold head
  pointwise [k0_pay18, k0_pay6, k0_pay9]
  simp only [h0, h1, h2, h3]
  have e1 (r : Fin 256) : ∑ e, AttnIdeal.Hand.pad (w e) r * (z e * Ideal.rsqrt (Ideal.div (∑ k, z k * z k) (Ideal.ofBits .f32 0x44000000#32) + Ideal.ofBits .f32 0x358637BD#32) * g e)
      = AttnIdeal.Hand.pad (fun d => ∑ e, normed z g e * w e d) r := sum_pad w (normed z g) r
  simp only [e1]
  rw [pad_sum, by_192, pad_mul_right, ← mul_assoc, pad_mul, pad_mul_right]
  rfl

/-- A head's stored rows, from its padded normed rows. -/
theorem row_at (n : FVec Ideal S256x1024 .f32) (C S : FVec Ideal S32x1024 .f32) (y : Fin 1024) (f : Fin 192 → EReal) (co si : Fin 32 → EReal)
    (hn : ∀ r, n (ix2 r y) = AttnIdeal.Hand.pad f r) (hC : ∀ j, C (ix2 j y) = co j) (hS : ∀ j, S (ix2 j y) = si j) (r : Fin 256) :
    outRow n C S r y = rotated f co si r := by
  unfold outRow rotated
  simp only [hn, hC, hS]
  unfold AttnIdeal.Hand.pad
  dsimp only
  split_ifs <;> first | (exfalso; omega) | rfl

/-! ## The reference -/

theorem ref_head (x0 : FVec Ideal S16384x11264 .f32) (x1 : FVec Ideal S2x512 .f32) (x2 : FVec Ideal S2x512x3072 .f32)
    (b : Fin 4) (t : Fin 4096) (h : Fin 16) (d : Fin 192) :
    val_main_v20 (F := Ideal) x0 x1 x2 (ix4 b t h d)
      = ∑ e, normed (fun e => x0 (ix2 ⟨b.val * 4096 + t.val, by omega⟩ ⟨6144 + e.val, by omega⟩)) (fun e => x1 (ix2 1 e)) e
          * x2 (ix3 1 e ⟨h.val * 192 + d.val, by omega⟩) := by
  have z0 : val_main_cst (F := Ideal) (Shape.Idx.first Cert.QueryRefIdeal.Gen.h_S_) = 0 := Ideal.ofBits_zero_f32
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0]
  rw [z0, zero_add]
  rfl

theorem ref_scaled (x0 : FVec Ideal S16384x11264 .f32) (x1 : FVec Ideal S2x512 .f32) (x2 : FVec Ideal S2x512x3072 .f32) (x3 : FVec Ideal S2x192 .f32)
    (b : Fin 4) (t : Fin 4096) (h : Fin 16) (d : Fin 192) :
    val_main_v37 (F := Ideal) x0 x1 x2 x3 (ix4 b t h d)
      = scaled (fun d => val_main_v20 (F := Ideal) x0 x1 x2 (ix4 b t h d)) (fun d => x3 (ix2 1 d)) d := by
  have z0 : val_main_cst_2 (F := Ideal) (Shape.Idx.first Cert.QueryRefIdeal.Gen.h_S_) = 0 := Ideal.ofBits_zero_f32
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21]
  rw [z0, zero_add]
  rfl

/-- The stacking of the rotated pieces and the zeros is the head's rows. -/
theorem rotated_ladder (n : Fin 192 → EReal) (co si : Fin 32 → EReal) (r : Fin 256) :
    (if h : r.val < 128 then n ⟨r.val, by omega⟩
      else if h : r.val - 128 < 32 then n ⟨128 + (r.val - 128), by omega⟩ * co ⟨r.val - 128, by omega⟩ - n ⟨160 + (r.val - 128), by omega⟩ * si ⟨r.val - 128, by omega⟩
      else if h : r.val - 128 - 32 < 32 then 0
      else if h : r.val - 128 - 32 - 32 < 32 then n ⟨160 + (r.val - 128 - 32 - 32), by omega⟩ * co ⟨r.val - 128 - 32 - 32, by omega⟩
        + n ⟨128 + (r.val - 128 - 32 - 32), by omega⟩ * si ⟨r.val - 128 - 32 - 32, by omega⟩
      else 0) = rotated n co si r := by
  unfold rotated
  by_cases h1 : r.val < 128
  · rw [dif_pos h1, dif_pos h1]
  by_cases h2 : r.val < 160
  · rw [dif_neg h1, dif_neg h1, dif_pos (by omega), dif_pos h2]
    have e1 : ∀ p p', (⟨128 + (r.val - 128), p⟩ : Fin 192) = ⟨r.val, p'⟩ := fun _ _ => Fin.ext (by dsimp only; omega)
    have e2 : ∀ p p', (⟨160 + (r.val - 128), p⟩ : Fin 192) = ⟨r.val + 32, p'⟩ := fun _ _ => Fin.ext (by dsimp only; omega)
    rw [e1, e2]
  by_cases h3 : r.val < 192
  · rw [dif_neg h1, dif_neg h1, dif_neg (by omega), dif_pos (by omega), dif_neg h2, dif_pos h3]
  by_cases h4 : r.val < 224
  · rw [dif_neg h1, dif_neg h1, dif_neg (by omega), dif_neg (by omega), dif_pos (by omega), dif_neg h2, dif_neg h3, dif_pos h4]
    have e1 : ∀ p p', (⟨160 + (r.val - 128 - 32 - 32), p⟩ : Fin 192) = ⟨r.val - 32, p'⟩ := fun _ _ => Fin.ext (by dsimp only; omega)
    have e2 : ∀ p p', (⟨128 + (r.val - 128 - 32 - 32), p⟩ : Fin 192) = ⟨r.val - 64, p'⟩ := fun _ _ => Fin.ext (by dsimp only; omega)
    have e3 : ∀ p p', (⟨r.val - 128 - 32 - 32, p⟩ : Fin 32) = ⟨r.val - 192, p'⟩ := fun _ _ => Fin.ext (by dsimp only; omega)
    rw [e1, e2, e3]
  · rw [dif_neg h1, dif_neg h1, dif_neg (by omega), dif_neg (by omega), dif_neg (by omega), dif_neg h2, dif_neg h3, dif_neg h4]

theorem ref_at (x0 : FVec Ideal S16384x11264 .f32) (x1 : FVec Ideal S2x512 .f32) (x2 : FVec Ideal S2x512x3072 .f32) (x3 : FVec Ideal S2x192 .f32)
    (b : Fin 4) (t : Fin 4096) (h : Fin 16) (r : Fin 256) (R : Fin 4096) (T : Fin 16384)
    (hR : R.val = 256 * h.val + r.val) (hT : T.val = 4096 * b.val + t.val) :
    val_main_v82 (F := Ideal) x0 x1 x2 x3 (ix2 R T)
      = rotated (fun d => val_main_v37 (F := Ideal) x0 x1 x2 x3 (ix4 b t h d)) (fun j => val_main_v55 (F := Ideal) (ix2 ⟨16 + t.val, by omega⟩ j))
          (fun j => val_main_v56 (F := Ideal) (ix2 ⟨16 + t.val, by omega⟩ j)) r := by
  refine Eq.trans ?_ (rotated_ladder _ _ _ r)
  have e1 : ∀ p, (⟨T.val / 4096, p⟩ : Fin 4) = b := fun _ => Fin.ext (show T.val / 4096 = b.val by omega)
  have e2 : ∀ p, (⟨R.val / 256, p⟩ : Fin 16) = h := fun _ => Fin.ext (show R.val / 256 = h.val by omega)
  have e3 : T.val % 4096 = t.val := by omega
  have e4 : R.val % 256 = r.val := by omega
  have z0 : val_main_cst_11 (F := Ideal) ix0 = 0 := Ideal.ofBits_zero_f32
  pointwise [val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65, val_main_v64,
    val_main_v63, val_main_v62, val_main_v61, val_main_v60, val_main_v59, val_main_v58, val_main_v57]
  simp only [e1, e2, e3, e4, z0]

/-! ## The arrays the call is given -/

variable (m : (ℓ : Loc nD τ sig) → Buf (Elt Ideal) ℓ)

abbrev a0 (c : Dev nD) : FVec Ideal S16384x11264 .f32 := m ((c : Thread nD τ).loc main_arg0)
abbrev a1 (c : Dev nD) : FVec Ideal S2x512 .f32 := m ((c : Thread nD τ).loc main_arg1)
abbrev a2 (c : Dev nD) : FVec Ideal S2x512x3072 .f32 := m ((c : Thread nD τ).loc main_arg2)
abbrev a3 (c : Dev nD) : FVec Ideal S2x192 .f32 := m ((c : Thread nD τ).loc main_arg3)

/-- The weights in the padded head layout, as the host code builds them. -/
def padW (x : FVec Ideal S512x16x192 .f32) : FVec Ideal S512x16x256 .f32 :=
  concatenate S512x16x256 2 [⟨S512x16x128, extractStridedSlice S512x16x128 ![0, 0, 0] x slices_S512x16x192_S512x16x128_0_0_0⟩,
    ⟨S512x16x128, concatenate S512x16x128 2 [
      ⟨S512x16x32, extractStridedSlice S512x16x32 ![0, 0, 0] (extractStridedSlice S512x16x64 ![0, 0, 128] x slices_S512x16x192_S512x16x64_0_0_128) slices_S512x16x64_S512x16x32_0_0_0⟩,
      ⟨S512x16x32, broadcastInDim S512x16x32 ![] bcast_S_S512x16x32 (constant S_ .f32 0x00000000#32)⟩,
      ⟨S512x16x32, extractStridedSlice S512x16x32 ![0, 0, 32] (extractStridedSlice S512x16x64 ![0, 0, 128] x slices_S512x16x192_S512x16x64_0_0_128) slices_S512x16x64_S512x16x32_0_0_32⟩,
      ⟨S512x16x32, broadcastInDim S512x16x32 ![] bcast_S_S512x16x32 (constant S_ .f32 0x00000000#32)⟩] concatenates_S512x16x32_S512x16x32_S512x16x32_S512x16x32_S512x16x128_d2⟩]
    concatenates_S512x16x128_S512x16x128_S512x16x256_d2

/-- The head gain in the padded layout, as the host code builds it. -/
def padG (x : FVec Ideal S192 .f32) : FVec Ideal S256 .f32 :=
  concatenate S256 0 [⟨S128, extractStridedSlice S128 ![0] x slices_S192_S128_0⟩,
    ⟨S128, concatenate S128 0 [
      ⟨S32, extractStridedSlice S32 ![0] (extractStridedSlice S64 ![128] x slices_S192_S64_128) slices_S64_S32_0⟩,
      ⟨S32, broadcastInDim S32 ![] bcast_S_S32 (constant S_ .f32 0x00000000#32)⟩,
      ⟨S32, extractStridedSlice S32 ![32] (extractStridedSlice S64 ![128] x slices_S192_S64_128) slices_S64_S32_32⟩,
      ⟨S32, broadcastInDim S32 ![] bcast_S_S32 (constant S_ .f32 0x00000000#32)⟩] concatenates_S32_S32_S32_S32_S128_d0⟩]
    concatenates_S128_S128_S256_d0

theorem padW_at (x : FVec Ideal S512x16x192 .f32) (e : Fin 512) (h : Fin 16) (d : Fin 256) :
    padW x (ix3 e h d) = AttnIdeal.Hand.pad (fun k => x (ix3 e h k)) d := by
  refine Eq.trans ?_ (ladder (fun k => x (ix3 e h k)) d)
  pointwise [padW]

theorem padG_at (x : FVec Ideal S192 .f32) (d : Fin 256) : padG x (ix1 d) = AttnIdeal.Hand.pad (fun k => x (ix1 k)) d := by
  refine Eq.trans ?_ (ladder (fun k => x (ix1 k)) d)
  pointwise [padG]

theorem weights (c : Dev nD) : V m c main_v39
    = (truncf .bf16 (transpose S4096x512 [1, 0] (shapeCast S512x4096 (padW (shapeCast S512x16x192 (shapeCast S512x3072
        (extractStridedSlice S1x512x3072 ![1, 0, 0] (a2 m c) slices_S2x512x3072_S1x512x3072_1_0_0) shapeCasts_S1x512x3072_S512x3072)
        shapeCasts_S512x3072_S512x16x192)) shapeCasts_S512x16x256_S512x4096) transposes_S512x4096_S4096x512_1_0) bitsLt_bf16_f32 : FVec Ideal S4096x512 .bf16) := rfl

theorem gains (c : Dev nD) : V m c main_v51
    = (shapeCast S256x1 (mulf (padG (shapeCast S192 (extractStridedSlice S1x192 ![1, 0] (a3 m c) slices_S2x192_S1x192_1_0) shapeCasts_S1x192_S192))
        (broadcastInDim S256 ![] bcast_S_S256 (constant S_ .f32 0x3DD53B95#32))) shapeCasts_S256_S256x1 : FVec Ideal S256x1 .f32) := rfl

theorem weight_at (c : Dev nD) (h : Fin 16) (r : Fin 256) (e : Fin 512) (R : Fin 4096) (hR : R.val = 256 * h.val + r.val) :
    (V m c main_v39 (ix2 R e) : EReal) = AttnIdeal.Hand.pad (fun d => a2 m c (ix3 1 e ⟨h.val * 192 + d.val, by omega⟩)) r := by
  rw [weights]
  have e2 : ∀ p, (⟨R.val / 256, p⟩ : Fin 16) = h := fun _ => Fin.ext (show R.val / 256 = h.val by omega)
  have e4 : ∀ p, (⟨R.val % 256, p⟩ : Fin 256) = r := fun _ => Fin.ext (show R.val % 256 = r.val by omega)
  generalize a2 m c = x
  pointwise
  simp only [e2, e4]
  rw [padW_at]
  pointwise

theorem gain_at (c : Dev nD) (r : Fin 256) :
    (V m c main_v51 (ix2 r 0) : EReal) = AttnIdeal.Hand.pad (fun d => a3 m c (ix2 1 d)) r * Ideal.ofBits .f32 0x3DD53B95#32 := by
  rw [gains]
  generalize a3 m c = x
  pointwise
  rw [padG_at]
  pointwise

theorem norm_gain_at (c : Dev nD) (e : Fin 512) : (V m c main_v54 (ix2 0 e) : EReal) = a1 m c (ix2 1 e) := by
  show (shapeCast S1x512 (shapeCast S512 (extractStridedSlice S1x512 ![1, 0] (a1 m c) slices_S2x512_S1x512_1_0) shapeCasts_S1x512_S512) shapeCasts_S512_S1x512 : FVec Ideal S1x512 .f32) (ix2 0 e) = _
  generalize a1 m c = x
  pointwise

/-- The table of cosines is the reference's, transposed, without the meta tokens' rows. -/
theorem cos_at (c : Dev nD) (j : Fin 32) (t : Fin 4096) :
    (V m c main_v25 (ix2 j t) : EReal) = val_main_v55 (F := Ideal) (ix2 ⟨16 + t.val, by omega⟩ j) := by
  show (extractStridedSlice S32x4096 ![0, 16] (transpose S32x4112 [1, 0] (val_main_v55 (F := Ideal)) transposes_S4112x32_S32x4112_1_0) slices_S32x4112_S32x4096_0_16 : FVec Ideal S32x4096 .f32) (ix2 j t) = _
  generalize val_main_v55 (F := Ideal) = x
  pointwise

/-- The table of sines, likewise. -/
theorem sin_at (c : Dev nD) (j : Fin 32) (t : Fin 4096) :
    (V m c main_v26 (ix2 j t) : EReal) = val_main_v56 (F := Ideal) (ix2 ⟨16 + t.val, by omega⟩ j) := by
  show (extractStridedSlice S32x4096 ![0, 16] (transpose S32x4112 [1, 0] (val_main_v56 (F := Ideal)) transposes_S4112x32_S32x4112_1_0) slices_S32x4112_S32x4096_0_16 : FVec Ideal S32x4096 .f32) (ix2 j t) = _
  generalize val_main_v56 (F := Ideal) = x
  pointwise

/-! ## The result -/

/-- Where every window stands at a grid point: `t` counts blocks of 1024 tokens, four to a batch row. -/
theorem idx : ∀ t : Fin cfg0.N,
    win0_0.index t = ![t.val, 12] ∧ win0_1.index t = ![0, 0] ∧ win0_2.index t = ![0, 0] ∧ win0_3.index t = ![0, 0]
      ∧ win0_4.index t = ![0, t.val % 4] ∧ win0_5.index t = ![0, t.val % 4] ∧ win0_6.index t = ![0, t.val] :=
  (by decide +kernel : ∀ t : Fin grid0.N, _)

/-- The blocks a grid point reads, in terms of the arguments: `b` the batch row, `q` the token in it. -/
theorem block0 (c : Dev nD) (t : Fin cfg0.N) (y : Fin 1024) (e : Fin 512) (T : Fin 16384) (hT : T.val = 1024 * t.val + y.val) :
    (iblk m c 0 t (ix2 y e) : EReal) = a0 m c (ix2 T ⟨6144 + e.val, by omega⟩) := by
  have ht : t.val < 16 := lt_of_lt_of_eq t.isLt N_0
  blk_ext! [iblk, V, idx t]

theorem block1 (c : Dev nD) (t : Fin cfg0.N) (e : Fin 512) : (iblk m c 1 t (ix2 0 e) : EReal) = a1 m c (ix2 1 e) := by
  have ht : t.val < 16 := lt_of_lt_of_eq t.isLt N_0
  have e : iblk m c 1 t (ix2 0 e) = V m c main_v54 (ix2 0 e) := by blk_ext [iblk, idx t]
  rw [e, norm_gain_at]

theorem block2 (c : Dev nD) (t : Fin cfg0.N) (h : Fin 16) (r : Fin 256) (e : Fin 512) :
    (View.ld (iblk m c 2 t) (Rect.unit (s := S4096x512) ![256 * h.val, 0] S256x512.size (inbW h)) (ix2 r e) : EReal)
      = AttnIdeal.Hand.pad (fun d => a2 m c (ix3 1 e ⟨h.val * 192 + d.val, by omega⟩)) r := by
  have ht : t.val < 16 := lt_of_lt_of_eq t.isLt N_0
  have e1 : iblk m c 2 t (ix2 ⟨256 * h.val + r.val, by omega⟩ e) = V m c main_v39 (ix2 ⟨256 * h.val + r.val, by omega⟩ e) := by
    blk_ext [iblk, idx t]
  refine (View.ld_unit_apply_of _ _ _ _ _ (ix2 (⟨256 * h.val + r.val, by omega⟩ : Fin 4096) e) ?_).trans (e1.trans (weight_at m c h r e _ rfl))
  intro a
  match a with
  | 0 => rfl
  | 1 => exact (Nat.zero_add _).symm

theorem block3 (c : Dev nD) (t : Fin cfg0.N) (r : Fin 256) :
    (iblk m c 3 t (ix2 r 0) : EReal) = AttnIdeal.Hand.pad (fun d => a3 m c (ix2 1 d)) r * Ideal.ofBits .f32 0x3DD53B95#32 := by
  have ht : t.val < 16 := lt_of_lt_of_eq t.isLt N_0
  have e : iblk m c 3 t (ix2 r 0) = V m c main_v51 (ix2 r 0) := by blk_ext [iblk, idx t]
  rw [e, gain_at]

theorem block4 (c : Dev nD) (t : Fin cfg0.N) (j : Fin 32) (y : Fin 1024) (q : Fin 4096) (hq : q.val = 1024 * (t.val % 4) + y.val) :
    (iblk m c 4 t (ix2 j y) : EReal) = val_main_v55 (F := Ideal) (ix2 ⟨16 + q.val, by omega⟩ j) := by
  have ht : t.val < 16 := lt_of_lt_of_eq t.isLt N_0
  have e : iblk m c 4 t (ix2 j y) = V m c main_v25 (ix2 j q) := by blk_ext [iblk, idx t]
  rw [e, cos_at]

theorem block5 (c : Dev nD) (t : Fin cfg0.N) (j : Fin 32) (y : Fin 1024) (q : Fin 4096) (hq : q.val = 1024 * (t.val % 4) + y.val) :
    (iblk m c 5 t (ix2 j y) : EReal) = val_main_v56 (F := Ideal) (ix2 ⟨16 + q.val, by omega⟩ j) := by
  have ht : t.val < 16 := lt_of_lt_of_eq t.isLt N_0
  have e : iblk m c 5 t (ix2 j y) = V m c main_v26 (ix2 j q) := by blk_ext [iblk, idx t]
  rw [e, sin_at]

/-- What a grid point leaves is the reference's at the array index under the block index. -/
theorem point (c : Dev nD) (t : Fin cfg0.N) (y : S4096x1024.Idx) :
    outsAt0 m c t y = val_main_v82 (F := Ideal) (a0 m c) (a1 m c) (a2 m c) (a3 m c) (((cfg0.win 6).blk t).view.emb y) := by
  have ht : t.val < 16 := lt_of_lt_of_eq t.isLt N_0
  obtain ⟨h, hh⟩ : ∃ h : Fin 16, h.val = (y 0).val / 256 := ⟨⟨(y 0).val / 256, by have h : (y 0).val < 4096 := (y 0).isLt; omega⟩, rfl⟩
  obtain ⟨r, hr⟩ : ∃ r : Fin 256, r.val = (y 0).val % 256 := ⟨⟨(y 0).val % 256, by omega⟩, rfl⟩
  obtain ⟨b, hb⟩ : ∃ b : Fin 4, b.val = t.val / 4 := ⟨⟨t.val / 4, by omega⟩, rfl⟩
  have hy1 : (y 1).val < 1024 := (y 1).isLt
  obtain ⟨q, hq⟩ : ∃ q : Fin 4096, q.val = 1024 * (t.val % 4) + (y 1).val := ⟨⟨1024 * (t.val % 4) + (y 1).val, by omega⟩, rfl⟩
  have hY : ((cfg0.win 6).blk t).view.emb y = ix2 (⟨(y 0).val, (y 0).isLt⟩ : Fin 4096) (⟨1024 * t.val + (y 1).val, by omega⟩ : Fin 16384) := by
    blk_ext! [idx t]
  rw [hY, left, ref_at _ _ _ _ b q h r _ _ (by dsimp only; omega) (by dsimp only; omega), out_eq _ _ _ y h r (y 1) (by omega) rfl]
  refine (row_at _ _ _ _ _ (hn := head_at _ _ _ _ _ (fun e => a0 m c (ix2 ⟨b.val * 4096 + q.val, by omega⟩ ⟨6144 + e.val, by omega⟩)) (fun e => a1 m c (ix2 1 e))
    (fun e d => a2 m c (ix3 1 e ⟨h.val * 192 + d.val, by omega⟩)) (fun d => a3 m c (ix2 1 d)) ?_ ?_ ?_ ?_)
    (co := fun j => val_main_v55 (F := Ideal) (ix2 ⟨16 + q.val, by omega⟩ j)) (si := fun j => val_main_v56 (F := Ideal) (ix2 ⟨16 + q.val, by omega⟩ j)) (hC := ?_) (hS := ?_) (r := r)).trans ?_
  · exact fun e => block0 m c t (y 1) e _ (by dsimp only; omega)
  · exact block1 m c t
  · exact block2 m c t h
  · exact block3 m c t
  · exact fun j => block4 m c t j (y 1) q hq
  · exact fun j => block5 m c t j (y 1) q hq
  · congr 1
    funext d
    rw [ref_scaled]
    congr 1
    funext d
    rw [ref_head]

/-- The call's result is the reference's. -/
theorem final (c : Dev nD) : (dats m 0 c).arrAt 6 cfg0.N
    = val_main_v82 (F := Ideal) (a0 m c) (a1 m c) (a2 m c) (a3 m c) := by
  refine (dats m 0 c).arrAt_eq_of_covers 6 _ (by decide +kernel) fun t _ y => ?_
  blk_simp
  rw [after0_6]
  exact point m c t y

end Cert.QueryIdeal.Hand

end
-- ==== Proof.QueryClaim.lean ====
/- The claims about the query projection: the frames of the kernel at both instances and of the reference, the named
   constant, and that the result is the reference's. Hand-written. -/
module

public import proofs.«01_k».proof.Defs
public import proofs.«01_k».proof.Proof.Gen.Query
public import proofs.«01_k».proof.Proof.QueryValue
public import proofs.«01_k».proof.Proof.Gen.QueryRefIdeal.Run
public import Idealize.ShloMosaic.Lib.Claim
public import Idealize.ShloMosaic.Lib.Tactic

@[expose] public section

set_option maxRecDepth 16384

noncomputable section

namespace Cert.Proof

open Idealize.ShloMosaic Idealize.SL.Sem

/-- The query projection over the reals ends with its arguments unchanged and every counter at zero. -/
theorem frame_queryIdeal : Cert.quiescent_QueryIdeal := fun m g _ => Cert.QueryIdeal.Gen.frame m g

/-- On machine words a named constant is the word it names. -/
local instance namedWords : Named Bits where
  named _ _ b := FloatOps.ofBits b

/-- The body tables of the two printings are the same. -/
theorem rows_query : Cert.QueryIdeal.defs₀ (F := Bits) = Cert.Query.defs₀ (F := Bits) := by
  unfold Cert.QueryIdeal.defs₀ Cert.Query.defs₀
  congr 1
  funext a b
  match a, b with
  | 0, (_, _) => rfl

/-- So are the tables with the call's region and pipeline. -/
theorem table_query : Cert.QueryIdeal.defs (F := Bits) = Cert.Query.defs (F := Bits) :=
  congrArg (Pipeline.defs Cert.QueryIdeal.pcfgs) rows_query

/-- So are the two main functions. -/
theorem main_query : Cert.QueryIdeal.main (F := Bits) = Cert.Query.main (F := Bits) := by
  sl_kernel_rfl

/-- The query projection on machine words ends with its arguments unchanged and every counter at zero: it is the same
    text, and the run is over any float values. -/
theorem frame_query : Cert.quiescent_Query := fun m g _ => by
  have h := Cert.QueryIdeal.Gen.frame (F := Bits) m g
  rw [table_query, main_query] at h
  exact h

/-- The reference ends with its arguments unchanged and every counter at zero. -/
theorem frame_queryRef : Cert.quiescent_QueryRefIdeal := by
  intro m g _
  exact (θ_run Cert.QueryRefIdeal.defs _ _).mono
    (fun r h => ⟨fun c => (h c).2, sem_eq_zero_of_no_sems (by decide) r.2⟩)
    (Cert.QueryRefIdeal.Value.run (F := Ideal) m g)

/-- The factor's word is 1/192, rounded. -/
theorem preserves_query : Cert.preserves_Query_QueryIdeal :=
  IdealRules.named_const.statement Cert.QueryIdeal.κ "inv_192" .f32 0x3BAAAAAB#32 ((192⁻¹ : ℝ) : EReal) rfl

/-- The query projection's result equals the reference's over the reals. -/
theorem algebraic_query : Cert.algebraic_QueryIdeal_QueryRefIdeal := by
  pair_intro
  · run_from Cert.QueryIdeal.Gen.run_main m g
  · run_from Cert.QueryRefIdeal.Value.run m' g'
    rw [Cert.QueryRefIdeal.Read.val_main_v82_eq]
    simp only [hagree c]
    exact (Cert.QueryIdeal.Hand.final m c).symm

end Cert.Proof

end
-- ==== Proof.KeyValOut.lean ====
/- The blocks the key/value projection stores at a grid point: sixteen heads of keys, two stores each, and the values'
   rows with the rows of ones written over them. Hand-written. -/
module

public import proofs.«01_k».proof.Proof.Gen.KeyValIdeal.Frame
public import Idealize.ShloMosaic.Lib.Pipeline.ValueKit
public import Idealize.ShloMosaic.Lib.Pipeline.CanonAppend
public import Idealize.ShloMosaic.Lib.Pointwise
public import Idealize.ShloMosaic.Lib.Pipeline.ReadBack

@[expose] public section

set_option maxRecDepth 16384

noncomputable section

namespace Cert.KeyValIdeal.Hand

open Cert.KeyValIdeal Cert.KeyValIdeal.Gen Idealize.ShloMosaic Idealize.ShloMosaic.TcCoe Idealize.SL.Sem
open Idealize.ShloMosaic.Pipeline (Dat)

/-! ## The keys -/

/-- The factor of a head's norm: `Y` holds two heads' entries without rotation, `s` says which, `Q` the sum of the
    squares of the rotated part. -/
def factor (Y : FVec Ideal S1024x256 .f32) (Q : FVec Ideal S1024x1 .f32) (s : Fin 2) (y : Fin 1024) : EReal :=
  Ideal.rsqrt ((∑ k : Fin 128, Y (ix2 y ⟨128 * s.val + k.val, by omega⟩) * Y (ix2 y ⟨128 * s.val + k.val, by omega⟩) + Q (ix2 y 0))
    * Named.named (F := Ideal) κ "inv_192" (φ := .f32) 0x3BAAAAAB#32 + Ideal.ofBits .f32 0x358637BD#32)

/-- A head's column `r` as it is stored. -/
def outCol (Y : FVec Ideal S1024x256 .f32) (G : FVec Ideal S1x256 .f32) (Q : FVec Ideal S1024x1 .f32) (R : FVec Ideal S1024x128 .f32)
    (s : Fin 2) (r : Fin 256) (y : Fin 1024) : EReal :=
  if h : r.val < 128 then Y (ix2 y ⟨128 * s.val + r.val, by omega⟩) * factor Y Q s y * G (ix2 0 r)
  else R (ix2 y ⟨r.val - 128, by omega⟩) * factor Y Q s y

/-- The whole block of keys: column `512 n + 256 s + r` is column `r` of head `2 n + s`. -/
def keys (Y : Fin 8 → FVec Ideal S1024x256 .f32) (G : FVec Ideal S1x256 .f32) (Q : FVec Ideal S1024x1 .f32) (R : FVec Ideal S1024x128 .f32)
    (y : S1024x4096.Idx) : EReal :=
  outCol (Y ⟨(y 1).val / 512, by have h : (y 1).val < 4096 := (y 1).isLt; omega⟩) G Q R ⟨(y 1).val / 256 % 2, Nat.mod_lt _ (by decide)⟩
    ⟨(y 1).val % 256, Nat.mod_lt _ (by decide)⟩ (y 0)

theorem keys_eq (Y : Fin 8 → FVec Ideal S1024x256 .f32) (G : FVec Ideal S1x256 .f32) (Q : FVec Ideal S1024x1 .f32) (R : FVec Ideal S1024x128 .f32)
    (y : S1024x4096.Idx) (n : Fin 8) (s : Fin 2) (r : Fin 256) (x : Fin 1024) (hy : (y 1).val = 512 * n.val + 256 * s.val + r.val)
    (hx : (y 0).val = x.val) : keys Y G Q R y = outCol (Y n) G Q R s r x := by
  have e1 : ∀ p, (⟨(y 1).val / 512, p⟩ : Fin 8) = n := fun _ => Fin.ext (show (y 1).val / 512 = n.val by omega)
  have e2 : ∀ p, (⟨(y 1).val / 256 % 2, p⟩ : Fin 2) = s := fun _ => Fin.ext (show (y 1).val / 256 % 2 = s.val by omega)
  have e3 : ∀ p, (⟨(y 1).val % 256, p⟩ : Fin 256) = r := fun _ => Fin.ext (show (y 1).val % 256 = r.val by omega)
  have e4 : (y 0 : Fin 1024) = x := Fin.ext hx
  unfold keys
  rw [e1, e2, e3, e4]

/-- The bounds of a store of 128 columns from column `off`. -/
theorem inb (off : ℕ) (h : off + 128 ≤ 4096) : ∀ a, (![0, off] : Fin 2 → ℕ) a + (![1024, 128] : Fin 2 → ℕ) a ≤ S1024x4096.size a := by
  intro a
  match a with
  | 0 => exact le_refl _
  | 1 => exact h

/-- Two heads' entries without rotation: the first head's. -/
abbrev first (Y : FVec Ideal S1024x256 .f32) : FVec Ideal S1024x128 .f32 := extractStridedSlice S1024x128 ![0, 0] Y slices_S1024x256_o0_0_S1024x128

/-- The stores of the first `n` pairs of heads, the last first. -/
def pieces (Y : Fin 8 → FVec Ideal S1024x256 .f32) (G : FVec Ideal S1x256 .f32) (Q : FVec Ideal S1024x1 .f32) (R : FVec Ideal S1024x128 .f32) :
    (n : ℕ) → n ≤ 8 → List (View.Piece (Elt Ideal) S1024x4096 .bf16)
  | 0, _ => []
  | n + 1, h =>
    ⟨Rect.unit ![0, 512 * n + 384] ![1024, 128] (inb _ (by omega)), k0_pay15 (F := Ideal) Q R (Y ⟨n, h⟩)⟩
      :: ⟨Rect.unit ![0, 512 * n + 256] ![1024, 128] (inb _ (by omega)), k0_pay14 (F := Ideal) G Q (Y ⟨n, h⟩)⟩
      :: ⟨Rect.unit ![0, 512 * n + 128] ![1024, 128] (inb _ (by omega)),
          k0_pay11 (F := Ideal) Q R (mulf (first (Y ⟨n, h⟩)) (first (Y ⟨n, h⟩)))⟩
      :: ⟨Rect.unit ![0, 512 * n] ![1024, 128] (inb _ (by omega)),
          k0_pay10 (F := Ideal) G Q (first (Y ⟨n, h⟩)) (mulf (first (Y ⟨n, h⟩)) (first (Y ⟨n, h⟩)))⟩
      :: pieces Y G Q R n (by omega)

/-- Every store holds the block's entries. -/
theorem pieces_at (Y : Fin 8 → FVec Ideal S1024x256 .f32) (G : FVec Ideal S1x256 .f32) (Q : FVec Ideal S1024x1 .f32) (R : FVec Ideal S1024x128 .f32)
    (y : S1024x4096.Idx) : ∀ (n : ℕ) (h : n ≤ 8), View.AllAt (pieces Y G Q R n h) y (keys Y G Q R y)
  | 0, _ => View.allAt_nil _ _
  | n + 1, h => by
    unfold pieces
    refine View.allAt_cons_unit _ _ _ _ _ ?_ (View.allAt_cons_unit _ _ _ _ _ ?_ (View.allAt_cons_unit _ _ _ _ _ ?_
      (View.allAt_cons_unit _ _ _ _ _ ?_ (pieces_at Y G Q R y n (by omega)))))
    · tile_intro x q
      rw [keys_eq Y G Q R y ⟨n, h⟩ 1 ⟨128 + (x 1).val, by omega⟩ (x 0) (by show _ = 512 * n + 256 * 1 + (128 + (x 1).val); omega) (by omega)]
      generalize Y ⟨n, h⟩ = M
      unfold outCol
      rw [dif_neg (by dsimp only; omega)]
      have e2 : ∀ p, (⟨128 + (x 1).val - 128, p⟩ : Fin 128) = x 1 := fun _ => Fin.ext (by dsimp only; omega)
      rw [e2]
      pointwise [k0_pay15, k0_pay13, k0_pay12]
      rfl
    · tile_intro x q
      rw [keys_eq Y G Q R y ⟨n, h⟩ 1 ⟨(x 1).val, by omega⟩ (x 0) (by show _ = 512 * n + 256 * 1 + (x 1).val; omega) (by omega)]
      generalize Y ⟨n, h⟩ = M
      unfold outCol
      rw [dif_pos (by dsimp only; omega)]
      pointwise [k0_pay14, k0_pay13, k0_pay12]
      rfl
    · tile_intro x q
      rw [keys_eq Y G Q R y ⟨n, h⟩ 0 ⟨128 + (x 1).val, by omega⟩ (x 0) (by show _ = 512 * n + 256 * 0 + (128 + (x 1).val); omega) (by omega)]
      generalize Y ⟨n, h⟩ = M
      unfold outCol
      rw [dif_neg (by dsimp only; omega)]
      have e2 : ∀ p, (⟨128 + (x 1).val - 128, p⟩ : Fin 128) = x 1 := fun _ => Fin.ext (by dsimp only; omega)
      rw [e2]
      pointwise [k0_pay11, k0_pay9]
      rfl
    · tile_intro x q
      rw [keys_eq Y G Q R y ⟨n, h⟩ 0 ⟨(x 1).val, by omega⟩ (x 0) (by show _ = 512 * n + 256 * 0 + (x 1).val; omega) (by omega)]
      generalize Y ⟨n, h⟩ = M
      unfold outCol
      rw [dif_pos (by dsimp only; omega)]
      pointwise [k0_pay10, k0_pay9]
      rfl

/-! ## The values -/

/-- The bounds of a store of `k` rows from row `off`. -/
theorem inbV (off k : ℕ) (h : off + k ≤ 2304) : ∀ a, (![off, 0] : Fin 2 → ℕ) a + (![k, 1024] : Fin 2 → ℕ) a ≤ S2304x1024.size a := by
  intro a
  match a with
  | 0 => exact h
  | 1 => exact le_refl _

/-- The stores of ones under the first `n` heads' values, the last first. -/
def ones : (n : ℕ) → n ≤ 16 → List (View.Piece (Elt Ideal) S2304x1024 .bf16)
  | 0, _ => []
  | n + 1, h => ⟨Rect.unit ![144 * n + 128, 0] ![16, 1024] (inbV _ _ (by omega)), k0_pay87 (F := Ideal)⟩ :: ones n (by omega)

/-- The stores of the products, each four heads' rows, the last first. -/
def dots (X : FVec Ideal S1024x512 .bf16) (W : Fin 4 → Vec Ideal S576x512 .bf16) :
    (n : ℕ) → n ≤ 4 → List (View.Piece (Elt Ideal) S2304x1024 .bf16)
  | 0, _ => []
  | n + 1, h => ⟨Rect.unit ![576 * n, 0] ![576, 1024] (inbV _ _ (by omega)), k0_pay83 (F := Ideal) X (W ⟨n, h⟩)⟩ :: dots X W n (by omega)

/-- A row of the products. -/
def product (X : FVec Ideal S1024x512 .bf16) (W : Fin 4 → Vec Ideal S576x512 .bf16) (y : S2304x1024.Idx) : EReal :=
  ∑ e : Fin 512, (W ⟨(y 0).val / 576, by have h : (y 0).val < 2304 := (y 0).isLt; omega⟩ (ix2 ⟨(y 0).val % 576, Nat.mod_lt _ (by decide)⟩ e) : EReal) * X (ix2 (y 1) e)

theorem dots_at (X : FVec Ideal S1024x512 .bf16) (W : Fin 4 → Vec Ideal S576x512 .bf16) (y : S2304x1024.Idx) :
    ∀ (n : ℕ) (h : n ≤ 4), View.AllAt (dots X W n h) y (product X W y)
  | 0, _ => View.allAt_nil _ _
  | n + 1, h => by
    unfold dots
    refine View.allAt_cons_unit _ _ _ _ _ ?_ (dots_at X W y n (by omega))
    tile_intro x q
    have e1 : ∀ p, (⟨(y 0).val / 576, p⟩ : Fin 4) = ⟨n, h⟩ := fun _ => Fin.ext (by dsimp only; omega)
    have e2 : ∀ p, (⟨(y 0).val % 576, p⟩ : Fin 576) = x 0 := fun _ => Fin.ext (by dsimp only; omega)
    have e3 : (y 1 : Fin 1024) = x 1 := Fin.ext (by omega)
    unfold product
    rw [e1, e2, e3]
    generalize W ⟨n, h⟩ = M
    pointwise [k0_pay83]

/-- On a row of values no store of ones meets the index. -/
theorem ones_off (y : S2304x1024.Idx) (v : EReal) (hy : (y 0).val % 144 < 128) : ∀ (n : ℕ) (h : n ≤ 16), View.AllAt (ones n h) y v
  | 0, _ => View.allAt_nil _ _
  | n + 1, h => by
    unfold ones
    refine View.allAt_cons_unit _ _ _ _ _ ?_ (ones_off y v hy n (by omega))
    tile_intro x q
    exfalso
    omega

/-- After a store of a constant the array holds the constant wherever it does so without that store. -/
theorem canon_const {s : Shape} {e : EltTy} (r : Rect s) (w : r.shape.Idx → Elt Ideal e) (L : List (View.Piece (Elt Ideal) s e)) (y : s.Idx)
    (v : Elt Ideal e) (hw : ∀ x, w x = v) (h : y ∉ r.set → View.canon L y = v) : View.canon (⟨r, w⟩ :: L) y = v := by
  by_cases hm : y ∈ r.set
  · obtain ⟨x, rfl⟩ := r.exists_idx_of_mem hm
    exact (View.canon_cons_emb r w L x).trans (hw x)
  · exact (View.canon_cons_of_not_mem ⟨r, w⟩ L hm).trans (h hm)

/-- On a row of ones the stores of ones, made last, leave 1. -/
theorem ones_on (L : List (View.Piece (Elt Ideal) S2304x1024 .bf16)) (y : S2304x1024.Idx) (hy : 128 ≤ (y 0).val % 144) :
    ∀ (n : ℕ) (h : n ≤ 16), (y 0).val < 144 * n → View.canon (ones n h ++ L) y = (Ideal.ofBits .bf16 0x3F80#16 : EReal)
  | 0, _, hn => by omega
  | n + 1, h, hn => by
    unfold ones
    rw [List.cons_append]
    refine canon_const _ _ _ y _ (fun x => rfl) fun hm => ?_
    · refine ones_on L y hy n (by omega) ?_
      by_contra hc
      refine hm (Rect.mem_set_unit.mpr fun a => ?_)
      match a with
      | 0 => exact ⟨by show 144 * n + 128 ≤ (y 0).val; omega, by show (y 0).val < 144 * n + 128 + 16; omega⟩
      | 1 => exact ⟨Nat.zero_le _, by have h1 : (y 1).val < 1024 := (y 1).isLt; show (y 1).val < 0 + 1024; omega⟩

/-! ## The run -/

/-- Two heads' columns of the key weights are in bounds. -/
theorem inbK (n : Fin 8) : ∀ a, (![0, 256 * n.val] : Fin 2 → ℕ) a + S512x256.size a ≤ S512x2048.size a := by
  intro a
  match a with
  | 0 => exact le_refl _
  | 1 => show 256 * n.val + 256 ≤ 2048; omega

/-- Four heads' rows of the value weights are in bounds. -/
theorem inbW (n : Fin 4) : ∀ a, (![576 * n.val, 0] : Fin 2 → ℕ) a + S576x512.size a ≤ S2304x512.size a := by
  intro a
  match a with
  | 0 => show 576 * n.val + 576 ≤ 2304; omega
  | 1 => exact le_refl _

variable (m : (ℓ : Loc nD τ sig) → Buf (Elt Ideal) ℓ)

/-- The run's stores of keys are these. -/
theorem run_keys (c : Dev nD) (i : grid0.Coords) (arg1 : Memref sig .tc .vmem S1024x512 .f32) (harg1 : arg1.IsWhole) (arg2 : Memref sig .tc .vmem S1024x128 .f32) (harg2 : arg2.IsWhole) (arg3 : Memref sig .tc .vmem S1x512 .f32) (harg3 : arg3.IsWhole) (arg4 : Memref sig .tc .vmem S512x2048 .bf16) (harg4 : arg4.IsWhole) (arg5 : Memref sig .tc .vmem S2304x512 .bf16) (harg5 : arg5.IsWhole) (arg6 : Memref sig .tc .vmem S1x256 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x4096 .bf16) (harg9 : arg9.IsWhole) (arg10 : Memref sig .tc .vmem S2304x1024 .bf16) (harg10 : arg10.IsWhole)
    (x0 : Vec Ideal S1024x512 .f32) (x1 : Vec Ideal S1024x128 .f32) (x2 : Vec Ideal S1x512 .f32) (x3 : Vec Ideal S512x2048 .bf16) (x4 : Vec Ideal S2304x512 .bf16) (x5 : Vec Ideal S1x256 .f32) (x6 : Vec Ideal S1024x128 .f32) (x7 : Vec Ideal S1024x128 .f32) :
    (kernelRun0_A c i arg1 harg1 arg2 harg2 arg3 harg3 arg4 harg4 arg5 harg5 arg6 harg6 arg7 harg7 arg8 harg8 arg9 harg9 arg10 harg10 x0 x1 x2 x3 x4 x5 x6 x7).1
      = pieces (fun n => k0_pay6
          (View.readAt (Elt Ideal) arg1.view (Rect.unit ![0, 0] S1024x512.size inb_S1024x512_S1024x512_0_0).toLoadRect (harg1.unread x0))
          (View.readAt (Elt Ideal) arg3.view (Rect.unit ![0, 0] S1x512.size inb_S1x512_S1x512_0_0).toLoadRect (harg3.unread x2))
          (View.readAt (Elt Ideal) arg4.view (Rect.unit (s := S512x2048) ![0, 256 * n.val] S512x256.size (inbK n)).toLoadRect (harg4.unread x3)))
        (k0_pay2 (View.readAt (Elt Ideal) arg6.view (Rect.unit ![0, 0] S1x256.size inb_S1x256_S1x256_0_0).toLoadRect (harg6.unread x5)))
        (k0_pay4 (View.readAt (Elt Ideal) arg2.view (Rect.unit ![0, 0] S1024x128.size inb_S1024x128_S1024x128_0_0).toLoadRect (harg2.unread x1)))
        (k0_pay5 (View.readAt (Elt Ideal) arg7.view (Rect.unit ![0, 0] S1024x128.size inb_S1024x128_S1024x128_0_0).toLoadRect (harg7.unread x6))
          (View.readAt (Elt Ideal) arg8.view (Rect.unit ![0, 0] S1024x128.size inb_S1024x128_S1024x128_0_0).toLoadRect (harg8.unread x7))
          (View.readAt (Elt Ideal) arg6.view (Rect.unit ![0, 0] S1x256.size inb_S1x256_S1x256_0_0).toLoadRect (harg6.unread x5))
          (View.readAt (Elt Ideal) arg2.view (Rect.unit ![0, 0] S1024x128.size inb_S1024x128_S1024x128_0_0).toLoadRect (harg2.unread x1)))
        8 (le_refl _) := by
  sl_kernel_rfl

/-- The run's stores of values are these. -/
theorem run_values (c : Dev nD) (i : grid0.Coords) (arg1 : Memref sig .tc .vmem S1024x512 .f32) (harg1 : arg1.IsWhole) (arg2 : Memref sig .tc .vmem S1024x128 .f32) (harg2 : arg2.IsWhole) (arg3 : Memref sig .tc .vmem S1x512 .f32) (harg3 : arg3.IsWhole) (arg4 : Memref sig .tc .vmem S512x2048 .bf16) (harg4 : arg4.IsWhole) (arg5 : Memref sig .tc .vmem S2304x512 .bf16) (harg5 : arg5.IsWhole) (arg6 : Memref sig .tc .vmem S1x256 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x4096 .bf16) (harg9 : arg9.IsWhole) (arg10 : Memref sig .tc .vmem S2304x1024 .bf16) (harg10 : arg10.IsWhole)
    (x0 : Vec Ideal S1024x512 .f32) (x1 : Vec Ideal S1024x128 .f32) (x2 : Vec Ideal S1x512 .f32) (x3 : Vec Ideal S512x2048 .bf16) (x4 : Vec Ideal S2304x512 .bf16) (x5 : Vec Ideal S1x256 .f32) (x6 : Vec Ideal S1024x128 .f32) (x7 : Vec Ideal S1024x128 .f32) :
    (kernelRun0_A c i arg1 harg1 arg2 harg2 arg3 harg3 arg4 harg4 arg5 harg5 arg6 harg6 arg7 harg7 arg8 harg8 arg9 harg9 arg10 harg10 x0 x1 x2 x3 x4 x5 x6 x7).2.1
      = ones 16 (le_refl _) ++ dots (k0_pay1
          (View.readAt (Elt Ideal) arg1.view (Rect.unit ![0, 0] S1024x512.size inb_S1024x512_S1024x512_0_0).toLoadRect (harg1.unread x0))
          (View.readAt (Elt Ideal) arg3.view (Rect.unit ![0, 0] S1x512.size inb_S1x512_S1x512_0_0).toLoadRect (harg3.unread x2)))
        (fun n => View.readAt (Elt Ideal) arg5.view (Rect.unit (s := S2304x512) ![576 * n.val, 0] S576x512.size (inbW n)).toLoadRect (harg5.unread x4))
        4 (le_refl _) := by
  sl_kernel_rfl

/-- The keys the body leaves after a grid point. -/
theorem left_keys (c : Dev nD) (t : Fin cfg0.N) (y : S1024x4096.Idx) :
    (outsAt0 m c t).1 y = keys (fun n => k0_pay6 (iblk m c 0 t) (iblk m c 2 t)
        (View.ld (iblk m c 3 t) (Rect.unit (s := S512x2048) ![0, 256 * n.val] S512x256.size (inbK n))))
      (iblk m c 5 t) (k0_pay4 (iblk m c 1 t)) (k0_pay5 (iblk m c 6 t) (iblk m c 7 t) (iblk m c 5 t) (iblk m c 1 t)) y := by
  unfold outsAt0
  dsimp only
  unfold out0_A_8
  rw [View.read_writes_junk_eq_canon]
  refine View.canon_eq_of_allAt _ y _ (cover0_A_8 ..) ?_
  rw [run_keys]
  have h2 : ∀ G : Vec Ideal S1x256 .f32, k0_pay2 (F := Ideal) G = G := fun G => by
    unfold k0_pay2; exact shapeCast_self _ _
  simp (disch := decide) only [View.ld_unit_lit', View.readAt_eq_ld, h2, Memref.IsWhole.read_unread]
  exact pieces_at _ _ _ _ y 8 _

/-- The values the body leaves after a grid point: the products, and ones under every head. -/
theorem left_values (c : Dev nD) (t : Fin cfg0.N) (y : S2304x1024.Idx) :
    (outsAt0 m c t).2 y = if (y 0).val % 144 < 128 then product (k0_pay1 (iblk m c 0 t) (iblk m c 2 t))
        (fun n => View.ld (iblk m c 4 t) (Rect.unit (s := S2304x512) ![576 * n.val, 0] S576x512.size (inbW n))) y
      else Ideal.ofBits .bf16 0x3F80#16 := by
  unfold outsAt0
  dsimp only
  unfold out0_A_9
  rw [View.read_writes_junk_eq_canon]
  by_cases hy : (y 0).val % 144 < 128
  · rw [if_pos hy]
    refine View.canon_eq_of_allAt _ y _ (cover0_A_9 ..) ?_
    rw [run_values]
    simp (disch := decide) only [View.ld_unit_lit', View.readAt_eq_ld, Memref.IsWhole.read_unread]
    intro p hp
    rcases List.mem_append.mp hp with hp | hp
    · exact ones_off y _ hy 16 _ p hp
    · exact dots_at _ _ y 4 _ p hp
  · rw [if_neg hy, run_values]
    exact ones_on _ y (by omega) 16 _ (y 0).isLt

end Cert.KeyValIdeal.Hand

end
-- ==== Proof.KeyValRow.lean ====
/- What the key/value projection computes of a token's head, and what its reference does, in terms of the arguments.
   Hand-written. -/
module

public import proofs.«01_k».proof.Proof.KeyValOut
public import proofs.«01_k».proof.Proof.AttnHost
public import proofs.«01_k».proof.Proof.Gen.KeyValRefIdeal.Read
public import Idealize.ShloMosaic.Lib.Pipeline.ValueKit
public import Idealize.ShloMosaic.Lib.KernelVsHost
public import Idealize.ShloMosaic.Lib.Pointwise

@[expose] public section

set_option maxRecDepth 16384

noncomputable section

namespace Cert.KeyValIdeal.Hand

open Cert.KeyValIdeal Cert.KeyValIdeal.Gen Idealize.ShloMosaic Idealize.ShloMosaic.TcCoe Idealize.SL.Sem
open Cert.KeyValRefIdeal.Read
open Cert.AttnIdeal.Hand (pad_sum)

/-! ## A head's row -/

/-- A token's key/value columns, normed. -/
def normed (z g : Fin 512 → EReal) (e : Fin 512) : EReal :=
  z e * Ideal.rsqrt (Ideal.div (∑ k, z k * z k) (Ideal.ofBits .f32 0x44000000#32) + Ideal.ofBits .f32 0x358637BD#32) * g e

/-- The factor of a head's norm. -/
def rs (f : Fin 192 → EReal) : EReal :=
  Ideal.rsqrt (Ideal.div (∑ k, f k * f k) (Ideal.ofBits .f32 0x43400000#32) + Ideal.ofBits .f32 0x358637BD#32)

/-- A head's 192 entries, normed. -/
def normedKey (f g : Fin 192 → EReal) (d : Fin 192) : EReal := f d * rs f * g d

/-- A head's 192 entries: 128 of its own, and 64 the heads share. -/
def joined (a : Fin 128 → EReal) (p : Fin 64 → EReal) (d : Fin 192) : EReal :=
  if h : d.val < 128 then a ⟨d.val, h⟩ else p ⟨d.val - 128, by omega⟩

/-- A head's 256 columns of the result: the first 128 entries, the two halves of the last 64 rotated, each with 32 zeros. -/
def rotated (n : Fin 192 → EReal) (co si : Fin 32 → EReal) (r : Fin 256) : EReal :=
  if h1 : r.val < 128 then n ⟨r.val, by omega⟩
  else if h2 : r.val < 160 then
    n ⟨r.val, by omega⟩ * co ⟨r.val - 128, by omega⟩ - n ⟨r.val + 32, by omega⟩ * si ⟨r.val - 128, by omega⟩
  else if h3 : r.val < 192 then 0
  else if h4 : r.val < 224 then
    n ⟨r.val - 32, by omega⟩ * co ⟨r.val - 192, by omega⟩ + n ⟨r.val - 64, by omega⟩ * si ⟨r.val - 192, by omega⟩
  else 0

/-- The kernel's factor is the division by 192. -/
theorem by_192 (x : EReal) : x * Named.named (F := Ideal) κ "inv_192" (φ := .f32) 0x3BAAAAAB#32 = Ideal.div x (Ideal.ofBits .f32 0x43400000#32) := by
  have h : Ideal.ofBits .f32 0x43400000#32 = ((192 : ℝ) : EReal) := by
    simp [Ideal.ofBits, Ideal.ieee, -EReal.coe_mul]; norm_num
  rw [h, Ideal.div_coe (by norm_num)]
  show x * ((192⁻¹ : ℝ) : EReal) = _
  rw [one_div]

/-- A square is not negative. -/
theorem sq_nonneg (x : EReal) : 0 ≤ x * x := by
  rcases le_total 0 x with h | h
  · exact mul_nonneg h h
  · have h1 : 0 ≤ -x := by simpa using EReal.neg_le_neg_iff.mpr h
    have h2 := mul_nonneg h1 h1
    rwa [EReal.neg_mul, mul_neg, neg_neg] at h2

/-- The factor of a norm lies between 0 and a real number: its argument is positive. -/
theorem rs_bounds (f : Fin 192 → EReal) : 0 ≤ rs f ∧ rs f ≠ ⊤ := by
  have hS : 0 ≤ ∑ k, f k * f k := Finset.sum_nonneg fun k _ => sq_nonneg _
  have h : Ideal.ofBits .f32 0x43400000#32 = ((192 : ℝ) : EReal) := by
    simp [Ideal.ofBits, Ideal.ieee, -EReal.coe_mul]; norm_num
  have hD : 0 ≤ Ideal.div (∑ k, f k * f k) (Ideal.ofBits .f32 0x43400000#32) := by
    rw [h, Ideal.div_coe (by norm_num)]
    exact mul_nonneg hS (EReal.coe_nonneg.mpr (by norm_num))
  have he : ∃ e : ℝ, 0 < e ∧ Ideal.ofBits .f32 0x358637BD#32 = (e : EReal) := by
    refine ⟨(8796093 : ℝ) * 2 ^ (-43 : ℤ), by norm_num, ?_⟩
    simp [Ideal.ofBits, Ideal.ieee, -EReal.coe_mul]
    try norm_num
  obtain ⟨e, he0, he⟩ := he
  unfold rs
  rw [he]
  generalize Ideal.div (∑ k, f k * f k) (Ideal.ofBits .f32 0x43400000#32) = D at hD
  induction D with
  | bot => exact absurd hD (by simp)
  | top => rw [EReal.top_add_coe, Ideal.rsqrt_top]; simp
  | coe r =>
    have hr : 0 ≤ r := EReal.coe_nonneg.mp hD
    rw [← EReal.coe_add, Ideal.rsqrt_coe, if_neg (by linarith), if_neg (by linarith)]
    exact ⟨EReal.coe_nonneg.mpr (inv_nonneg.mpr (Real.sqrt_nonneg _)), EReal.coe_ne_top _⟩

/-- The sum of the squares in two parts is the sum over the head. -/
theorem sum_parts (f : Fin 192 → EReal) (a : Fin 128 → EReal) (b : Fin 128 → EReal)
    (ha : ∀ k, a k = AttnIdeal.Hand.pad f ⟨k.val, by omega⟩) (hb : ∀ k, b k = AttnIdeal.Hand.pad f ⟨128 + k.val, by omega⟩) :
    (∑ k, a k * a k) + ∑ k, b k * b k = ∑ k, f k * f k := by
  rw [← pad_sum f f, Fin.sum_univ_add (a := 128) (b := 128) (fun d : Fin (128 + 128) => AttnIdeal.Hand.pad f d * AttnIdeal.Hand.pad f d)]
  exact congrArg₂ (· + ·) (Finset.sum_congr rfl fun k _ => by rw [ha]; rfl) (Finset.sum_congr rfl fun k _ => by rw [hb]; rfl)

/-- The table of cosines in the layout of the rotated part. -/
def cosRow (co : Fin 32 → EReal) (j : Fin 128) : EReal :=
  if h : j.val < 32 then co ⟨j.val, h⟩ else if h : j.val < 64 then 0 else if h : j.val < 96 then co ⟨j.val - 64, by omega⟩ else 0

/-- The table of sines in the layout of the rotated part, the first half negated. -/
def sinRow (si : Fin 32 → EReal) (j : Fin 128) : EReal :=
  if h : j.val < 32 then -si ⟨j.val, h⟩ else if h : j.val < 64 then 0 else if h : j.val < 96 then si ⟨j.val - 64, by omega⟩ else 0

/-- The rotated part: each column with its partner 64 columns away. -/
def turned (f g : Fin 192 → EReal) (co si : Fin 32 → EReal) (j : Fin 128) : EReal :=
  AttnIdeal.Hand.pad f ⟨128 + j.val, by omega⟩ * AttnIdeal.Hand.pad g ⟨128 + j.val, by omega⟩ * cosRow co j
    + AttnIdeal.Hand.pad f ⟨128 + (j.val + 64) % 128, by omega⟩ * AttnIdeal.Hand.pad g ⟨128 + (j.val + 64) % 128, by omega⟩ * sinRow si j

/-- The norm's factor goes inside the rotation, as it is a real number and not negative. -/
theorem turned_mul (f g : Fin 192 → EReal) (co si : Fin 32 → EReal) (r : Fin 256) (hr : 128 ≤ r.val) :
    turned f g co si ⟨r.val - 128, by omega⟩ * rs f = rotated (normedKey f g) co si r := by
  obtain ⟨h0, h1⟩ := rs_bounds f
  unfold turned rotated normedKey
  generalize rs f = ρ at h0 h1
  rw [EReal.right_distrib_of_nonneg_of_ne_top h0 h1, dif_neg (by omega)]
  unfold cosRow sinRow AttnIdeal.Hand.pad
  dsimp only
  by_cases h2 : r.val < 160
  · have e1 : ∀ p, (⟨128 + (r.val - 128), p⟩ : Fin 192) = ⟨r.val, by omega⟩ := fun _ => Fin.ext (by dsimp only; omega)
    have e2 : ∀ p, (⟨128 + (r.val - 128 + 64) % 128 - 32, p⟩ : Fin 192) = ⟨r.val + 32, by omega⟩ := fun _ => Fin.ext (by dsimp only; omega)
    rw [dif_pos h2, dif_pos (by omega), dif_pos (by omega), dif_pos (by omega), dif_neg (by omega), if_neg (by omega), dif_pos (by omega),
      dif_neg (by omega), if_neg (by omega), dif_pos (by omega), dif_pos (by omega), e1, e2, mul_neg, EReal.neg_mul, ← sub_eq_add_neg]
    congr 1 <;> ac_rfl
  by_cases h3 : r.val < 192
  · have c1 : ¬ r.val - 128 < 32 := by omega
    have c2 : r.val - 128 < 64 := by omega
    simp only [h2, h3, c1, c2, dif_pos, dif_neg, not_false_eq_true, mul_zero, zero_mul, add_zero]
  by_cases h4 : r.val < 224
  · have e1 : ∀ p, (⟨128 + (r.val - 128) - 32, p⟩ : Fin 192) = ⟨r.val - 32, by omega⟩ := fun _ => Fin.ext (by dsimp only; omega)
    have e2 : ∀ p, (⟨128 + (r.val - 128 + 64) % 128, p⟩ : Fin 192) = ⟨r.val - 64, by omega⟩ := fun _ => Fin.ext (by dsimp only; omega)
    have e3 : ∀ p, (⟨r.val - 128 - 64, p⟩ : Fin 32) = ⟨r.val - 192, by omega⟩ := fun _ => Fin.ext (by dsimp only; omega)
    have c1 : ¬ r.val - 128 < 32 := by omega
    have c2 : ¬ r.val - 128 < 64 := by omega
    have c3 : r.val - 128 < 96 := by omega
    have c4 : ¬ 128 + (r.val - 128) < 160 := by omega
    have c5 : ¬ 128 + (r.val - 128) < 192 := by omega
    have c6 : 128 + (r.val - 128) < 224 := by omega
    have c7 : 128 + (r.val - 128 + 64) % 128 < 160 := by omega
    simp only [h2, h3, h4, c1, c2, c3, c4, c5, c6, c7, dif_pos, dif_neg, not_false_eq_true, if_false, e1, e2, e3]
    congr 1 <;> ac_rfl
  · have c1 : ¬ r.val - 128 < 32 := by omega
    have c2 : ¬ r.val - 128 < 64 := by omega
    have c3 : ¬ r.val - 128 < 96 := by omega
    simp only [h2, h3, h4, c1, c2, c3, dif_neg, not_false_eq_true, mul_zero, zero_mul, add_zero]

/-- What the kernel computes of the part with rotation. -/
theorem turned_at (C S P : Vec Ideal S1024x128 .f32) (G : Vec Ideal S1x256 .f32) (y : Fin 1024) (f g : Fin 192 → EReal) (co si : Fin 32 → EReal)
    (hP : ∀ j : Fin 128, P (ix2 y j) = AttnIdeal.Hand.pad f ⟨128 + j.val, by omega⟩) (hG : ∀ r, G (ix2 0 r) = AttnIdeal.Hand.pad g r)
    (hC : ∀ j, C (ix2 y j) = cosRow co j) (hS : ∀ j, S (ix2 y j) = sinRow si j) (j : Fin 128) :
    k0_pay5 (F := Ideal) C S G P (ix2 y j) = turned f g co si j := by
  have hk : ∀ M : FVec Ideal S1024x128 .f32, dynamicRotate 1 64#32 none M rotates_S1024x128_d1 (ix2 y j) = M (ix2 y ⟨(j.val + 64) % 128, by omega⟩) :=
    fun M => dynamicRotate_apply 1 64#32 M _ _ _ (by
      intro b
      match b with
      | 0 => rfl
      | 1 => show (j.val + 64) % 128 = (j.val + 128 - 64 % 128) % 128; omega)
  unfold turned
  unfold k0_pay5 k0_pay3 k0_pay2
  dsimp only
  refine congrArg₂ (· + ·) (congrArg₂ (· * ·) ?_ ?_) (congrArg₂ (· * ·) ((hk _).trans ?_) ?_)
  · refine Eq.trans ?_ (congrArg₂ (· * ·) (hP j) (hG ⟨128 + j.val, by omega⟩))
    pointwise
  · exact Eq.trans (by pointwise) (hC j)
  · refine Eq.trans ?_ (congrArg₂ (· * ·) (hP ⟨(j.val + 64) % 128, by omega⟩) (hG ⟨128 + (j.val + 64) % 128, by omega⟩))
    pointwise
  · exact Eq.trans (by pointwise) (hS j)

/-- A head's stored columns, with the arguments they come from at the entries named. -/
theorem col_at (Y : FVec Ideal S1024x256 .f32) (G : FVec Ideal S1x256 .f32) (C S P : Vec Ideal S1024x128 .f32) (s : Fin 2) (y : Fin 1024)
    (f g : Fin 192 → EReal) (co si : Fin 32 → EReal)
    (hY : ∀ k : Fin 128, Y (ix2 y ⟨128 * s.val + k.val, by omega⟩) = f ⟨k.val, by omega⟩)
    (hP : ∀ j : Fin 128, P (ix2 y j) = AttnIdeal.Hand.pad f ⟨128 + j.val, by omega⟩) (hG : ∀ r, G (ix2 0 r) = AttnIdeal.Hand.pad g r)
    (hC : ∀ j, C (ix2 y j) = cosRow co j) (hS : ∀ j, S (ix2 y j) = sinRow si j) (r : Fin 256) :
    outCol Y G (k0_pay4 (F := Ideal) P) (k0_pay5 (F := Ideal) C S G P) s r y = rotated (normedKey f g) co si r := by
  have hp (k : Fin 128) : f ⟨k.val, by omega⟩ = AttnIdeal.Hand.pad f ⟨k.val, by omega⟩ := by
    unfold AttnIdeal.Hand.pad; rw [dif_pos (by dsimp only; omega)]
  have hQ : k0_pay4 (F := Ideal) P (ix2 y 0) = ∑ j : Fin 128, P (ix2 y j) * P (ix2 y j) := by
    pointwise [k0_pay4, k0_pay3]
  have hf : factor Y (k0_pay4 (F := Ideal) P) s y = rs f := by
    unfold factor rs
    rw [hQ, sum_parts f _ _ (fun k => (hY k).trans (hp k)) hP, by_192]
  unfold outCol
  by_cases h : r.val < 128
  · rw [dif_pos h, hf, hG, hY ⟨r.val, h⟩]
    unfold rotated normedKey
    rw [dif_pos h]
    unfold AttnIdeal.Hand.pad
    rw [dif_pos (by omega)]
  · rw [dif_neg h, hf, turned_at C S P G y f g co si hP hG hC hS, turned_mul f g co si r (by omega)]

/-! ## The reference -/

theorem ref_head (x0 : FVec Ideal S16384x11264 .f32) (x2 : FVec Ideal S2x512 .f32) (x3 : FVec Ideal S2x512x4096 .f32)
    (b : Fin 4) (t : Fin 4096) (h : Fin 16) (d : Fin 256) :
    val_main_v20 (F := Ideal) x0 x2 x3 (ix4 b t h d)
      = ∑ e, normed (fun e => x0 (ix2 ⟨b.val * 4096 + t.val, by omega⟩ ⟨6656 + e.val, by omega⟩)) (fun e => x2 (ix2 1 e)) e
          * x3 (ix3 1 e ⟨h.val * 256 + d.val, by omega⟩) := by
  have z0 : val_main_cst (F := Ideal) (Shape.Idx.first Cert.KeyValRefIdeal.Gen.h_S_) = 0 := Ideal.ofBits_zero_f32
  pointwise [val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2, val_main_v1, val_main_v0]
  rw [z0, zero_add]
  rfl

theorem ref_joined (x0 : FVec Ideal S16384x11264 .f32) (x1 : FVec Ideal S16384x64 .f32) (x2 : FVec Ideal S2x512 .f32) (x3 : FVec Ideal S2x512x4096 .f32)
    (b : Fin 4) (t : Fin 4096) (h : Fin 16) (d : Fin 192) :
    val_main_v25 (F := Ideal) x0 x1 x2 x3 (ix4 b t h d)
      = joined (fun k => val_main_v20 (F := Ideal) x0 x2 x3 (ix4 b t h ⟨k.val, by omega⟩))
          (fun i => x1 (ix2 ⟨b.val * 4096 + t.val, by omega⟩ i)) d := by
  unfold joined
  pointwise [val_main_v25, val_main_v24, val_main_v23, val_main_v21]

theorem ref_normed (x0 : FVec Ideal S16384x11264 .f32) (x1 : FVec Ideal S16384x64 .f32) (x2 : FVec Ideal S2x512 .f32) (x3 : FVec Ideal S2x512x4096 .f32)
    (x4 : FVec Ideal S2x192 .f32) (b : Fin 4) (t : Fin 4096) (h : Fin 16) (d : Fin 192) :
    val_main_v40 (F := Ideal) x0 x1 x2 x3 x4 (ix4 b t h d)
      = normedKey (fun d => val_main_v25 (F := Ideal) x0 x1 x2 x3 (ix4 b t h d)) (fun d => x4 (ix2 1 d)) d := by
  have z0 : val_main_cst_2 (F := Ideal) (Shape.Idx.first Cert.KeyValRefIdeal.Gen.h_S_) = 0 := Ideal.ofBits_zero_f32
  pointwise [val_main_v40, val_main_v39, val_main_v38, val_main_v37, val_main_v36, val_main_v35, val_main_v34, val_main_v33, val_main_v32,
    val_main_v31, val_main_v30, val_main_v29, val_main_v28, val_main_v27, val_main_v26]
  rw [z0, zero_add]
  rfl

/-- The stacking of the rotated pieces and the zeros is the head's rows. -/
theorem rotated_ladder (n : Fin 192 → EReal) (co si : Fin 32 → EReal) (r : Fin 256) :
    (if h : r.val < 128 then n ⟨r.val, by omega⟩
      else if h : r.val - 128 < 32 then n ⟨128 + (r.val - 128), by omega⟩ * co ⟨r.val - 128, by omega⟩ - n ⟨160 + (r.val - 128), by omega⟩ * si ⟨r.val - 128, by omega⟩
      else if h : r.val - 128 - 32 < 32 then 0
      else if h : r.val - 128 - 32 - 32 < 32 then n ⟨160 + (r.val - 128 - 32 - 32), by omega⟩ * co ⟨r.val - 128 - 32 - 32, by omega⟩
        + n ⟨128 + (r.val - 128 - 32 - 32), by omega⟩ * si ⟨r.val - 128 - 32 - 32, by omega⟩
      else 0) = rotated n co si r := by
  unfold rotated
  by_cases h1 : r.val < 128
  · rw [dif_pos h1, dif_pos h1]
  by_cases h2 : r.val < 160
  · rw [dif_neg h1, dif_neg h1, dif_pos (by omega), dif_pos h2]
    have e1 : ∀ p p', (⟨128 + (r.val - 128), p⟩ : Fin 192) = ⟨r.val, p'⟩ := fun _ _ => Fin.ext (by dsimp only; omega)
    have e2 : ∀ p p', (⟨160 + (r.val - 128), p⟩ : Fin 192) = ⟨r.val + 32, p'⟩ := fun _ _ => Fin.ext (by dsimp only; omega)
    rw [e1, e2]
  by_cases h3 : r.val < 192
  · rw [dif_neg h1, dif_neg h1, dif_neg (by omega), dif_pos (by omega), dif_neg h2, dif_pos h3]
  by_cases h4 : r.val < 224
  · rw [dif_neg h1, dif_neg h1, dif_neg (by omega), dif_neg (by omega), dif_pos (by omega), dif_neg h2, dif_neg h3, dif_pos h4]
    have e1 : ∀ p p', (⟨160 + (r.val - 128 - 32 - 32), p⟩ : Fin 192) = ⟨r.val - 32, p'⟩ := fun _ _ => Fin.ext (by dsimp only; omega)
    have e2 : ∀ p p', (⟨128 + (r.val - 128 - 32 - 32), p⟩ : Fin 192) = ⟨r.val - 64, p'⟩ := fun _ _ => Fin.ext (by dsimp only; omega)
    have e3 : ∀ p p', (⟨r.val - 128 - 32 - 32, p⟩ : Fin 32) = ⟨r.val - 192, p'⟩ := fun _ _ => Fin.ext (by dsimp only; omega)
    rw [e1, e2, e3]
  · rw [dif_neg h1, dif_neg h1, dif_neg (by omega), dif_neg (by omega), dif_neg (by omega), dif_neg h2, dif_neg h3, dif_neg h4]

theorem ref_key (x0 : FVec Ideal S16384x11264 .f32) (x1 : FVec Ideal S16384x64 .f32) (x2 : FVec Ideal S2x512 .f32) (x3 : FVec Ideal S2x512x4096 .f32)
    (x4 : FVec Ideal S2x192 .f32) (b : Fin 4) (t : Fin 4096) (h : Fin 16) (r : Fin 256) (T : Fin 16384) (R : Fin 4096)
    (hR : R.val = 256 * h.val + r.val) (hT : T.val = 4096 * b.val + t.val) :
    val_main_v86 (F := Ideal) x0 x1 x2 x3 x4 (ix2 T R)
      = rotated (fun d => val_main_v40 (F := Ideal) x0 x1 x2 x3 x4 (ix4 b t h d)) (fun j => val_main_v58 (F := Ideal) (ix2 ⟨16 + t.val, by omega⟩ j))
          (fun j => val_main_v59 (F := Ideal) (ix2 ⟨16 + t.val, by omega⟩ j)) r := by
  refine Eq.trans ?_ (rotated_ladder _ _ _ r)
  have e1 : ∀ p, (⟨T.val / 4096, p⟩ : Fin 4) = b := fun _ => Fin.ext (show T.val / 4096 = b.val by omega)
  have e2 : ∀ p, (⟨R.val / 256, p⟩ : Fin 16) = h := fun _ => Fin.ext (show R.val / 256 = h.val by omega)
  have e3 : T.val % 4096 = t.val := by omega
  have e4 : R.val % 256 = r.val := by omega
  have z0 : val_main_cst_10 (F := Ideal) ix0 = 0 := Ideal.ofBits_zero_f32
  pointwise [val_main_v86, val_main_v85, val_main_v82, val_main_v81, val_main_v80, val_main_v79, val_main_v78, val_main_v77, val_main_v76,
    val_main_v75, val_main_v74, val_main_v73, val_main_v72, val_main_v71, val_main_v70, val_main_v69, val_main_v68, val_main_v67, val_main_v66,
    val_main_v65, val_main_v64, val_main_v63, val_main_v62, val_main_v61, val_main_v60]
  simp only [e1, e2, e3, e4, z0]

/-- The word of one. -/
theorem one_f32 : Ideal.ofBits .f32 0x3F800000#32 = 1 := by
  simp [Ideal.ofBits, Ideal.ieee, -EReal.coe_mul]; norm_num

/-- The same in sixteen bits. -/
theorem one_bf16 : Ideal.ofBits .bf16 0x3F80#16 = 1 := by
  simp [Ideal.ofBits, Ideal.ieee, -EReal.coe_mul]; norm_num

theorem ref_value (x0 : FVec Ideal S16384x11264 .f32) (x2 : FVec Ideal S2x512 .f32) (x3 : FVec Ideal S2x512x4096 .f32)
    (b : Fin 4) (t : Fin 4096) (h : Fin 16) (v : Fin 144) (R : Fin 2304) (T : Fin 16384)
    (hR : R.val = 144 * h.val + v.val) (hT : T.val = 4096 * b.val + t.val) :
    val_main_v89 (F := Ideal) x0 x2 x3 (ix2 R T)
      = if hv : v.val < 128 then val_main_v20 (F := Ideal) x0 x2 x3 (ix4 b t h ⟨128 + v.val, by omega⟩) else 1 := by
  have e1 : ∀ p, (⟨T.val / 4096, p⟩ : Fin 4) = b := fun _ => Fin.ext (show T.val / 4096 = b.val by omega)
  have e2 : ∀ p, (⟨R.val / 144, p⟩ : Fin 16) = h := fun _ => Fin.ext (show R.val / 144 = h.val by omega)
  have e3 : T.val % 4096 = t.val := by omega
  have e4 : R.val % 144 = v.val := by omega
  have z0 : val_main_cst_11 (F := Ideal) ix0 = 1 := one_f32
  pointwise [val_main_v89, val_main_v88, val_main_v87, val_main_v84, val_main_v83, val_main_v22]
  simp only [e1, e2, e3, e4, z0]

end Cert.KeyValIdeal.Hand

end
-- ==== Proof.KeyValValue.lean ====
/- The arrays the key/value projection is given, and that both its results are the reference's. Hand-written. -/
module

public import proofs.«01_k».proof.Proof.KeyValRow
public import Idealize.ShloMosaic.Lib.Pipeline.ReadBack

@[expose] public section

set_option maxRecDepth 16384

noncomputable section

namespace Cert.KeyValIdeal.Hand

open Cert.KeyValIdeal Cert.KeyValIdeal.Gen Idealize.ShloMosaic Idealize.ShloMosaic.TcCoe Idealize.SL.Sem
open Idealize.ShloMosaic.Pipeline (Dat)
open Cert.KeyValRefIdeal.Read
open Cert.AttnIdeal.Hand (ladder)

/-! ## The arrays the call is given -/

variable (m : (ℓ : Loc nD τ sig) → Buf (Elt Ideal) ℓ)

abbrev a0 (c : Dev nD) : FVec Ideal S16384x11264 .f32 := m ((c : Thread nD τ).loc main_arg0)
abbrev a1 (c : Dev nD) : FVec Ideal S16384x64 .f32 := m ((c : Thread nD τ).loc main_arg1)
abbrev a2 (c : Dev nD) : FVec Ideal S2x512 .f32 := m ((c : Thread nD τ).loc main_arg2)
abbrev a3 (c : Dev nD) : FVec Ideal S2x512x4096 .f32 := m ((c : Thread nD τ).loc main_arg3)
abbrev a4 (c : Dev nD) : FVec Ideal S2x192 .f32 := m ((c : Thread nD τ).loc main_arg4)

/-- The head gain in the padded layout, as the host code builds it. -/
def padG (x : FVec Ideal S192 .f32) : FVec Ideal S256 .f32 :=
  concatenate S256 0 [⟨S128, extractStridedSlice S128 ![0] x slices_S192_S128_0⟩,
    ⟨S128, concatenate S128 0 [
      ⟨S32, extractStridedSlice S32 ![0] (extractStridedSlice S64 ![128] x slices_S192_S64_128) slices_S64_S32_0⟩,
      ⟨S32, broadcastInDim S32 ![] bcast_S_S32 (constant S_ .f32 0x00000000#32)⟩,
      ⟨S32, extractStridedSlice S32 ![32] (extractStridedSlice S64 ![128] x slices_S192_S64_128) slices_S64_S32_32⟩,
      ⟨S32, broadcastInDim S32 ![] bcast_S_S32 (constant S_ .f32 0x00000000#32)⟩] concatenates_S32_S32_S32_S32_S128_d0⟩]
    concatenates_S128_S128_S256_d0

/-- The shared key columns in the layout of the rotated part, as the host code builds them. -/
def padP (x : FVec Ideal S16384x64 .f32) : FVec Ideal S16384x256 .f32 :=
  concatenate S16384x256 1 [⟨S16384x128, broadcastInDim S16384x128 ![] bcast_S_S16384x128 (constant S_ .f32 0x00000000#32)⟩,
    ⟨S16384x128, concatenate S16384x128 1 [
      ⟨S16384x32, extractStridedSlice S16384x32 ![0, 0] x slices_S16384x64_S16384x32_0_0⟩,
      ⟨S16384x32, broadcastInDim S16384x32 ![] bcast_S_S16384x32 (constant S_ .f32 0x00000000#32)⟩,
      ⟨S16384x32, extractStridedSlice S16384x32 ![0, 32] x slices_S16384x64_S16384x32_0_32⟩,
      ⟨S16384x32, broadcastInDim S16384x32 ![] bcast_S_S16384x32 (constant S_ .f32 0x00000000#32)⟩] concatenates_S16384x32_S16384x32_S16384x32_S16384x32_S16384x128_d1⟩]
    concatenates_S16384x128_S16384x128_S16384x256_d1

/-- A table of the rotation in the layout of the rotated part: `x` under the first half, `y` under the second. -/
def padT (x y : FVec Ideal S4112x32 .f32) : FVec Ideal S4112x128 .f32 :=
  concatenate S4112x128 1 [⟨S4112x32, x⟩, ⟨S4112x32, broadcastInDim S4112x32 ![] bcast_S_S4112x32 (constant S_ .f32 0x00000000#32)⟩,
    ⟨S4112x32, y⟩, ⟨S4112x32, broadcastInDim S4112x32 ![] bcast_S_S4112x32 (constant S_ .f32 0x00000000#32)⟩]
    concatenates_S4112x32_S4112x32_S4112x32_S4112x32_S4112x128_d1

theorem padG_at (x : FVec Ideal S192 .f32) (d : Fin 256) : padG x (ix1 d) = AttnIdeal.Hand.pad (fun k => x (ix1 k)) d := by
  refine Eq.trans ?_ (ladder (fun k => x (ix1 k)) d)
  pointwise [padG]

theorem padP_at (x : FVec Ideal S16384x64 .f32) (T : Fin 16384) (a : Fin 128 → EReal) (j : Fin 128) :
    padP x (ix2 T ⟨128 + j.val, by omega⟩) = AttnIdeal.Hand.pad (joined a fun i => x (ix2 T i)) ⟨128 + j.val, by omega⟩ := by
  refine Eq.trans ?_ (ladder _ _)
  unfold joined
  pointwise [padP]

/-- The stacking of two pieces and the zeros is the table's row. -/
theorem table_ladder (u w : Fin 32 → EReal) (j : Fin 128) :
    (if h : j.val < 32 then u ⟨j.val, h⟩ else if h : j.val - 32 < 32 then 0
      else if h : j.val - 32 - 32 < 32 then w ⟨j.val - 32 - 32, h⟩ else 0)
      = if h : j.val < 32 then u ⟨j.val, h⟩ else if h : j.val < 64 then 0 else if h : j.val < 96 then w ⟨j.val - 64, by omega⟩ else 0 := by
  by_cases h1 : j.val < 32
  · rw [dif_pos h1, dif_pos h1]
  by_cases h2 : j.val < 64
  · rw [dif_neg h1, dif_neg h1, dif_pos (by omega), dif_pos h2]
  by_cases h3 : j.val < 96
  · rw [dif_neg h1, dif_neg h1, dif_neg (by omega), dif_pos (by omega), dif_neg h2, dif_pos h3]
    exact congrArg w (Fin.ext (by dsimp only; omega))
  · rw [dif_neg h1, dif_neg h1, dif_neg (by omega), dif_neg (by omega), dif_neg h2, dif_neg h3]

theorem padT_at (x y : FVec Ideal S4112x32 .f32) (t : Fin 4112) (j : Fin 128) :
    padT x y (ix2 t j) = if h : j.val < 32 then x (ix2 t ⟨j.val, h⟩) else if h : j.val < 64 then 0
      else if h : j.val < 96 then y (ix2 t ⟨j.val - 64, by omega⟩) else 0 := by
  refine Eq.trans ?_ (table_ladder (fun i => x (ix2 t i)) (fun i => y (ix2 t i)) j)
  pointwise [padT]

theorem key_weights (c : Dev nD) : V m c main_v38
    = (truncf .bf16 (shapeCast S512x2048 (extractStridedSlice S512x16x128 ![0, 0, 0] (shapeCast S512x16x256 (shapeCast S512x4096
        (extractStridedSlice S1x512x4096 ![1, 0, 0] (a3 m c) slices_S2x512x4096_S1x512x4096_1_0_0) shapeCasts_S1x512x4096_S512x4096)
        shapeCasts_S512x4096_S512x16x256) slices_S512x16x256_S512x16x128_0_0_0) shapeCasts_S512x16x128_S512x2048) bitsLt_bf16_f32 : FVec Ideal S512x2048 .bf16) := rfl

theorem value_weights (c : Dev nD) : V m c main_v43
    = (truncf .bf16 (shapeCast S2304x512 (pad S16x144x512 ![0, 0, 0] ![0, 16, 0] ![0, 0, 0] (transpose S16x128x512 [1, 2, 0]
        (extractStridedSlice S512x16x128 ![0, 0, 128] (shapeCast S512x16x256 (shapeCast S512x4096
        (extractStridedSlice S1x512x4096 ![1, 0, 0] (a3 m c) slices_S2x512x4096_S1x512x4096_1_0_0) shapeCasts_S1x512x4096_S512x4096)
        shapeCasts_S512x4096_S512x16x256) slices_S512x16x256_S512x16x128_0_0_128) transposes_S512x16x128_S16x128x512_1_2_0)
        (sitofp (F := Ideal) .f32 (constantI S_ 32 0#32)) pads_S16x128x512_S16x144x512_000_0160_000 h_S_)
        shapeCasts_S16x144x512_S2304x512) bitsLt_bf16_f32 : FVec Ideal S2304x512 .bf16) := rfl

theorem key_weight_at (c : Dev nD) (e : Fin 512) (h : Fin 16) (k : Fin 128) (R : Fin 2048) (hR : R.val = 128 * h.val + k.val) :
    (V m c main_v38 (ix2 e R) : EReal) = a3 m c (ix3 1 e ⟨h.val * 256 + k.val, by omega⟩) := by
  rw [key_weights]
  generalize a3 m c = x
  pointwise
  exact congrArg (fun i => x (ix3 1 e i)) (Fin.ext (by dsimp only; omega))

theorem value_weight_at (c : Dev nD) (e : Fin 512) (h : Fin 16) (k : Fin 128) (R : Fin 2304) (hR : R.val = 144 * h.val + k.val) :
    (V m c main_v43 (ix2 R e) : EReal) = a3 m c (ix3 1 e ⟨h.val * 256 + (128 + k.val), by omega⟩) := by
  rw [value_weights]
  have e2 : ∀ p, (⟨R.val / 144, p⟩ : Fin 16) = h := fun _ => Fin.ext (show R.val / 144 = h.val by omega)
  have e4 : ∀ p, (⟨R.val % 144, p⟩ : Fin 144) = ⟨k.val, by omega⟩ := fun _ => Fin.ext (show R.val % 144 = k.val by omega)
  generalize a3 m c = x
  refine Eq.trans (b := pad S16x144x512 ![0, 0, 0] ![0, 16, 0] ![0, 0, 0] (transpose S16x128x512 [1, 2, 0]
        (extractStridedSlice S512x16x128 ![0, 0, 128] (shapeCast S512x16x256 (shapeCast S512x4096
        (extractStridedSlice S1x512x4096 ![1, 0, 0] x slices_S2x512x4096_S1x512x4096_1_0_0) shapeCasts_S1x512x4096_S512x4096)
        shapeCasts_S512x4096_S512x16x256) slices_S512x16x256_S512x16x128_0_0_128) transposes_S512x16x128_S16x128x512_1_2_0)
        (sitofp (F := Ideal) .f32 (constantI S_ 32 0#32)) pads_S16x128x512_S16x144x512_000_0160_000 h_S_ (ix3 h (⟨k.val, by omega⟩ : Fin 144) e)) ?_ ?_
  · generalize pad (α := Ideal .f32) _ _ _ _ _ _ _ _ = P
    pointwise
    simp only [e2, e4]
  · refine (pad_apply_of_inside _ _ _ _ _ _ _ _ (ix3 h k e) ?_).trans ?_
    · intro a
      match a with
      | 0 => show h.val = 0 + h.val * (0 + 1); omega
      | 1 => show k.val = 0 + k.val * (0 + 1); omega
      | 2 => show e.val = 0 + e.val * (0 + 1); omega
    · pointwise

theorem gain_at (c : Dev nD) (r : Fin 256) : (V m c main_v53 (ix2 0 r) : EReal) = AttnIdeal.Hand.pad (fun d => a4 m c (ix2 1 d)) r := by
  show (shapeCast S1x256 (padG (shapeCast S192 (extractStridedSlice S1x192 ![1, 0] (a4 m c) slices_S2x192_S1x192_1_0) shapeCasts_S1x192_S192))
    shapeCasts_S256_S1x256 : FVec Ideal S1x256 .f32) (ix2 0 r) = _
  generalize a4 m c = x
  pointwise
  rw [padG_at]
  pointwise

theorem norm_gain_at (c : Dev nD) (e : Fin 512) : (V m c main_v56 (ix2 0 e) : EReal) = a2 m c (ix2 1 e) := by
  show (shapeCast S1x512 (shapeCast S512 (extractStridedSlice S1x512 ![1, 0] (a2 m c) slices_S2x512_S1x512_1_0) shapeCasts_S1x512_S512) shapeCasts_S512_S1x512 : FVec Ideal S1x512 .f32) (ix2 0 e) = _
  generalize a2 m c = x
  pointwise

/-- The table of cosines is the reference's in the padded layout, without the meta tokens' rows. -/
theorem cos_at (c : Dev nD) (t : Fin 4096) (j : Fin 128) :
    (V m c main_v25 (ix2 t j) : EReal) = cosRow (fun i => val_main_v58 (F := Ideal) (ix2 ⟨16 + t.val, by omega⟩ i)) j := by
  show (extractStridedSlice S4096x128 ![16, 0] (padT (val_main_v58 (F := Ideal)) (val_main_v58 (F := Ideal))) slices_S4112x128_S4096x128_16_0 : FVec Ideal S4096x128 .f32) (ix2 t j) = _
  generalize val_main_v58 (F := Ideal) = x
  refine Eq.trans (b := padT x x (ix2 ⟨16 + t.val, by omega⟩ j)) ?_ (padT_at x x _ j)
  generalize padT x x = y
  pointwise

/-- The table of sines, likewise, its first half negated. -/
theorem sin_at (c : Dev nD) (t : Fin 4096) (j : Fin 128) :
    (V m c main_v26 (ix2 t j) : EReal) = sinRow (fun i => val_main_v59 (F := Ideal) (ix2 ⟨16 + t.val, by omega⟩ i)) j := by
  show (extractStridedSlice S4096x128 ![16, 0] (padT (Host.negf (val_main_v59 (F := Ideal))) (val_main_v59 (F := Ideal))) slices_S4112x128_S4096x128_16_0 : FVec Ideal S4096x128 .f32) (ix2 t j) = _
  generalize val_main_v59 (F := Ideal) = x
  refine Eq.trans (b := padT (Host.negf x) x (ix2 ⟨16 + t.val, by omega⟩ j)) ?_ (padT_at _ x _ j)
  generalize padT (Host.negf x) x = y
  pointwise

theorem shared_at (c : Dev nD) (T : Fin 16384) (a : Fin 128 → EReal) (j : Fin 128) :
    (V m c main_v32 (ix2 T ⟨128 + j.val, by omega⟩) : EReal) = AttnIdeal.Hand.pad (joined a fun i => a1 m c (ix2 T i)) ⟨128 + j.val, by omega⟩ :=
  padP_at (a1 m c) T a j

/-! ## The blocks -/

/-- Where every window stands at a grid point: `t` counts blocks of 1024 tokens, four to a batch row. -/
theorem idx : ∀ t : Fin cfg0.N,
    win0_0.index t = ![t.val, 13] ∧ win0_1.index t = ![t.val, 1] ∧ win0_2.index t = ![0, 0] ∧ win0_3.index t = ![0, 0]
      ∧ win0_4.index t = ![0, 0] ∧ win0_5.index t = ![0, 0] ∧ win0_6.index t = ![t.val % 4, 0] ∧ win0_7.index t = ![t.val % 4, 0]
      ∧ win0_8.index t = ![t.val, 0] ∧ win0_9.index t = ![0, t.val] :=
  (by decide +kernel : ∀ t : Fin grid0.N, _)

theorem block0 (c : Dev nD) (t : Fin cfg0.N) (y : Fin 1024) (e : Fin 512) (T : Fin 16384) (hT : T.val = 1024 * t.val + y.val) :
    (iblk m c 0 t (ix2 y e) : EReal) = a0 m c (ix2 T ⟨6656 + e.val, by omega⟩) := by
  have ht : t.val < 16 := lt_of_lt_of_eq t.isLt N_0
  blk_ext! [iblk, V, idx t]

theorem block1 (c : Dev nD) (t : Fin cfg0.N) (y : Fin 1024) (a : Fin 128 → EReal) (j : Fin 128) (T : Fin 16384) (hT : T.val = 1024 * t.val + y.val) :
    (iblk m c 1 t (ix2 y j) : EReal) = AttnIdeal.Hand.pad (joined a fun i => a1 m c (ix2 T i)) ⟨128 + j.val, by omega⟩ := by
  have ht : t.val < 16 := lt_of_lt_of_eq t.isLt N_0
  have e : iblk m c 1 t (ix2 y j) = V m c main_v32 (ix2 T ⟨128 + j.val, by omega⟩) := by blk_ext [iblk, idx t]
  rw [e, shared_at]

theorem block2 (c : Dev nD) (t : Fin cfg0.N) (e : Fin 512) : (iblk m c 2 t (ix2 0 e) : EReal) = a2 m c (ix2 1 e) := by
  have ht : t.val < 16 := lt_of_lt_of_eq t.isLt N_0
  have e : iblk m c 2 t (ix2 0 e) = V m c main_v56 (ix2 0 e) := by blk_ext [iblk, idx t]
  rw [e, norm_gain_at]

theorem block3 (c : Dev nD) (t : Fin cfg0.N) (n : Fin 8) (s : Fin 2) (h : Fin 16) (hh : h.val = 2 * n.val + s.val) (k : Fin 128) (e : Fin 512) :
    (View.ld (iblk m c 3 t) (Rect.unit (s := S512x2048) ![0, 256 * n.val] S512x256.size (inbK n)) (ix2 e (⟨128 * s.val + k.val, by omega⟩ : Fin 256)) : EReal)
      = a3 m c (ix3 1 e ⟨h.val * 256 + k.val, by omega⟩) := by
  have ht : t.val < 16 := lt_of_lt_of_eq t.isLt N_0
  have e1 : iblk m c 3 t (ix2 e ⟨256 * n.val + (128 * s.val + k.val), by omega⟩) = V m c main_v38 (ix2 e ⟨256 * n.val + (128 * s.val + k.val), by omega⟩) := by
    blk_ext [iblk, idx t]
  refine (View.ld_unit_apply_of _ _ _ _ _ (ix2 e (⟨256 * n.val + (128 * s.val + k.val), by omega⟩ : Fin 2048)) ?_).trans
    (e1.trans (key_weight_at m c e h k _ (by dsimp only; omega)))
  intro a
  match a with
  | 0 => exact (Nat.zero_add _).symm
  | 1 => rfl

theorem block4 (c : Dev nD) (t : Fin cfg0.N) (n : Fin 4) (r : Fin 576) (h : Fin 16) (k : Fin 128) (hh : 576 * n.val + r.val = 144 * h.val + k.val) (e : Fin 512) :
    (View.ld (iblk m c 4 t) (Rect.unit (s := S2304x512) ![576 * n.val, 0] S576x512.size (inbW n)) (ix2 r e) : EReal)
      = a3 m c (ix3 1 e ⟨h.val * 256 + (128 + k.val), by omega⟩) := by
  have ht : t.val < 16 := lt_of_lt_of_eq t.isLt N_0
  have e1 : iblk m c 4 t (ix2 ⟨576 * n.val + r.val, by omega⟩ e) = V m c main_v43 (ix2 ⟨576 * n.val + r.val, by omega⟩ e) := by
    blk_ext [iblk, idx t]
  refine (View.ld_unit_apply_of _ _ _ _ _ (ix2 (⟨576 * n.val + r.val, by omega⟩ : Fin 2304) e) ?_).trans
    (e1.trans (value_weight_at m c e h k _ hh))
  intro a
  match a with
  | 0 => rfl
  | 1 => exact (Nat.zero_add _).symm

theorem block5 (c : Dev nD) (t : Fin cfg0.N) (r : Fin 256) : (iblk m c 5 t (ix2 0 r) : EReal) = AttnIdeal.Hand.pad (fun d => a4 m c (ix2 1 d)) r := by
  have ht : t.val < 16 := lt_of_lt_of_eq t.isLt N_0
  have e : iblk m c 5 t (ix2 0 r) = V m c main_v53 (ix2 0 r) := by blk_ext [iblk, idx t]
  rw [e, gain_at]

theorem block6 (c : Dev nD) (t : Fin cfg0.N) (j : Fin 128) (y : Fin 1024) (q : Fin 4096) (hq : q.val = 1024 * (t.val % 4) + y.val) :
    (iblk m c 6 t (ix2 y j) : EReal) = cosRow (fun i => val_main_v58 (F := Ideal) (ix2 ⟨16 + q.val, by omega⟩ i)) j := by
  have ht : t.val < 16 := lt_of_lt_of_eq t.isLt N_0
  have e : iblk m c 6 t (ix2 y j) = V m c main_v25 (ix2 q j) := by blk_ext [iblk, idx t]
  rw [e, cos_at]

theorem block7 (c : Dev nD) (t : Fin cfg0.N) (j : Fin 128) (y : Fin 1024) (q : Fin 4096) (hq : q.val = 1024 * (t.val % 4) + y.val) :
    (iblk m c 7 t (ix2 y j) : EReal) = sinRow (fun i => val_main_v59 (F := Ideal) (ix2 ⟨16 + q.val, by omega⟩ i)) j := by
  have ht : t.val < 16 := lt_of_lt_of_eq t.isLt N_0
  have e : iblk m c 7 t (ix2 y j) = V m c main_v26 (ix2 q j) := by blk_ext [iblk, idx t]
  rw [e, sin_at]

/-! ## The results -/

/-- A token's normed columns. -/
theorem normed_at (z : Vec Ideal S1024x512 .f32) (g : Vec Ideal S1x512 .f32) (y : Fin 1024) (zr gr : Fin 512 → EReal)
    (h0 : ∀ e, z (ix2 y e) = zr e) (h1 : ∀ e, g (ix2 0 e) = gr e) (e : Fin 512) : k0_pay1 (F := Ideal) z g (ix2 y e) = normed zr gr e := by
  unfold normed
  simp only [← h0, ← h1]
  pointwise [k0_pay1]

/-- Two heads' products. -/
theorem heads_at (z : Vec Ideal S1024x512 .f32) (g : Vec Ideal S1x512 .f32) (W : Vec Ideal S512x256 .bf16) (y : Fin 1024) (k : Fin 256) :
    k0_pay6 (F := Ideal) z g W (ix2 y k) = ∑ e : Fin 512, k0_pay1 (F := Ideal) z g (ix2 y e) * (W (ix2 e k) : EReal) := by
  unfold k0_pay6
  generalize k0_pay1 (F := Ideal) z g = X
  pointwise

/-- The keys a grid point leaves are the reference's at the array index under the block index. -/
theorem point_keys (c : Dev nD) (t : Fin cfg0.N) (y : S1024x4096.Idx) :
    (outsAt0 m c t).1 y = val_main_v86 (F := Ideal) (a0 m c) (a1 m c) (a2 m c) (a3 m c) (a4 m c) (((cfg0.win 8).blk t).view.emb y) := by
  have ht : t.val < 16 := lt_of_lt_of_eq t.isLt N_0
  have hy0 : (y 0).val < 1024 := (y 0).isLt
  have hy1 : (y 1).val < 4096 := (y 1).isLt
  obtain ⟨h, hh⟩ : ∃ h : Fin 16, h.val = (y 1).val / 256 := ⟨⟨(y 1).val / 256, by omega⟩, rfl⟩
  obtain ⟨n, hn⟩ : ∃ n : Fin 8, n.val = (y 1).val / 512 := ⟨⟨(y 1).val / 512, by omega⟩, rfl⟩
  obtain ⟨s, hs⟩ : ∃ s : Fin 2, s.val = (y 1).val / 256 % 2 := ⟨⟨(y 1).val / 256 % 2, by omega⟩, rfl⟩
  obtain ⟨r, hr⟩ : ∃ r : Fin 256, r.val = (y 1).val % 256 := ⟨⟨(y 1).val % 256, by omega⟩, rfl⟩
  obtain ⟨b, hb⟩ : ∃ b : Fin 4, b.val = t.val / 4 := ⟨⟨t.val / 4, by omega⟩, rfl⟩
  obtain ⟨q, hq⟩ : ∃ q : Fin 4096, q.val = 1024 * (t.val % 4) + (y 0).val := ⟨⟨1024 * (t.val % 4) + (y 0).val, by omega⟩, rfl⟩
  have hY : ((cfg0.win 8).blk t).view.emb y = ix2 (⟨1024 * t.val + (y 0).val, by omega⟩ : Fin 16384) (⟨(y 1).val, hy1⟩ : Fin 4096) := by
    blk_ext! [idx t]
  have hT : b.val * 4096 + q.val = 1024 * t.val + (y 0).val := by omega
  rw [hY, left_keys, keys_eq _ _ _ _ y n s r (y 0) (by omega) rfl, ref_key _ _ _ _ _ b q h r _ _ (by dsimp only; omega) (by dsimp only; omega)]
  have hkey : ∀ d, val_main_v40 (F := Ideal) (a0 m c) (a1 m c) (a2 m c) (a3 m c) (a4 m c) (ix4 b q h d)
      = normedKey (joined (fun k => ∑ e, normed (fun e => a0 m c (ix2 ⟨b.val * 4096 + q.val, by omega⟩ ⟨6656 + e.val, by omega⟩)) (fun e => a2 m c (ix2 1 e)) e
          * a3 m c (ix3 1 e ⟨h.val * 256 + k.val, by omega⟩)) (fun i => a1 m c (ix2 ⟨b.val * 4096 + q.val, by omega⟩ i)))
        (fun d => a4 m c (ix2 1 d)) d := by
    intro d
    rw [ref_normed]
    congr 1
    funext d
    rw [ref_joined]
    congr 1
    funext k
    rw [ref_head]
  simp only [hkey]
  refine col_at _ _ _ _ _ s (y 0) _ _ _ _ (fun k => ?_) (fun j => block1 m c t (y 0) _ j _ hT) (block5 m c t) (fun j => block6 m c t j (y 0) q hq)
    (fun j => block7 m c t j (y 0) q hq) r
  refine (heads_at _ _ _ (y 0) _).trans ?_
  unfold joined
  rw [dif_pos k.isLt]
  refine Finset.sum_congr rfl fun e _ => congrArg₂ (· * ·) ?_ (block3 m c t n s h (by omega) k e)
  exact normed_at _ _ _ _ _ (fun e => block0 m c t (y 0) e _ hT) (block2 m c t) e

/-- The values a grid point leaves are the reference's at the array index under the block index. -/
theorem point_values (c : Dev nD) (t : Fin cfg0.N) (y : S2304x1024.Idx) :
    (outsAt0 m c t).2 y = val_main_v89 (F := Ideal) (a0 m c) (a2 m c) (a3 m c) (((cfg0.win 9).blk t).view.emb y) := by
  have ht : t.val < 16 := lt_of_lt_of_eq t.isLt N_0
  have hy0 : (y 0).val < 2304 := (y 0).isLt
  have hy1 : (y 1).val < 1024 := (y 1).isLt
  obtain ⟨h, hh⟩ : ∃ h : Fin 16, h.val = (y 0).val / 144 := ⟨⟨(y 0).val / 144, by omega⟩, rfl⟩
  obtain ⟨v, hv⟩ : ∃ v : Fin 144, v.val = (y 0).val % 144 := ⟨⟨(y 0).val % 144, by omega⟩, rfl⟩
  obtain ⟨b, hb⟩ : ∃ b : Fin 4, b.val = t.val / 4 := ⟨⟨t.val / 4, by omega⟩, rfl⟩
  obtain ⟨q, hq⟩ : ∃ q : Fin 4096, q.val = 1024 * (t.val % 4) + (y 1).val := ⟨⟨1024 * (t.val % 4) + (y 1).val, by omega⟩, rfl⟩
  have hY : ((cfg0.win 9).blk t).view.emb y = ix2 (⟨(y 0).val, hy0⟩ : Fin 2304) (⟨1024 * t.val + (y 1).val, by omega⟩ : Fin 16384) := by
    blk_ext! [idx t]
  have hT : b.val * 4096 + q.val = 1024 * t.val + (y 1).val := by omega
  rw [hY, left_values, ref_value _ _ _ b q h v _ _ (by dsimp only; omega) (by dsimp only; omega)]
  by_cases hc : v.val < 128
  · rw [if_pos (by omega), dif_pos hc, ref_head]
    unfold product
    refine Finset.sum_congr rfl fun e _ => ?_
    rw [mul_comm]
    refine congrArg₂ (· * ·) ?_ (block4 m c t _ _ h ⟨v.val, hc⟩ (by dsimp only; omega) e)
    exact normed_at _ _ _ _ _ (fun e => block0 m c t (y 1) e _ hT) (block2 m c t) e
  · rw [if_neg (by omega), dif_neg hc, one_bf16]

/-- The call's keys are the reference's. -/
theorem final_keys (c : Dev nD) : (dats m 0 c).arrAt 8 cfg0.N
    = val_main_v86 (F := Ideal) (a0 m c) (a1 m c) (a2 m c) (a3 m c) (a4 m c) := by
  refine (dats m 0 c).arrAt_eq_of_covers 8 _ (by decide +kernel) fun t _ y => ?_
  blk_simp
  rw [after0_8]
  exact point_keys m c t y

/-- The call's values are the reference's. -/
theorem final_values (c : Dev nD) : (dats m 0 c).arrAt 9 cfg0.N = val_main_v89 (F := Ideal) (a0 m c) (a2 m c) (a3 m c) := by
  refine (dats m 0 c).arrAt_eq_of_covers 9 _ (by decide +kernel) fun t _ y => ?_
  blk_simp
  rw [after0_9]
  exact point_values m c t y

end Cert.KeyValIdeal.Hand

end
-- ==== Proof.KeyValClaim.lean ====
/- The claims about the key/value projection: the frames of the kernel at both instances and of the reference, the named
   constant, and that both results are the reference's. Hand-written. -/
module

public import proofs.«01_k».proof.Defs
public import proofs.«01_k».proof.Proof.Gen.KeyVal
public import proofs.«01_k».proof.Proof.KeyValValue
public import proofs.«01_k».proof.Proof.Gen.KeyValIdeal.Value
public import proofs.«01_k».proof.Proof.Gen.KeyValRefIdeal.Run
public import Idealize.ShloMosaic.Lib.Claim
public import Idealize.ShloMosaic.Lib.Tactic

@[expose] public section

set_option maxRecDepth 16384

noncomputable section

namespace Cert.Proof

open Idealize.ShloMosaic Idealize.SL.Sem

/-- The key/value projection over the reals ends with its arguments unchanged and every counter at zero. -/
theorem frame_keyvalIdeal : Cert.quiescent_KeyValIdeal := fun m g _ => Cert.KeyValIdeal.Gen.frame m g

/-- On machine words a named constant is the word it names. -/
local instance namedWordsKeyVal : Named Bits where
  named _ _ b := FloatOps.ofBits b

set_option maxHeartbeats 4000000 in
/-- The body tables of the two printings are the same. -/
theorem rows_keyval : Cert.KeyValIdeal.defs₀ (F := Bits) = Cert.KeyVal.defs₀ (F := Bits) := by
  unfold Cert.KeyValIdeal.defs₀ Cert.KeyVal.defs₀
  congr 1
  funext a b
  match a, b with
  | 0, (_, _) => sl_kernel_rfl

/-- So are the tables with the call's region and pipeline. -/
theorem table_keyval : Cert.KeyValIdeal.defs (F := Bits) = Cert.KeyVal.defs (F := Bits) :=
  congrArg (Pipeline.defs Cert.KeyValIdeal.pcfgs) rows_keyval

/-- So are the two main functions. -/
theorem main_keyval : Cert.KeyValIdeal.main (F := Bits) = Cert.KeyVal.main (F := Bits) := by
  sl_kernel_rfl

/-- The key/value projection on machine words ends with its arguments unchanged and every counter at zero: it is the same
    text, and the run is over any float values. -/
theorem frame_keyval : Cert.quiescent_KeyVal := fun m g _ => by
  have h := Cert.KeyValIdeal.Gen.frame (F := Bits) m g
  rw [table_keyval, main_keyval] at h
  exact h

/-- The reference ends with its arguments unchanged and every counter at zero. -/
theorem frame_keyvalRef : Cert.quiescent_KeyValRefIdeal := by
  intro m g _
  exact (θ_run Cert.KeyValRefIdeal.defs _ _).mono
    (fun r h => ⟨fun c => (h c).2.2, sem_eq_zero_of_no_sems (by decide) r.2⟩)
    (Cert.KeyValRefIdeal.Value.run (F := Ideal) m g)

/-- The factor's word is 1/192, rounded. -/
theorem preserves_keyval : Cert.preserves_KeyVal_KeyValIdeal :=
  IdealRules.named_const.statement Cert.KeyValIdeal.κ "inv_192" .f32 0x3BAAAAAB#32 ((192⁻¹ : ℝ) : EReal) rfl

/-- Both results of the key/value projection equal the reference's over the reals. -/
theorem algebraic_keyval : Cert.algebraic_KeyValIdeal_KeyValRefIdeal := by
  pair_intro
  · run_from Cert.KeyValIdeal.Value.run_blocks m g
  · run_from Cert.KeyValRefIdeal.Value.run m' g'
    · rw [Cert.KeyValRefIdeal.Read.val_main_v86_eq]
      simp only [hagree c]
      exact (Cert.KeyValIdeal.Hand.final_keys m c).symm
    · rw [Cert.KeyValRefIdeal.Read.val_main_v89_eq]
      simp only [hagree c]
      exact (Cert.KeyValIdeal.Hand.final_values m c).symm

end Cert.Proof

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.MergeIdeal.Value
public import proofs.«01_k».proof.Proof.Gen.InRefIdeal.Run
public import proofs.«01_k».proof.Proof.Gen.InRefIdeal.Read
public import proofs.«01_k».proof.Proof.InProjClaim
public import proofs.«01_k».proof.Proof.MergeClaim
public import proofs.«01_k».proof.Proof.Gen.GateUp
public import proofs.«01_k».proof.Proof.Gen.Down
public import proofs.«01_k».proof.Proof.GateUpClaim
public import proofs.«01_k».proof.Proof.DownClaim
public import proofs.«01_k».proof.Proof.Gen.GateUpIdeal.Value
public import proofs.«01_k».proof.Proof.Gen.DownIdeal.Value
public import proofs.«01_k».proof.Proof.Gen.GateUpRefIdeal.Run
public import proofs.«01_k».proof.Proof.Gen.GateUpRefIdeal.Read
public import proofs.«01_k».proof.Proof.Gen.DownRefIdeal.Run
public import proofs.«01_k».proof.Proof.Gen.DownRefIdeal.Read
public import proofs.«01_k».proof.Proof.Gen.Attn
public import proofs.«01_k».proof.Proof.Gen.AttnIdeal.Loops
public import proofs.«01_k».proof.Proof.Gen.AttnIdeal.Frame
public import proofs.«01_k».proof.Proof.Gen.AttnRefIdeal.Run
public import proofs.«01_k».proof.Proof.Gen.AttnRefIdeal.Read
public import proofs.«01_k».proof.Proof.AttnClaim
public import proofs.«01_k».proof.Proof.Gen.Query
public import proofs.«01_k».proof.Proof.Gen.QueryIdeal
public import proofs.«01_k».proof.Proof.Gen.QueryIdeal.Frame
public import proofs.«01_k».proof.Proof.Gen.QueryRefIdeal.Run
public import proofs.«01_k».proof.Proof.Gen.QueryRefIdeal.Read
public import proofs.«01_k».proof.Proof.QueryClaim
public import proofs.«01_k».proof.Proof.Gen.KeyVal
public import proofs.«01_k».proof.Proof.Gen.KeyValIdeal
public import proofs.«01_k».proof.Proof.Gen.KeyValIdeal.Frame
public import proofs.«01_k».proof.Proof.Gen.KeyValIdeal.Value
public import proofs.«01_k».proof.Proof.Gen.KeyValRefIdeal.Run
public import proofs.«01_k».proof.Proof.Gen.KeyValRefIdeal.Read
public import proofs.«01_k».proof.Proof.KeyValClaim
public import Idealize.ShloMosaic.Adequacy
public import Idealize.ShloMosaic.Init

@[expose] public section

noncomputable section

namespace Cert.Proof

open Idealize.ShloMosaic Idealize.SL.Sem Cert.InProj

/-- Everything claimed. -/
theorem claim : Cert.Claim := ⟨Cert.InProj.Gen.facts, Cert.InProjIdeal.Gen.facts, Cert.InRefIdeal.Gen.facts, Cert.Merge.Gen.facts, Cert.MergeIdeal.Gen.facts, Cert.MergeRefIdeal.Gen.facts, Cert.GateUp.Gen.facts, Cert.GateUpIdeal.Gen.facts, Cert.GateUpRefIdeal.Gen.facts, Cert.Down.Gen.facts, Cert.DownIdeal.Gen.facts, Cert.DownRefIdeal.Gen.facts,
  Cert.Attn.Gen.facts, Cert.AttnIdeal.Gen.facts, Cert.AttnRefIdeal.Gen.facts, Cert.Query.Gen.facts, Cert.QueryIdeal.Gen.facts, Cert.QueryRefIdeal.Gen.facts,
  Cert.KeyVal.Gen.facts, Cert.KeyValIdeal.Gen.facts, Cert.KeyValRefIdeal.Gen.facts, finite_facts,
  frame_in, frame_inIdeal, frame_inRef,
  fun m ρ _ => Cert.Merge.Gen.frame m ρ, fun m ρ _ => Cert.MergeIdeal.Gen.frame m ρ, frame_mergeRef,
  frame_gateUp, frame_gateUpIdeal, frame_gateUpRef, frame_down, frame_downIdeal, frame_downRef,
  frame_attn, frame_attnIdeal, frame_attnIdeal_pre, frame_attnRef, frame_attnRef_pre, frame_query, frame_queryIdeal, frame_queryRef,
  frame_keyval, frame_keyvalIdeal, frame_keyvalRef,
  trivial, algebraic_in, trivial, algebraic_merge, trivial, algebraic_gateUp, trivial, algebraic_down,
  preserves_attn, algebraic_attn, preserves_query, algebraic_query, preserves_keyval, algebraic_keyval⟩

end Cert.Proof

end
